-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16384x2048 : Shape := ⟨3, ![2, 16384, 2048]⟩
abbrev S2x16384x1024 : Shape := ⟨3, ![2, 16384, 1024]⟩
abbrev S2x16384x16 : Shape := ⟨3, ![2, 16384, 16]⟩
abbrev S2x2048x192 : Shape := ⟨3, ![2, 2048, 192]⟩
abbrev S2x192x2048 : Shape := ⟨3, ![2, 192, 2048]⟩
abbrev S2x192x1024 : Shape := ⟨3, ![2, 192, 1024]⟩
abbrev S2x16x16384 : Shape := ⟨3, ![2, 16, 16384]⟩
abbrev S2x192x16384 : Shape := ⟨3, ![2, 192, 16384]⟩
abbrev S1x512x2048 : Shape := ⟨3, ![1, 512, 2048]⟩
abbrev S1x512x1024 : Shape := ⟨3, ![1, 512, 1024]⟩
abbrev S1x16x512 : Shape := ⟨3, ![1, 16, 512]⟩
abbrev S1x192x2048 : Shape := ⟨3, ![1, 192, 2048]⟩
abbrev S1x192x512 : Shape := ⟨3, ![1, 192, 512]⟩
abbrev S512x128 : Shape := ⟨2, ![512, 128]⟩
abbrev S16x512 : Shape := ⟨2, ![16, 512]⟩
abbrev S112x512 : Shape := ⟨2, ![112, 512]⟩
abbrev S128x512 : Shape := ⟨2, ![128, 512]⟩
abbrev S32x128 : Shape := ⟨2, ![32, 128]⟩
abbrev S1x32x128 : Shape := ⟨3, ![1, 32, 128]⟩
abbrev S8x128 : Shape := ⟨2, ![8, 128]⟩
abbrev S32x128x1 : Shape := ⟨3, ![32, 128, 1]⟩
abbrev S512x2048 : Shape := ⟨2, ![512, 2048]⟩
abbrev S192x2048 : Shape := ⟨2, ![192, 2048]⟩
abbrev S192x1024 : Shape := ⟨2, ![192, 1024]⟩
abbrev S512x1024 : Shape := ⟨2, ![512, 1024]⟩
abbrev S192x512 : Shape := ⟨2, ![192, 512]⟩
abbrev S2x192x1024x1 : Shape := ⟨4, ![2, 192, 1024, 1]⟩
abbrev S2x192x1024x2 : Shape := ⟨4, ![2, 192, 1024, 2]⟩
abbrev S2x16384x192 : Shape := ⟨3, ![2, 16384, 192]⟩

abbrev nBuf : Space → Nat
  | .hbm => 28
  | .vmem => 32
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x1024, .i8⟩
  | .hbm, ⟨2, _⟩ => ⟨S2x16384x16, .f32⟩
  | .hbm, ⟨3, _⟩ => ⟨S2x16384x16, .i8⟩
  | .hbm, ⟨4, _⟩ => ⟨S2x2048x192, .bf16⟩
  | .hbm, ⟨5, _⟩ => ⟨S2x192x2048, .bf16⟩
  | .hbm, ⟨6, _⟩ => ⟨S2x192x1024, .bf16⟩
  | .hbm, ⟨7, _⟩ => ⟨S2x192x1024, .bf16⟩
  | .hbm, ⟨8, _⟩ => ⟨S2x192x2048, .bf16⟩
  | .hbm, ⟨9, _⟩ => ⟨S2x16x16384, .f32⟩
  | .hbm, ⟨10, _⟩ => ⟨S2x16x16384, .i8⟩
  | .hbm, ⟨11, _⟩ => ⟨S2x16384x2048, .bf16⟩
  | .hbm, ⟨12, _⟩ => ⟨S2x192x16384, .f32⟩
  | .hbm, ⟨13, _⟩ => ⟨S2x192x2048, .f32⟩
  | .hbm, ⟨14, _⟩ => ⟨S2x192x2048, .bf16⟩
  | .hbm, ⟨15, _⟩ => ⟨S2x192x2048, .f32⟩
  | .hbm, ⟨16, _⟩ => ⟨S2x192x2048, .bf16⟩
  | .hbm, ⟨17, _⟩ => ⟨S2x192x16384, .f32⟩
  | .hbm, ⟨18, _⟩ => ⟨S2x192x2048, .f32⟩
  | .hbm, ⟨19, _⟩ => ⟨S2x192x1024, .f32⟩
  | .hbm, ⟨20, _⟩ => ⟨S2x192x1024, .f32⟩
  | .hbm, ⟨21, _⟩ => ⟨S2x192x1024x1, .f32⟩
  | .hbm, ⟨22, _⟩ => ⟨S2x192x1024x1, .f32⟩
  | .hbm, ⟨23, _⟩ => ⟨S2x192x1024x2, .f32⟩
  | .hbm, ⟨24, _⟩ => ⟨S2x192x2048, .f32⟩
  | .hbm, ⟨25, _⟩ => ⟨S2x16384x192, .f32⟩
  | .hbm, ⟨26, _⟩ => ⟨S2x2048x192, .f32⟩
  | .hbm, ⟨27, _⟩ => ⟨S2x16384x192, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x1024, .i8⟩
  | .local _ .vmem, ⟨3, _⟩ => ⟨S1x512x1024, .i8⟩
  | .local _ .vmem, ⟨4, _⟩ => ⟨S1x16x512, .f32⟩
  | .local _ .vmem, ⟨5, _⟩ => ⟨S1x16x512, .f32⟩
  | .local _ .vmem, ⟨6, _⟩ => ⟨S1x16x512, .i8⟩
  | .local _ .vmem, ⟨7, _⟩ => ⟨S1x16x512, .i8⟩
  | .local _ .vmem, ⟨8, _⟩ => ⟨S1x192x2048, .bf16⟩
  | .local _ .vmem, ⟨9, _⟩ => ⟨S1x192x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x192x512, .f32⟩
  | .local _ .vmem, ⟨13, _⟩ => ⟨S1x192x512, .f32⟩
  | .local _ .vmem, ⟨14, _⟩ => ⟨S1x192x2048, .f32⟩
  | .local _ .vmem, ⟨15, _⟩ => ⟨S1x192x2048, .f32⟩
  | .local _ .vmem, ⟨16, _⟩ => ⟨S512x128, .f32⟩
  | .local _ .vmem, ⟨17, _⟩ => ⟨S512x128, .bf16⟩
  | .local _ .vmem, ⟨18, _⟩ => ⟨S1x512x2048, .bf16⟩
  | .local _ .vmem, ⟨19, _⟩ => ⟨S1x512x2048, .bf16⟩
  | .local _ .vmem, ⟨20, _⟩ => ⟨S1x192x2048, .bf16⟩
  | .local _ .vmem, ⟨21, _⟩ => ⟨S1x192x2048, .bf16⟩
  | .local _ .vmem, ⟨22, _⟩ => ⟨S1x192x2048, .f32⟩
  | .local _ .vmem, ⟨23, _⟩ => ⟨S1x192x2048, .f32⟩
  | .local _ .vmem, ⟨24, _⟩ => ⟨S1x512x2048, .bf16⟩
  | .local _ .vmem, ⟨25, _⟩ => ⟨S1x512x2048, .bf16⟩
  | .local _ .vmem, ⟨26, _⟩ => ⟨S1x192x2048, .bf16⟩
  | .local _ .vmem, ⟨27, _⟩ => ⟨S1x192x2048, .bf16⟩
  | .local _ .vmem, ⟨28, _⟩ => ⟨S1x192x512, .f32⟩
  | .local _ .vmem, ⟨29, _⟩ => ⟨S1x192x512, .f32⟩
  | .local _ .vmem, ⟨30, _⟩ => ⟨S1x192x2048, .f32⟩
  | .local _ .vmem, ⟨31, _⟩ => ⟨S1x192x2048, .f32⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_38 : BitVec 32 := 0#32
  let c16_i32 : BitVec 32 := 16#32
  let v114 : BitVec 32 := Scalar.addi c0_i32_38 c16_i32
  let c1_i32_39 : BitVec 32 := 1#32
  ⟨c0_i32_38, v114, c1_i32_39⟩
def k0_mult1 (k0_t1 : Fin k0_t1_loop.trips) : BitVec 32 :=
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  v137
def k0_off1 (k0_t1 : Fin k0_t1_loop.trips) : Fin 2 → Nat :=
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v139 : Index := Scalar.indexCast v138
  let c0_57 : Index := 0#32
  ![v139.toNat, 0]
def k0_off2 (k0_t1 : Fin k0_t1_loop.trips) : Fin 3 → Nat :=
  let c0_59 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v144 : Index := Scalar.indexCast v138
  let c0_60 : Index := 0#32
  ![0, v144.toNat, 0]
def k0_off3 (k0_t1 : Fin k0_t1_loop.trips) : Fin 3 → Nat :=
  let c0_61 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v148 : Index := Scalar.indexCast v138
  let c0_62 : Index := 0#32
  ![0, v148.toNat, 0]
def k0_off4 (k0_t1 : Fin k0_t1_loop.trips) : Fin 3 → Nat :=
  let c0_63 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v152 : Index := Scalar.indexCast v138
  let c128 : Index := 128#32
  ![0, v152.toNat, 128]
def k0_off5 (k0_t1 : Fin k0_t1_loop.trips) : Fin 3 → Nat :=
  let c0_78 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v220 : Index := Scalar.indexCast v138
  let c1024 : Index := 1024#32
  ![0, v220.toNat, 1024]
def k0_off6 (k0_t1 : Fin k0_t1_loop.trips) : Fin 3 → Nat :=
  let c0_79 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v224 : Index := Scalar.indexCast v138
  let c128_80 : Index := 128#32
  ![0, v224.toNat, 128]
def k0_off7 (k0_t1 : Fin k0_t1_loop.trips) : Fin 3 → Nat :=
  let c0_81 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v228 : Index := Scalar.indexCast v138
  let c256 : Index := 256#32
  ![0, v228.toNat, 256]
def k0_off8 (k0_t1 : Fin k0_t1_loop.trips) : Fin 3 → Nat :=
  let c0_82 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v232 : Index := Scalar.indexCast v138
  let c384 : Index := 384#32
  ![0, v232.toNat, 384]
def k0_off9 (k0_t1 : Fin k0_t1_loop.trips) : Fin 3 → Nat :=
  let c0_99 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v300 : Index := Scalar.indexCast v138
  let c1152 : Index := 1152#32
  ![0, v300.toNat, 1152]
def k0_off10 (k0_t1 : Fin k0_t1_loop.trips) : Fin 3 → Nat :=
  let c0_100 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v304 : Index := Scalar.indexCast v138
  let c256_101 : Index := 256#32
  ![0, v304.toNat, 256]
def k0_off11 (k0_t1 : Fin k0_t1_loop.trips) : Fin 3 → Nat :=
  let c0_102 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v308 : Index := Scalar.indexCast v138
  let c512 : Index := 512#32
  ![0, v308.toNat, 512]
def k0_off12 (k0_t1 : Fin k0_t1_loop.trips) : Fin 3 → Nat :=
  let c0_103 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v312 : Index := Scalar.indexCast v138
  let c640 : Index := 640#32
  ![0, v312.toNat, 640]
def k0_off13 (k0_t1 : Fin k0_t1_loop.trips) : Fin 3 → Nat :=
  let c0_120 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v380 : Index := Scalar.indexCast v138
  let c1280 : Index := 1280#32
  ![0, v380.toNat, 1280]
def k0_off14 (k0_t1 : Fin k0_t1_loop.trips) : Fin 3 → Nat :=
  let c0_121 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v384 : Index := Scalar.indexCast v138
  let c384_122 : Index := 384#32
  ![0, v384.toNat, 384]
def k0_off15 (k0_t1 : Fin k0_t1_loop.trips) : Fin 3 → Nat :=
  let c0_123 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v388 : Index := Scalar.indexCast v138
  let c768 : Index := 768#32
  ![0, v388.toNat, 768]
def k0_off16 (k0_t1 : Fin k0_t1_loop.trips) : Fin 3 → Nat :=
  let c0_124 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v392 : Index := Scalar.indexCast v138
  let c896 : Index := 896#32
  ![0, v392.toNat, 896]
def k0_off17 (k0_t1 : Fin k0_t1_loop.trips) : Fin 3 → Nat :=
  let c0_140 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v460 : Index := Scalar.indexCast v138
  let c1408 : Index := 1408#32
  ![0, v460.toNat, 1408]
def k0_off18 (k0_t1 : Fin k0_t1_loop.trips) : Fin 3 → Nat :=
  let c0_141 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v464 : Index := Scalar.indexCast v138
  let c512_142 : Index := 512#32
  ![0, v464.toNat, 512]
def k0_off19 (k0_t1 : Fin k0_t1_loop.trips) : Fin 3 → Nat :=
  let c0_162 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v540 : Index := Scalar.indexCast v138
  let c1536 : Index := 1536#32
  ![0, v540.toNat, 1536]
def k0_off20 (k0_t1 : Fin k0_t1_loop.trips) : Fin 3 → Nat :=
  let c0_163 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v544 : Index := Scalar.indexCast v138
  let c640_164 : Index := 640#32
  ![0, v544.toNat, 640]
def k0_off21 (k0_t1 : Fin k0_t1_loop.trips) : Fin 3 → Nat :=
  let c0_184 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v620 : Index := Scalar.indexCast v138
  let c1664 : Index := 1664#32
  ![0, v620.toNat, 1664]
def k0_off22 (k0_t1 : Fin k0_t1_loop.trips) : Fin 3 → Nat :=
  let c0_185 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v624 : Index := Scalar.indexCast v138
  let c768_186 : Index := 768#32
  ![0, v624.toNat, 768]
def k0_off23 (k0_t1 : Fin k0_t1_loop.trips) : Fin 3 → Nat :=
  let c0_206 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v700 : Index := Scalar.indexCast v138
  let c1792 : Index := 1792#32
  ![0, v700.toNat, 1792]
def k0_off24 (k0_t1 : Fin k0_t1_loop.trips) : Fin 3 → Nat :=
  let c0_207 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v704 : Index := Scalar.indexCast v138
  let c896_208 : Index := 896#32
  ![0, v704.toNat, 896]
def k0_off25 (k0_t1 : Fin k0_t1_loop.trips) : Fin 3 → Nat :=
  let c0_211 : Index := 0#32
  let c0_i32_38 : BitVec 32 := 0#32
  let c1_i32_39 : BitVec 32 := 1#32
  let arg12 : BitVec 32 := Scf.iv c0_i32_38 c1_i32_39 k0_t1
  let c32_i32 : BitVec 32 := 32#32
  let v137 : BitVec 32 := Scalar.muli arg12 c32_i32
  let v138 : BitVec 32 := v137
  let v712 : Index := Scalar.indexCast v138
  let c1920 : Index := 1920#32
  ![0, v712.toNat, 1920]
def k0_cond1 (i : grid0.Coords) : BitVec 1 :=
  let arg1 : BitVec 32 := BitVec.ofNat 32 (i 1).val
  let c0_i32_53 : BitVec 32 := 0#32
  let v131 : BitVec 1 := Scalar.cmpi .eq arg1 c0_i32_53
  let v132 : BitVec 32 := Scalar.extui v131
  let c0_i32_54 : BitVec 32 := 0#32
  let v133 : BitVec 1 := Scalar.cmpi .ne v132 c0_i32_54
  v133

def k0_cond2 (i : grid0.Coords) : BitVec 1 :=
  let arg1 : BitVec 32 := BitVec.ofNat 32 (i 1).val
  let c0_i32_55 : BitVec 32 := 0#32
  let v134 : BitVec 1 := Scalar.cmpi .sgt arg1 c0_i32_55
  let v135 : BitVec 32 := Scalar.extui v134
  let c0_i32_56 : BitVec 32 := 0#32
  let v136 : BitVec 1 := Scalar.cmpi .ne v135 c0_i32_56
  v136

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 32], ![false, false]⟩

def k1_cond1 (i : grid1.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_7 : BitVec 32 := 0#32
  let v15 : BitVec 1 := Scalar.cmpi .ne v14 c0_i32_7
  v15

def k1_cond2 (i : grid1.Coords) : BitVec 1 :=
  let arg1 : BitVec 32 := BitVec.ofNat 32 (i 1).val
  let c0_i32_8 : BitVec 32 := 0#32
  let v16 : BitVec 1 := Scalar.cmpi .sgt arg1 c0_i32_8
  let v17 : BitVec 32 := Scalar.extui v16
  let c0_i32_9 : BitVec 32 := 0#32
  let v18 : BitVec 1 := Scalar.cmpi .ne v17 c0_i32_9
  v18

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x192x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x192x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 32], ![false, false]⟩

def k2_cond1 (i : grid2.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_10 : BitVec 32 := 0#32
  let v18 : BitVec 1 := Scalar.cmpi .ne v17 c0_i32_10
  v18

def k2_cond2 (i : grid2.Coords) : BitVec 1 :=
  let arg1 : BitVec 32 := BitVec.ofNat 32 (i 1).val
  let c0_i32_11 : BitVec 32 := 0#32
  let v19 : BitVec 1 := Scalar.cmpi .sgt arg1 c0_i32_11
  let v20 : BitVec 32 := Scalar.extui v19
  let c0_i32_12 : BitVec 32 := 0#32
  let v21 : BitVec 1 := Scalar.cmpi .ne v20 c0_i32_12
  v21

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x192x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x192x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x192x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]
-- ==== ReferenceIdeal.lean ====
abbrev S2x16384x2048 : Shape := ⟨3, ![2, 16384, 2048]⟩
abbrev S2x16384x1024 : Shape := ⟨3, ![2, 16384, 1024]⟩
abbrev S2x16384x16 : Shape := ⟨3, ![2, 16384, 16]⟩
abbrev S2x2048x192 : Shape := ⟨3, ![2, 2048, 192]⟩
abbrev S_ : Shape := ⟨0, ![]⟩
abbrev S2x16384x16x64 : Shape := ⟨4, ![2, 16384, 16, 64]⟩
abbrev S2x16384x16x1 : Shape := ⟨4, ![2, 16384, 16, 1]⟩
abbrev S2x1024x192 : Shape := ⟨3, ![2, 1024, 192]⟩
abbrev S2x16384x192 : Shape := ⟨3, ![2, 16384, 192]⟩
abbrev S2x1024x1x192 : Shape := ⟨4, ![2, 1024, 1, 192]⟩
abbrev S2x1024x2x192 : Shape := ⟨4, ![2, 1024, 2, 192]⟩

abbrev nBuf : Space → Nat
  | .hbm => 72
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x1024, .i8⟩
  | .hbm, ⟨2, _⟩ => ⟨S2x16384x16, .f32⟩
  | .hbm, ⟨3, _⟩ => ⟨S2x16384x16, .i8⟩
  | .hbm, ⟨4, _⟩ => ⟨S2x2048x192, .bf16⟩
  | .hbm, ⟨5, _⟩ => ⟨S2x16384x1024, .i32⟩
  | .hbm, ⟨6, _⟩ => ⟨S_, .i32⟩
  | .hbm, ⟨7, _⟩ => ⟨S2x16384x1024, .i32⟩
  | .hbm, ⟨8, _⟩ => ⟨S2x16384x1024, .i32⟩
  | .hbm, ⟨9, _⟩ => ⟨S_, .i32⟩
  | .hbm, ⟨10, _⟩ => ⟨S2x16384x1024, .i32⟩
  | .hbm, ⟨11, _⟩ => ⟨S2x16384x1024, .i32⟩
  | .hbm, ⟨12, _⟩ => ⟨S2x16384x1024, .bf16⟩
  | .hbm, ⟨13, _⟩ => ⟨S2x16384x1024, .f32⟩
  | .hbm, ⟨14, _⟩ => ⟨S2x16384x16x64, .f32⟩
  | .hbm, ⟨15, _⟩ => ⟨S2x16384x1024, .f32⟩
  | .hbm, ⟨16, _⟩ => ⟨S2x16384x16x64, .f32⟩
  | .hbm, ⟨17, _⟩ => ⟨S2x16384x16, .i32⟩
  | .hbm, ⟨18, _⟩ => ⟨S2x16384x16, .f32⟩
  | .hbm, ⟨19, _⟩ => ⟨S2x16384x16x1, .f32⟩
  | .hbm, ⟨20, _⟩ => ⟨S2x16384x16x64, .f32⟩
  | .hbm, ⟨21, _⟩ => ⟨S2x16384x16x64, .f32⟩
  | .hbm, ⟨22, _⟩ => ⟨S2x16384x16x1, .f32⟩
  | .hbm, ⟨23, _⟩ => ⟨S2x16384x16x64, .f32⟩
  | .hbm, ⟨24, _⟩ => ⟨S2x16384x16x64, .f32⟩
  | .hbm, ⟨25, _⟩ => ⟨S2x16384x16x64, .f32⟩
  | .hbm, ⟨26, _⟩ => ⟨S2x16384x16x64, .bf16⟩
  | .hbm, ⟨27, _⟩ => ⟨S2x16384x1024, .bf16⟩
  | .hbm, ⟨28, _⟩ => ⟨S2x16384x1024, .bf16⟩
  | .hbm, ⟨29, _⟩ => ⟨S2x16384x1024, .f32⟩
  | .hbm, ⟨30, _⟩ => ⟨S2x16384x16x64, .f32⟩
  | .hbm, ⟨31, _⟩ => ⟨S2x16384x1024, .f32⟩
  | .hbm, ⟨32, _⟩ => ⟨S2x16384x16x64, .f32⟩
  | .hbm, ⟨33, _⟩ => ⟨S2x16384x16, .i32⟩
  | .hbm, ⟨34, _⟩ => ⟨S2x16384x16, .f32⟩
  | .hbm, ⟨35, _⟩ => ⟨S2x16384x16x1, .f32⟩
  | .hbm, ⟨36, _⟩ => ⟨S2x16384x16x64, .f32⟩
  | .hbm, ⟨37, _⟩ => ⟨S2x16384x16x64, .f32⟩
  | .hbm, ⟨38, _⟩ => ⟨S2x16384x16x1, .f32⟩
  | .hbm, ⟨39, _⟩ => ⟨S2x16384x16x64, .f32⟩
  | .hbm, ⟨40, _⟩ => ⟨S2x16384x16x64, .f32⟩
  | .hbm, ⟨41, _⟩ => ⟨S2x16384x16x64, .f32⟩
  | .hbm, ⟨42, _⟩ => ⟨S2x16384x16x64, .bf16⟩
  | .hbm, ⟨43, _⟩ => ⟨S2x16384x1024, .bf16⟩
  | .hbm, ⟨44, _⟩ => ⟨S2x1024x192, .bf16⟩
  | .hbm, ⟨45, _⟩ => ⟨S2x1024x192, .bf16⟩
  | .hbm, ⟨46, _⟩ => ⟨S2x16384x192, .f32⟩
  | .hbm, ⟨47, _⟩ => ⟨S2x16384x192, .f32⟩
  | .hbm, ⟨48, _⟩ => ⟨S2x16384x192, .f32⟩
  | .hbm, ⟨49, _⟩ => ⟨S2x16384x192, .bf16⟩
  | .hbm, ⟨50, _⟩ => ⟨S2x1024x192, .f32⟩
  | .hbm, ⟨51, _⟩ => ⟨S2x1024x192, .f32⟩
  | .hbm, ⟨52, _⟩ => ⟨S2x1024x192, .bf16⟩
  | .hbm, ⟨53, _⟩ => ⟨S2x1024x192, .bf16⟩
  | .hbm, ⟨54, _⟩ => ⟨S2x16384x192, .f32⟩
  | .hbm, ⟨55, _⟩ => ⟨S2x16384x192, .f32⟩
  | .hbm, ⟨56, _⟩ => ⟨S2x16384x192, .f32⟩
  | .hbm, ⟨57, _⟩ => ⟨S2x16384x192, .bf16⟩
  | .hbm, ⟨58, _⟩ => ⟨S2x1024x192, .f32⟩
  | .hbm, ⟨59, _⟩ => ⟨S2x1024x192, .f32⟩
  | .hbm, ⟨60, _⟩ => ⟨S2x1024x192, .bf16⟩
  | .hbm, ⟨61, _⟩ => ⟨S2x1024x192, .bf16⟩
  | .hbm, ⟨62, _⟩ => ⟨S2x16384x192, .f32⟩
  | .hbm, ⟨63, _⟩ => ⟨S2x16384x192, .f32⟩
  | .hbm, ⟨64, _⟩ => ⟨S2x16384x192, .f32⟩
  | .hbm, ⟨65, _⟩ => ⟨S2x16384x192, .bf16⟩
  | .hbm, ⟨66, _⟩ => ⟨S2x1024x192, .f32⟩
  | .hbm, ⟨67, _⟩ => ⟨S2x1024x192, .f32⟩
  | .hbm, ⟨68, _⟩ => ⟨S2x1024x1x192, .f32⟩
  | .hbm, ⟨69, _⟩ => ⟨S2x1024x1x192, .f32⟩
  | .hbm, ⟨70, _⟩ => ⟨S2x1024x2x192, .f32⟩
  | .hbm, ⟨71, _⟩ => ⟨S2x2048x192, .f32⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩

abbrev nD : Nat := 1
abbrev τ : Topo := Topo.v7x

variable {F : FTy → Type} [FloatOps F]
-- ==== Proof.Kernel.K0.Runs.lean ====
/- The `first` call: what the runs of its body share — the windows' blocks at a point, the branch conditions in closed
    form over the grid, which windows are live, the staging memrefs. Everything is stated at a parameter `V`, the buffer
    contents when the call is entered. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel.K0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s (`hA`) and whose body leaves the block in place (`hafter`); one such theorem per input. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 32) — by arithmetic of the point. -/
theorem hcond0_0 : ∀ t : Fin cfg0.N, cond0_0 (grid0.coords t) ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 32 :=
  (by decide +kernel : ∀ t : Fin grid0.N, cond0_1 (grid0.coords t) ↔ 1 ≤ t.val % 32)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- Whether output 7's buffer is FRESH at each position `1 ‥ N` — holds nothing the body stored since the region's entry or the
    last write-back (written back at the point before, or idle there and fresh before it) —, as a bitmask, bit `n` for position `n + 1`; position 0 is fresh. `freshTab0_7_step` checks it against the configuration's own
    step point by point and the library's `Cfg.fresh_tab` makes it `Cfg.fresh` (`fresh0_7_eq`). -/
def freshTab0_7 : ℕ → Bool
  | 0 => true
  | n + 1 => (0x8000000080000000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the configuration (`Cfg.idle`) calls output 7 live: the case stores into it. -/
theorem liveAt0_7_A : ∀ t : Fin cfg0.N, cond0_0 (grid0.coords t) → ¬cond0_1 (grid0.coords t) → cfg0.idle 7 (grid0.coords t) = false := by decide +kernel
/-- At the points of case B the configuration (`Cfg.idle`) calls output 7 live: the case stores into it. -/
theorem liveAt0_7_B : ∀ t : Fin cfg0.N, ¬cond0_0 (grid0.coords t) → cond0_1 (grid0.coords t) → cfg0.idle 7 (grid0.coords t) = false := by decide +kernel
/-- At the points of case B, which keeps output 7's prior contents (reads it before covering, or covers it in part), the
    window's buffer is not FRESH: something was stored into it since the region's entry or its last write-back, idle points
    between or not. -/
theorem notFresh0_7_B : ∀ t : Fin cfg0.N, ¬cond0_0 (grid0.coords t) → cond0_1 (grid0.coords t) → cfg0.fresh 7 t.val = false := by
  intro t; rw [fresh0_7_eq t]; revert t; decide +kernel

/-! ## The kernel body on any staging memrefs: a subtype the run finds -/

/-- One staging buffer of output window 5, through which its contents are stated (`View.read_writes_of_cover`: the
    choice does not matter). -/
abbrev VO0_5 : View sig .tc .vmem S1x512x2048 .bf16 := (Memref.whole cc0_stg5_0 : Memref sig .tc .vmem S1x512x2048 .bf16).view
abbrev VO0_6 : View sig .tc .vmem S1x192x512 .f32 := (Memref.whole cc0_stg6_0 : Memref sig .tc .vmem S1x192x512 .f32).view
abbrev VO0_7 : View sig .tc .vmem S1x192x2048 .f32 := (Memref.whole cc0_stg7_0 : Memref sig .tc .vmem S1x192x2048 .f32).view
/-- Each window's current staging memref at point `t`, spelled as the pipeline passes it (`bodyAt0`), and its wholeness. -/
abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x192x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x192x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x192x2048 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x128 .f32 := Memref.whole cc0_scratch0
abbrev scM0_1 : Memref sig .tc .vmem S512x128 .bf16 := Memref.whole cc0_scratch1

/-- The staging buffers of the two later calls, each whole at some contents: untouched by this call. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The invariant with the scratch operands as memrefs owned at some contents: what the body obligation hands the run
    and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest c) ∗ (∃ r, prngReg c r)) := by
  unfold Pipeline.ΦA rest; rw [scopedRest0_eq]; simp only [scM0_0, scM0_1, owns_whole]; try rfl

end Cert.Kernel.K0

end
-- ==== Proof.Kernel.K0.RunA.lean ====
/- The `first` call: the run of its body at the points of case A (a batch's first row block), with the pieces each
    output buffer ends with. -/
module

public import proofs.«01_k».proof.Proof.Kernel.K0.Runs

@[expose] public section

set_option maxRecDepth 16384

noncomputable section

namespace Cert.Kernel.K0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option backward.proofsInPublic true in
set_option maxHeartbeats 1000000 in
/-- What the body's stores leave in each output's staging memref, as pieces (last first) IN CASE A (`scf.if` 0 taken, `scf.if` 1 not taken: points 0, 32), WITH the
    proof that on whole staging memrefs — the inputs' at their contents, the other outputs' at
    anything, the scratch buffers at anything, the body runs to the continuation holding the inputs' as they were,
    the scratch at some contents, each output's buffer with its pieces written: the functions are their skeletons, which `sl_exec` runs — each `scf.if` decided by the case's hypotheses `hc·`; the pieces are
    the witness that run finds (assigned when `iexact` hands the buffer to the continuation). -/
noncomputable def kernelRun0_A (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) :
    Σ' (L5 : List (View.Piece (Elt F) S1x512x2048 .bf16)), Σ' (L6 : List (View.Piece (Elt F) S1x192x512 .f32)), { L7 : List (View.Piece (Elt F) S1x192x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d)) -∗ K ⟨⟩))
          ⊢ wp frame (wpE (defs₀ (F := F)) Variants.none c none) E (cc0_first i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_first_eq_skeleton]; unfold cc0_first_skel
    simp only [k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    have hrd0 : ∀ (𝒱 : Variants) (c : Dev nD) (bd : Option 𝒱.V) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (v18 : IVec S32x128 32) (v20 : IVec S32x128 1) (v42 : IVec S32x128 32) (v64 : IVec S32x128 32) (c64_i32_24 : BitVec 32) (v66 : IVec S32x128 32) (v73 : IVec S32x128 32) (v79 : IVec S32x128 32) (X_arg2 : BufTy.Contents (Elt F) arg2.view.ty) (X_arg3 : BufTy.Contents (Elt F) arg3.view.ty) (X_arg10 : BufTy.Contents (Elt F) arg10.view.ty) (X_arg11 : BufTy.Contents (Elt F) arg11.view.ty) (hrdF : BufTy.Contents (Elt F) arg7.view.ty) (hrdB : LoadRect S1x512x2048), arg7.view.readAt (Elt F) hrdB (arg7.view.writes (Elt F) hrdF (pb_k0_t1 (F := F) 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 (Scf.trips k0_t1_loop.lb k0_t1_loop.ub k0_t1_loop.st))) = arg7.view.readCov (pb_k0_t1 (F := F) 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 (Scf.trips k0_t1_loop.lb k0_t1_loop.ub k0_t1_loop.st)) S1x32x128.size (by sl_kernel_rfl) (hrdB.idx hrdJ))
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    iexists _, _; isplitr; swap; · iexact HS1
    ipureintro; rfl

end Cert.Kernel.K0

end
-- ==== Proof.Kernel.K0.RunB.lean ====
/- The `first` call: the run of its body at the points of case B (a later row block of a batch), with the pieces each
    output buffer ends with. -/
module

public import proofs.«01_k».proof.Proof.Kernel.K0.RunA

@[expose] public section

set_option maxRecDepth 16384

noncomputable section

namespace Cert.Kernel.K0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option backward.proofsInPublic true in
set_option maxHeartbeats 1000000 in
/-- What the body's stores leave in each output's staging memref, as pieces (last first) IN CASE B (`scf.if` 0 not taken, `scf.if` 1 taken: points 1, 2, … 63: 62 of 64), WITH the
    proof that on whole staging memrefs — the inputs' at their contents, the outputs it reads before covering (7) at their running contents `xo·`, the other outputs' at
    anything, the scratch buffers at anything, the body runs to the continuation holding the inputs' as they were,
    the scratch at some contents, each output's buffer with its pieces written: the functions are their skeletons, which `sl_exec` runs — each `scf.if` decided by the case's hypotheses `hc·`; the pieces are
    the witness that run finds (assigned when `iexact` hands the buffer to the continuation). -/
noncomputable def kernelRun0_B (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) :
    Σ' (L5 : List (View.Piece (Elt F) S1x512x2048 .bf16)), Σ' (L6 : List (View.Piece (Elt F) S1x192x512 .f32)), { L7 : List (View.Piece (Elt F) S1x192x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xo7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d)) -∗ K ⟨⟩))
          ⊢ wp frame (wpE (defs₀ (F := F)) Variants.none c none) E (cc0_first i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_first_eq_skeleton]; unfold cc0_first_skel
    simp only [k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    have hrd0 : ∀ (𝒱 : Variants) (c : Dev nD) (bd : Option 𝒱.V) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (v18 : IVec S32x128 32) (v20 : IVec S32x128 1) (v42 : IVec S32x128 32) (v64 : IVec S32x128 32) (c64_i32_24 : BitVec 32) (v66 : IVec S32x128 32) (v73 : IVec S32x128 32) (v79 : IVec S32x128 32) (X_arg2 : BufTy.Contents (Elt F) arg2.view.ty) (X_arg3 : BufTy.Contents (Elt F) arg3.view.ty) (X_arg10 : BufTy.Contents (Elt F) arg10.view.ty) (X_arg11 : BufTy.Contents (Elt F) arg11.view.ty) (hrdF : BufTy.Contents (Elt F) arg7.view.ty) (hrdB : LoadRect S1x512x2048), arg7.view.readAt (Elt F) hrdB (arg7.view.writes (Elt F) hrdF (pb_k0_t1 (F := F) 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 (Scf.trips k0_t1_loop.lb k0_t1_loop.ub k0_t1_loop.st))) = arg7.view.readCov (pb_k0_t1 (F := F) 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 (Scf.trips k0_t1_loop.lb k0_t1_loop.ub k0_t1_loop.st)) S1x32x128.size (by sl_kernel_rfl) (hrdB.idx hrdJ))
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    iexists _, _; isplitr; swap; · iexact HS1
    ipureintro; rfl

end Cert.Kernel.K0

end
-- ==== Proof.Kernel.K0.Body.lean ====
/- The `first` call: what its outputs hold after each point, the pipeline's proof data, and the body obligation. -/
module

public import proofs.«01_k».proof.Proof.Kernel.K0.RunB

@[expose] public section

set_option maxRecDepth 16384

noncomputable section

namespace Cert.Kernel.K0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 5 tile its block (256 stores of `S1x32x128`, checked by the kernel's evaluation: the library's `Piece.tiledL`, linear in the pieces, through a loop's `@[irreducible]` trip theorem too), so they cover it. -/
theorem cover0_A_5 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) (y : S1x512x2048.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).1 S1x32x128.size (by sl_kernel_rfl) y

/-- What case A leaves in output 5's staging buffer: its pieces read back over junk. -/
def out0_A_5 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) : Vec F S1x512x2048 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3 x4).1)

/-- Case A's pieces for output 6 tile its block (1 store of `S1x192x512`, checked by the kernel's evaluation: the library's `Piece.tiledL`, linear in the pieces, through a loop's `@[irreducible]` trip theorem too), so they cover it. -/
theorem cover0_A_6 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) (y : S1x192x512.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.1 S1x192x512.size (by sl_kernel_rfl) y

/-- What case A leaves in output 6's staging buffer: its pieces read back over junk. -/
def out0_A_6 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) : Vec F S1x192x512 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3 x4).2.1)

/-- Case A's pieces for output 7 tile its block (1 store of `S1x192x2048`, checked by the kernel's evaluation: the library's `Piece.tiledL`, linear in the pieces, through a loop's `@[irreducible]` trip theorem too), so they cover it. -/
theorem cover0_A_7 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) (y : S1x192x2048.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.2.1 S1x192x2048.size (by sl_kernel_rfl) y

/-- What case A leaves in output 7's staging buffer: its pieces read back over junk. -/
def out0_A_7 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) : Vec F S1x192x2048 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4).2.2.1)

/-- Case B's pieces for output 5 tile its block (256 stores of `S1x32x128`, checked by the kernel's evaluation: the library's `Piece.tiledL`, linear in the pieces, through a loop's `@[irreducible]` trip theorem too), so they cover it. -/
theorem cover0_B_5 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) (y : S1x512x2048.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xo7).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xo7).1 S1x32x128.size (by sl_kernel_rfl) y

/-- What case B leaves in output 5's staging buffer: its pieces read back over junk. -/
def out0_B_5 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) : Vec F S1x512x2048 .bf16 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 x4 xo7).1)

/-- Case B's pieces for output 6 tile its block (1 store of `S1x192x512`, checked by the kernel's evaluation: the library's `Piece.tiledL`, linear in the pieces, through a loop's `@[irreducible]` trip theorem too), so they cover it. -/
theorem cover0_B_6 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) (y : S1x192x512.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xo7).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xo7).2.1 S1x192x512.size (by sl_kernel_rfl) y

/-- What case B leaves in output 6's staging buffer: its pieces read back over junk. -/
def out0_B_6 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) : Vec F S1x192x512 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 x4 xo7).2.1)

/-- Case B's pieces for output 7 tile its block (1 store of `S1x192x2048`, checked by the kernel's evaluation: the library's `Piece.tiledL`, linear in the pieces, through a loop's `@[irreducible]` trip theorem too), so they cover it. -/
theorem cover0_B_7 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) (y : S1x192x2048.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xo7).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xo7).2.2.1 S1x192x2048.size (by sl_kernel_rfl) y

/-- What case B leaves in output 7's staging buffer: its pieces read back over junk. -/
def out0_B_7 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) : Vec F S1x192x2048 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 xo7).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x512x2048 .bf16 × Vec F S1x192x512 .f32 × Vec F S1x192x2048 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 32 = 0 then
      if h1 : 1 ≤ (n + 1) % 32 then
        False.elim (by have hN : n + 1 < 64 := lt_of_lt_of_eq hn (show cfg0.N = 64 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : 1 ≤ (n + 1) % 32 then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2)
      else
        False.elim (by have hN : n + 1 < 64 := lt_of_lt_of_eq hn (show cfg0.N = 64 from N_0); omega)

/-- `outsAt0` at a point of case A: that case's contents. -/
theorem outsAt0_A (c : Dev nD) (t : Fin cfg0.N) (h0 : t.val % 32 = 0) (h1 : ¬1 ≤ t.val % 32) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : 1 ≤ t.val % 32) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt).1
    | ⟨6, _⟩ => (outsAt0 V c t.val t.isLt).2.1
    | ⟨7, _⟩ => (outsAt0 V c t.val t.isLt).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = (outsAt0 V c t.val t.isLt).1 := by dsimp only [dat]
theorem after0_6 (c : Dev nD) (t : Fin cfg0.N) : (dat V c).after 6 t = (outsAt0 V c t.val t.isLt).2.1 := by dsimp only [dat]
theorem after0_7 (c : Dev nD) (t : Fin cfg0.N) : (dat V c).after 7 t = (outsAt0 V c t.val t.isLt).2.2 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d

/-- Output 7's contents CARRY through the points that leave it idle: at such a point, its buffer not fresh, the proof data's
    `after` is the point before's (the case there stores nothing into the window and its term says so; a case that stores
    into it is not idle there by `liveAt0_7_κ`) — the hypothesis of the library's `Dat.before_out_traj`. -/
theorem hcarry0_7 (c : Dev nD) : ∀ (t : Fin cfg0.N) (_ : t.val ≠ 0), cfg0.idle 7 (grid0.coords t) = true → cfg0.fresh 7 t.val = false →
    (dat V c).after 7 t = (dat V c).after 7 ⟨t.val - 1, by omega⟩ := by
  intro t _ hi _
  have hN : t.val < 64 := lt_of_lt_of_eq t.isLt (show cfg0.N = 64 from N_0)
  rw [after0_7, after0_7]
  by_cases h0 : t.val % 32 = 0
  · by_cases h1 : 1 ≤ t.val % 32
    · exfalso; omega
    · rw [liveAt0_7_A t ((hcond0_0 t).mpr h0) (fun h => h1 ((hcond0_1 t).mp h))] at hi
      exact absurd hi Bool.false_ne_true
  · by_cases h1 : 1 ≤ t.val % 32
    · rw [liveAt0_7_B t (fun h => h0 ((hcond0_0 t).mp h)) ((hcond0_1 t).mpr h1)] at hi
      exact absurd hi Bool.false_ne_true
    · exfalso; omega
/-- At a point of case B output 7's current staging buffer holds what the point before left: the buffer is not fresh
    there (`notFresh0_7_B`: stored into since the region's entry or the last write-back, carried through the points that
    leave it idle by `hcarry0_7`; the library's `Dat.before_out_traj`). -/
theorem before0_7_B (c : Dev nD) (t : Fin cfg0.N) (h0 : ¬t.val % 32 = 0) (h1 : 1 ≤ t.val % 32) (d) :
    (dat V c).before 7 t d = (outsAt0 V c (t.val - 1) (Nat.lt_of_le_of_lt (Nat.sub_le _ _) t.isLt)).2.2 := by
  rw [Dat.before_out_traj _ 7 rfl (fun _ _ => rfl) (hcarry0_7 V c) t.val t rfl d,
    if_neg (by rw [notFresh0_7_B t (fun h => h0 ((hcond0_0 t).mp h)) ((hcond0_1 t).mpr h1)]; exact Bool.false_ne_true)]
  dsimp only [dat]

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat V c).Φ t.succ = (dat V c).Φ t.castSucc from rfl,
    show (dat V c).owesAt () t.succ = (dat V c).owesAt () t.castSucc from rfl]
  rw [show (dat V c).Φ t.castSucc = Pipeline.ΦA spec0 c from rfl, PhiA0_eq]
  have hN : t.val < 64 := lt_of_lt_of_eq t.isLt (show cfg0.N = 64 from N_0)
  by_cases h0 : t.val % 32 = 0
  · by_cases h1 : 1 ≤ t.val % 32
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7_A t ((hcond0_0 t).mpr h0) (fun h => h1 ((hcond0_1 t).mp h))], after0_7]
      rw [outsAt0_A V c t h0 h1]
      unfold out0_A_5 out0_A_6 out0_A_7; (try dsimp only)
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, HS0, HS1⟩
      isplitl [HS0 HS1 HR Hg]
      · isplitl [HS0 HS1 HR]
        · isplitl [HS0]
          · iexact HS0
          isplitl [HS1]
          · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _)
  · by_cases h1 : 1 ≤ t.val % 32
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7_B t (fun h => h0 ((hcond0_0 t).mp h)) ((hcond0_1 t).mpr h1)], after0_7]
      rw [outsAt0_B V c t h0 h1]
      simp only [before0_7_B V c t h0 h1]
      unfold out0_B_5 out0_B_6 out0_B_7; (try dsimp only)
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      isplitl [HS1]; · iexact HS1
      iintro ⟨H0, H1, H2, H3, H4, ⟨%e5, H5⟩, ⟨%e6, H6⟩, ⟨%e7, H7⟩, HS0, HS1⟩
      isplitl [HS0 HS1 HR Hg]
      · isplitl [HS0 HS1 HR]
        · isplitl [HS0]
          · iexact HS0
          isplitl [HS1]
          · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Kernel.K0

end
-- ==== Proof.Kernel.K1.Runs.lean ====
/- The `mid` call: what the runs of its body share — the windows' blocks at a point, the branch conditions in closed
    form over the grid, which windows are live, the staging memrefs. Everything is stated at a parameter `V`, the buffer
    contents when the call is entered. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel.K1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s (`hA`) and whose body leaves the block in place (`hafter`); one such theorem per input. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := k1_cond1 i = 1#1
/-- It holds at the points ≡ 0 (mod 32) — by arithmetic of the point. -/
theorem hcond0_0 : ∀ t : Fin cfg1.N, cond0_0 (grid1.coords t) ↔ t.val % 32 = 0 :=
  (fun t => by
    have ht : t.val < 64 := Nat.lt_of_lt_of_eq t.isLt N_1
    have e0 : (grid1.coords t 0).val = t.val / 32 % 2 := Pipeline.Grid.coords_val t 0 (by decide) rfl
    have e1 : (grid1.coords t 1).val = t.val / 1 % 32 := Pipeline.Grid.coords_val t 1 (by decide) rfl
    simp only [cond0_0, k1_cond1, e0, e1]
    word_cmp
   : ∀ t : Fin grid1.N, cond0_0 (grid1.coords t) ↔ t.val % 32 = 0)

/-- The condition of the body's `scf.if` 1 (`k1_h2`), from the grid coordinates (the skeleton's scalar
    chain substituted). -/
abbrev cond0_1 (i : grid1.Coords) : Prop := k1_cond2 i = 1#1
/-- It holds at the points whose coordinates have 1 ≤ i1 — decided over the grid. -/
theorem hcond0_1 : ∀ t : Fin cfg1.N, cond0_1 (grid1.coords t) ↔ 1 ≤ t.val % 32 :=
  (by decide +kernel : ∀ t : Fin grid1.N, cond0_1 (grid1.coords t) ↔ 1 ≤ t.val % 32)

/-! ## Where the windows are idle (the printed configuration's table `Cfg.idle`) -/

theorem liveAt0_0 : ∀ t : Fin cfg1.N, cfg1.idle 0 (grid1.coords t) = false := fun _ => rfl
theorem liveAt0_1 : ∀ t : Fin cfg1.N, cfg1.idle 1 (grid1.coords t) = false := fun _ => rfl
/-- Whether output 2's buffer is FRESH at each position `1 ‥ N` — holds nothing the body stored since the region's entry or the
    last write-back (written back at the point before, or idle there and fresh before it) —, as a bitmask, bit `n` for position `n + 1`; position 0 is fresh. `freshTab0_2_step` checks it against the configuration's own
    step point by point and the library's `Cfg.fresh_tab` makes it `Cfg.fresh` (`fresh0_2_eq`). -/
def freshTab0_2 : ℕ → Bool
  | 0 => true
  | n + 1 => (0x8000000080000000 : ℕ).testBit n
theorem freshTab0_2_step : ∀ t : Fin cfg1.N,
    freshTab0_2 (t.val + 1) = ((cfg1.win 2).flush t || (cfg1.idle 2 (cfg1.grid.coords t) && freshTab0_2 t.val)) := by decide +kernel
theorem fresh0_2_eq (t : Fin cfg1.N) : cfg1.fresh 2 t.val = freshTab0_2 t.val :=
  Pipeline.Cfg.fresh_tab cfg1 2 freshTab0_2 rfl freshTab0_2_step t.val (Nat.le_of_lt t.isLt)
/-- At the points of case A the configuration (`Cfg.idle`) calls output 2 live: the case stores into it. -/
theorem liveAt0_2_A : ∀ t : Fin cfg1.N, cond0_0 (grid1.coords t) → ¬cond0_1 (grid1.coords t) → cfg1.idle 2 (grid1.coords t) = false := by decide +kernel
/-- At the points of case B the configuration (`Cfg.idle`) calls output 2 live: the case stores into it. -/
theorem liveAt0_2_B : ∀ t : Fin cfg1.N, ¬cond0_0 (grid1.coords t) → cond0_1 (grid1.coords t) → cfg1.idle 2 (grid1.coords t) = false := by decide +kernel
/-- At the points of case B, which keeps output 2's prior contents (reads it before covering, or covers it in part), the
    window's buffer is not FRESH: something was stored into it since the region's entry or its last write-back, idle points
    between or not. -/
theorem notFresh0_2_B : ∀ t : Fin cfg1.N, ¬cond0_0 (grid1.coords t) → cond0_1 (grid1.coords t) → cfg1.fresh 2 t.val = false := by
  intro t; rw [fresh0_2_eq t]; revert t; decide +kernel

/-! ## The kernel body on any staging memrefs: a subtype the run finds -/

/-- One staging buffer of output window 2, through which its contents are stated (`View.read_writes_of_cover`: the
    choice does not matter). -/
abbrev VO0_2 : View sig .tc .vmem S1x192x2048 .f32 := (Memref.whole cc1_stg2_0 : Memref sig .tc .vmem S1x192x2048 .f32).view
/-- Each window's current staging memref at point `t`, spelled as the pipeline passes it (`bodyAt1`), and its wholeness. -/
abbrev ms0_0 (t : Fin cfg1.N) : Memref sig .tc .vmem S1x512x2048 .bf16 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1x192x2048 .bf16 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1x192x2048 .f32 := win1_2.stage (cfg1.slots t 2)
abbrev hs0_2 (t : Fin cfg1.N) : (ms0_2 t).IsWhole := hstage1_2 ((cfg1.slots t 2).cast nbuf1_2)

end Cert.Kernel.K1

end
-- ==== Proof.Kernel.K1.RunA.lean ====
/- The `mid` call: the run of its body at the points of case A (a batch's first row block), with the pieces each
    output buffer ends with. -/
module

public import proofs.«01_k».proof.Proof.Kernel.K1.Runs

@[expose] public section

set_option maxRecDepth 16384

noncomputable section

namespace Cert.Kernel.K1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 32), WITH the
    proof that on whole staging memrefs — the inputs' at their contents, the other outputs' at
    anything, the body runs to the continuation holding the inputs' as they were,
    each output's buffer with its pieces written: the functions are their skeletons, which `sl_exec` runs — each `scf.if` decided by the case's hypotheses `hc·`; the pieces are
    the witness that run finds (assigned when `iexact` hands the buffer to the continuation). -/
noncomputable def kernelRun0_A (c : Dev nD) (i : grid1.Coords) (arg2 : Memref sig .tc .vmem S1x512x2048 .bf16) (harg2 : arg2.IsWhole) (arg3 : Memref sig .tc .vmem S1x192x2048 .bf16) (harg3 : arg3.IsWhole) (arg4 : Memref sig .tc .vmem S1x192x2048 .f32) (harg4 : arg4.IsWhole) (hc0 : cond0_0 i) (hc1 : ¬cond0_1 i)
    (x0 : Vec F S1x512x2048 .bf16) (x1 : Vec F S1x192x2048 .bf16) :
    { L2 : List (View.Piece (Elt F) S1x192x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1_mid i arg2 harg2 arg3 harg3 arg4 harg4) K } := by
  refine ⟨?_, fun E K => ?run⟩
  case run =>
    simp only [cc1_mid_eq_skeleton]; unfold cc1_mid_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.K1

end
-- ==== Proof.Kernel.K1.RunB.lean ====
/- The `mid` call: the run of its body at the points of case B (a later row block of a batch), with the pieces each
    output buffer ends with. -/
module

public import proofs.«01_k».proof.Proof.Kernel.K1.RunA

@[expose] public section

set_option maxRecDepth 16384

noncomputable section

namespace Cert.Kernel.K1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 62 of 64), WITH the
    proof that on whole staging memrefs — the inputs' at their contents, the outputs it reads before covering (2) at their running contents `xo·`, the other outputs' at
    anything, the body runs to the continuation holding the inputs' as they were,
    each output's buffer with its pieces written: the functions are their skeletons, which `sl_exec` runs — each `scf.if` decided by the case's hypotheses `hc·`; the pieces are
    the witness that run finds (assigned when `iexact` hands the buffer to the continuation). -/
noncomputable def kernelRun0_B (c : Dev nD) (i : grid1.Coords) (arg2 : Memref sig .tc .vmem S1x512x2048 .bf16) (harg2 : arg2.IsWhole) (arg3 : Memref sig .tc .vmem S1x192x2048 .bf16) (harg3 : arg3.IsWhole) (arg4 : Memref sig .tc .vmem S1x192x2048 .f32) (harg4 : arg4.IsWhole) (hc0 : ¬cond0_0 i) (hc1 : cond0_1 i)
    (x0 : Vec F S1x512x2048 .bf16) (x1 : Vec F S1x192x2048 .bf16) (xo2 : Vec F S1x192x2048 .f32) :
    { L2 : List (View.Piece (Elt F) S1x192x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1_mid i arg2 harg2 arg3 harg3 arg4 harg4) K } := by
  refine ⟨?_, fun E K => ?run⟩
  case run =>
    simp only [cc1_mid_eq_skeleton]; unfold cc1_mid_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.K1

end
-- ==== Proof.Kernel.K1.Body.lean ====
/- The `mid` call: what its outputs hold after each point, the pipeline's proof data, and the body obligation. -/
module

public import proofs.«01_k».proof.Proof.Kernel.K1.RunB

@[expose] public section

set_option maxRecDepth 16384

noncomputable section

namespace Cert.Kernel.K1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 2 tile its block (1 store of `S1x192x2048`, checked by the kernel's evaluation: the library's `Piece.tiledL`, linear in the pieces, through a loop's `@[irreducible]` trip theorem too), so they cover it. -/
theorem cover0_A_2 (c : Dev nD) (i : grid1.Coords) (arg2 : Memref sig .tc .vmem S1x512x2048 .bf16) (harg2 : arg2.IsWhole) (arg3 : Memref sig .tc .vmem S1x192x2048 .bf16) (harg3 : arg3.IsWhole) (arg4 : Memref sig .tc .vmem S1x192x2048 .f32) (harg4 : arg4.IsWhole) (hc0 : cond0_0 i) (hc1 : ¬cond0_1 i)
    (x0 : Vec F S1x512x2048 .bf16) (x1 : Vec F S1x192x2048 .bf16) (y : S1x192x2048.Idx) :
    ∃ pc ∈ (kernelRun0_A c i arg2 harg2 arg3 harg3 arg4 harg4 hc0 hc1 x0 x1).1, y ∈ pc.1.set :=
  View.cover_of_tiledL (kernelRun0_A c i arg2 harg2 arg3 harg3 arg4 harg4 hc0 hc1 x0 x1).1 S1x192x2048.size (by sl_kernel_rfl) y

/-- What case A leaves in output 2's staging buffer: its pieces read back over junk. -/
def out0_A_2 (c : Dev nD) (i : grid1.Coords) (arg2 : Memref sig .tc .vmem S1x512x2048 .bf16) (harg2 : arg2.IsWhole) (arg3 : Memref sig .tc .vmem S1x192x2048 .bf16) (harg3 : arg3.IsWhole) (arg4 : Memref sig .tc .vmem S1x192x2048 .f32) (harg4 : arg4.IsWhole) (hc0 : cond0_0 i) (hc1 : ¬cond0_1 i)
    (x0 : Vec F S1x512x2048 .bf16) (x1 : Vec F S1x192x2048 .bf16) : Vec F S1x192x2048 .f32 :=
  VO0_2.read (Elt F) (VO0_2.writes (Elt F) VO0_2.junk (kernelRun0_A c i arg2 harg2 arg3 harg3 arg4 harg4 hc0 hc1 x0 x1).1)

/-- Case B's pieces for output 2 tile its block (1 store of `S1x192x2048`, checked by the kernel's evaluation: the library's `Piece.tiledL`, linear in the pieces, through a loop's `@[irreducible]` trip theorem too), so they cover it. -/
theorem cover0_B_2 (c : Dev nD) (i : grid1.Coords) (arg2 : Memref sig .tc .vmem S1x512x2048 .bf16) (harg2 : arg2.IsWhole) (arg3 : Memref sig .tc .vmem S1x192x2048 .bf16) (harg3 : arg3.IsWhole) (arg4 : Memref sig .tc .vmem S1x192x2048 .f32) (harg4 : arg4.IsWhole) (hc0 : ¬cond0_0 i) (hc1 : cond0_1 i)
    (x0 : Vec F S1x512x2048 .bf16) (x1 : Vec F S1x192x2048 .bf16) (xo2 : Vec F S1x192x2048 .f32) (y : S1x192x2048.Idx) :
    ∃ pc ∈ (kernelRun0_B c i arg2 harg2 arg3 harg3 arg4 harg4 hc0 hc1 x0 x1 xo2).1, y ∈ pc.1.set :=
  View.cover_of_tiledL (kernelRun0_B c i arg2 harg2 arg3 harg3 arg4 harg4 hc0 hc1 x0 x1 xo2).1 S1x192x2048.size (by sl_kernel_rfl) y

/-- What case B leaves in output 2's staging buffer: its pieces read back over junk. -/
def out0_B_2 (c : Dev nD) (i : grid1.Coords) (arg2 : Memref sig .tc .vmem S1x512x2048 .bf16) (harg2 : arg2.IsWhole) (arg3 : Memref sig .tc .vmem S1x192x2048 .bf16) (harg3 : arg3.IsWhole) (arg4 : Memref sig .tc .vmem S1x192x2048 .f32) (harg4 : arg4.IsWhole) (hc0 : ¬cond0_0 i) (hc1 : cond0_1 i)
    (x0 : Vec F S1x512x2048 .bf16) (x1 : Vec F S1x192x2048 .bf16) (xo2 : Vec F S1x192x2048 .f32) : Vec F S1x192x2048 .f32 :=
  VO0_2.read (Elt F) (VO0_2.writes (Elt F) VO0_2.junk (kernelRun0_B c i arg2 harg2 arg3 harg3 arg4 harg4 hc0 hc1 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg1.N → Vec F S1x192x2048 .f32
  | 0, hn => out0_A_2 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩)
  | n + 1, hn =>
    if h0 : (n + 1) % 32 = 0 then
      if h1 : 1 ≤ (n + 1) % 32 then
        False.elim (by have hN : n + 1 < 64 := lt_of_lt_of_eq hn (show cfg1.N = 64 from N_1); omega)
      else
        out0_A_2 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩)
    else
      if h1 : 1 ≤ (n + 1) % 32 then
        out0_B_2 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn))
      else
        False.elim (by have hN : n + 1 < 64 := lt_of_lt_of_eq hn (show cfg1.N = 64 from N_1); omega)

/-- `outsAt0` at a point of case A: that case's contents. -/
theorem outsAt0_A (c : Dev nD) (t : Fin cfg1.N) (h0 : t.val % 32 = 0) (h1 : ¬1 ≤ t.val % 32) :
    outsAt0 V c t.val t.isLt = out0_A_2 c (grid1.coords t) (ms0_0 t) (hs0_0 t) (ms0_1 t) (hs0_1 t) (ms0_2 t) (hs0_2 t) ((hcond0_0 t).mpr h0) (fun h => h1 ((hcond0_1 t).mp h)) (iblk V c 0 t) (iblk V c 1 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg1.N) (h0 : ¬t.val % 32 = 0) (h1 : 1 ≤ t.val % 32) :
    outsAt0 V c t.val t.isLt = out0_B_2 c (grid1.coords t) (ms0_0 t) (hs0_0 t) (ms0_1 t) (hs0_1 t) (ms0_2 t) (hs0_2 t) (fun h => h0 ((hcond0_0 t).mp h)) ((hcond0_1 t).mpr h1) (iblk V c 0 t) (iblk V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt0 V c t.val t.isLt)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = (outsAt0 V c t.val t.isLt) := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d

/-- Output 2's contents CARRY through the points that leave it idle: at such a point, its buffer not fresh, the proof data's
    `after` is the point before's (the case there stores nothing into the window and its term says so; a case that stores
    into it is not idle there by `liveAt0_2_κ`) — the hypothesis of the library's `Dat.before_out_traj`. -/
theorem hcarry0_2 (c : Dev nD) : ∀ (t : Fin cfg1.N) (_ : t.val ≠ 0), cfg1.idle 2 (grid1.coords t) = true → cfg1.fresh 2 t.val = false →
    (dat V c).after 2 t = (dat V c).after 2 ⟨t.val - 1, by omega⟩ := by
  intro t _ hi _
  have hN : t.val < 64 := lt_of_lt_of_eq t.isLt (show cfg1.N = 64 from N_1)
  rw [after0_2, after0_2]
  by_cases h0 : t.val % 32 = 0
  · by_cases h1 : 1 ≤ t.val % 32
    · exfalso; omega
    · rw [liveAt0_2_A t ((hcond0_0 t).mpr h0) (fun h => h1 ((hcond0_1 t).mp h))] at hi
      exact absurd hi Bool.false_ne_true
  · by_cases h1 : 1 ≤ t.val % 32
    · rw [liveAt0_2_B t (fun h => h0 ((hcond0_0 t).mp h)) ((hcond0_1 t).mpr h1)] at hi
      exact absurd hi Bool.false_ne_true
    · exfalso; omega
/-- At a point of case B output 2's current staging buffer holds what the point before left: the buffer is not fresh
    there (`notFresh0_2_B`: stored into since the region's entry or the last write-back, carried through the points that
    leave it idle by `hcarry0_2`; the library's `Dat.before_out_traj`). -/
theorem before0_2_B (c : Dev nD) (t : Fin cfg1.N) (h0 : ¬t.val % 32 = 0) (h1 : 1 ≤ t.val % 32) (d) :
    (dat V c).before 2 t d = (outsAt0 V c (t.val - 1) (Nat.lt_of_le_of_lt (Nat.sub_le _ _) t.isLt)) := by
  rw [Dat.before_out_traj _ 2 rfl (fun _ _ => rfl) (hcarry0_2 V c) t.val t rfl d,
    if_neg (by rw [notFresh0_2_B t (fun h => h0 ((hcond0_0 t).mp h)) ((hcond0_1 t).mpr h1)]; exact Bool.false_ne_true)]
  dsimp only [dat]

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dat V c).Φ t.succ = (dat V c).Φ t.castSucc from rfl,
    show (dat V c).owesAt () t.succ = (dat V c).owesAt () t.castSucc from rfl]
  have hN : t.val < 64 := lt_of_lt_of_eq t.isLt (show cfg1.N = 64 from N_1)
  by_cases h0 : t.val % 32 = 0
  · by_cases h1 : 1 ≤ t.val % 32
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2_A t ((hcond0_0 t).mpr h0) (fun h => h1 ((hcond0_1 t).mp h))], after0_2]
      rw [outsAt0_A V c t h0 h1]
      unfold out0_A_2
      iintro ⟨HΦ, Ho, ⟨%d0, H0⟩, ⟨%d1, H1⟩, ⟨%d2, H2⟩⟩
      iapply ((kernelRun0_A c (grid1.coords t) _ _ _ _ _ _ ((hcond0_0 t).mpr h0) (fun h => h1 ((hcond0_1 t).mp h)) (iblk V c 0 t) (iblk V c 1 t)).2 Set.univ _)
      isplitl [H0]; · iexact H0
      isplitl [H1]; · iexact H1
      isplitl [H2]; · iexists _; iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _)
  · by_cases h1 : 1 ≤ t.val % 32
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2_B t (fun h => h0 ((hcond0_0 t).mp h)) ((hcond0_1 t).mpr h1)], after0_2]
      rw [outsAt0_B V c t h0 h1]
      simp only [before0_2_B V c t h0 h1]
      unfold out0_B_2
      iintro ⟨HΦ, Ho, ⟨%d0, H0⟩, ⟨%d1, H1⟩, ⟨%d2, H2⟩⟩
      iapply ((kernelRun0_B c (grid1.coords t) _ _ _ _ _ _ (fun h => h0 ((hcond0_0 t).mp h)) ((hcond0_1 t).mpr h1) (iblk V c 0 t) (iblk V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _)
    · exfalso; omega

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Kernel.K1

end
-- ==== Proof.Kernel.K2.Runs.lean ====
/- The `last` call: what the runs of its body share — the windows' blocks at a point, the branch conditions in closed
    form over the grid, which windows are live, the staging memrefs. Everything is stated at a parameter `V`, the buffer
    contents when the call is entered. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel.K2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s (`hA`) and whose body leaves the block in place (`hafter`); one such theorem per input. -/
theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k2_h1`), from the grid coordinates (the skeleton's scalar
    chain substituted). -/
abbrev cond0_0 (i : grid2.Coords) : Prop := k2_cond1 i = 1#1
/-- It holds at the points ≡ 0 (mod 32) — by arithmetic of the point. -/
theorem hcond0_0 : ∀ t : Fin cfg2.N, cond0_0 (grid2.coords t) ↔ t.val % 32 = 0 :=
  (fun t => by
    have ht : t.val < 64 := Nat.lt_of_lt_of_eq t.isLt N_2
    have e0 : (grid2.coords t 0).val = t.val / 32 % 2 := Pipeline.Grid.coords_val t 0 (by decide) rfl
    have e1 : (grid2.coords t 1).val = t.val / 1 % 32 := Pipeline.Grid.coords_val t 1 (by decide) rfl
    simp only [cond0_0, k2_cond1, e0, e1]
    word_cmp
   : ∀ t : Fin grid2.N, cond0_0 (grid2.coords t) ↔ t.val % 32 = 0)

/-- The condition of the body's `scf.if` 1 (`k2_h2`), from the grid coordinates (the skeleton's scalar
    chain substituted). -/
abbrev cond0_1 (i : grid2.Coords) : Prop := k2_cond2 i = 1#1
/-- It holds at the points whose coordinates have 1 ≤ i1 — decided over the grid. -/
theorem hcond0_1 : ∀ t : Fin cfg2.N, cond0_1 (grid2.coords t) ↔ 1 ≤ t.val % 32 :=
  (by decide +kernel : ∀ t : Fin grid2.N, cond0_1 (grid2.coords t) ↔ 1 ≤ t.val % 32)

/-! ## Where the windows are idle (the printed configuration's table `Cfg.idle`) -/

theorem liveAt0_0 : ∀ t : Fin cfg2.N, cfg2.idle 0 (grid2.coords t) = false := fun _ => rfl
theorem liveAt0_1 : ∀ t : Fin cfg2.N, cfg2.idle 1 (grid2.coords t) = false := fun _ => rfl
theorem liveAt0_2 : ∀ t : Fin cfg2.N, cfg2.idle 2 (grid2.coords t) = false := fun _ => rfl
/-- Whether output 3's buffer is FRESH at each position `1 ‥ N` — holds nothing the body stored since the region's entry or the
    last write-back (written back at the point before, or idle there and fresh before it) —, as a bitmask, bit `n` for position `n + 1`; position 0 is fresh. `freshTab0_3_step` checks it against the configuration's own
    step point by point and the library's `Cfg.fresh_tab` makes it `Cfg.fresh` (`fresh0_3_eq`). -/
def freshTab0_3 : ℕ → Bool
  | 0 => true
  | n + 1 => (0x8000000080000000 : ℕ).testBit n
theorem freshTab0_3_step : ∀ t : Fin cfg2.N,
    freshTab0_3 (t.val + 1) = ((cfg2.win 3).flush t || (cfg2.idle 3 (cfg2.grid.coords t) && freshTab0_3 t.val)) := by decide +kernel
theorem fresh0_3_eq (t : Fin cfg2.N) : cfg2.fresh 3 t.val = freshTab0_3 t.val :=
  Pipeline.Cfg.fresh_tab cfg2 3 freshTab0_3 rfl freshTab0_3_step t.val (Nat.le_of_lt t.isLt)
/-- At the points of case A the configuration (`Cfg.idle`) calls output 3 live: the case stores into it. -/
theorem liveAt0_3_A : ∀ t : Fin cfg2.N, cond0_0 (grid2.coords t) → ¬cond0_1 (grid2.coords t) → cfg2.idle 3 (grid2.coords t) = false := by decide +kernel
/-- At the points of case B the configuration (`Cfg.idle`) calls output 3 live: the case stores into it. -/
theorem liveAt0_3_B : ∀ t : Fin cfg2.N, ¬cond0_0 (grid2.coords t) → cond0_1 (grid2.coords t) → cfg2.idle 3 (grid2.coords t) = false := by decide +kernel
/-- At the points of case B, which keeps output 3's prior contents (reads it before covering, or covers it in part), the
    window's buffer is not FRESH: something was stored into it since the region's entry or its last write-back, idle points
    between or not. -/
theorem notFresh0_3_B : ∀ t : Fin cfg2.N, ¬cond0_0 (grid2.coords t) → cond0_1 (grid2.coords t) → cfg2.fresh 3 t.val = false := by
  intro t; rw [fresh0_3_eq t]; revert t; decide +kernel

/-! ## The kernel body on any staging memrefs: a subtype the run finds -/

/-- One staging buffer of output window 2, through which its contents are stated (`View.read_writes_of_cover`: the
    choice does not matter). -/
abbrev VO0_2 : View sig .tc .vmem S1x192x512 .f32 := (Memref.whole cc2_stg2_0 : Memref sig .tc .vmem S1x192x512 .f32).view
abbrev VO0_3 : View sig .tc .vmem S1x192x2048 .f32 := (Memref.whole cc2_stg3_0 : Memref sig .tc .vmem S1x192x2048 .f32).view
/-- Each window's current staging memref at point `t`, spelled as the pipeline passes it (`bodyAt2`), and its wholeness. -/
abbrev ms0_0 (t : Fin cfg2.N) : Memref sig .tc .vmem S1x512x2048 .bf16 := win2_0.stage (cfg2.slots t 0)
abbrev hs0_0 (t : Fin cfg2.N) : (ms0_0 t).IsWhole := hstage2_0 ((cfg2.slots t 0).cast nbuf2_0)
abbrev ms0_1 (t : Fin cfg2.N) : Memref sig .tc .vmem S1x192x2048 .bf16 := win2_1.stage (cfg2.slots t 1)
abbrev hs0_1 (t : Fin cfg2.N) : (ms0_1 t).IsWhole := hstage2_1 ((cfg2.slots t 1).cast nbuf2_1)
abbrev ms0_2 (t : Fin cfg2.N) : Memref sig .tc .vmem S1x192x512 .f32 := win2_2.stage (cfg2.slots t 2)
abbrev hs0_2 (t : Fin cfg2.N) : (ms0_2 t).IsWhole := hstage2_2 ((cfg2.slots t 2).cast nbuf2_2)
abbrev ms0_3 (t : Fin cfg2.N) : Memref sig .tc .vmem S1x192x2048 .f32 := win2_3.stage (cfg2.slots t 3)
abbrev hs0_3 (t : Fin cfg2.N) : (ms0_3 t).IsWhole := hstage2_3 ((cfg2.slots t 3).cast nbuf2_3)

end Cert.Kernel.K2

end
-- ==== Proof.Kernel.K2.RunA.lean ====
/- The `last` call: the run of its body at the points of case A (a batch's first row block), with the pieces each
    output buffer ends with. -/
module

public import proofs.«01_k».proof.Proof.Kernel.K2.Runs

@[expose] public section

set_option maxRecDepth 16384

noncomputable section

namespace Cert.Kernel.K2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 32), WITH the
    proof that on whole staging memrefs — the inputs' at their contents, the other outputs' at
    anything, the body runs to the continuation holding the inputs' as they were,
    each output's buffer with its pieces written: the functions are their skeletons, which `sl_exec` runs — each `scf.if` decided by the case's hypotheses `hc·`; the pieces are
    the witness that run finds (assigned when `iexact` hands the buffer to the continuation). -/
noncomputable def kernelRun0_A (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : cond0_0 i) (hc1 : ¬cond0_1 i)
    (x0 : Vec F S1x512x2048 .bf16) (x1 : Vec F S1x192x2048 .bf16) :
    Σ' (L2 : List (View.Piece (Elt F) S1x192x512 .f32)), { L3 : List (View.Piece (Elt F) S1x192x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc2_last i arg2 harg2 arg3 harg3 arg4 harg4 arg5 harg5) K } := by
  refine ⟨?_, ?_, fun E K => ?run⟩
  case run =>
    simp only [cc2_last_eq_skeleton]; unfold cc2_last_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.K2

end
-- ==== Proof.Kernel.K2.RunB.lean ====
/- The `last` call: the run of its body at the points of case B (a later row block of a batch), with the pieces each
    output buffer ends with. -/
module

public import proofs.«01_k».proof.Proof.Kernel.K2.RunA

@[expose] public section

set_option maxRecDepth 16384

noncomputable section

namespace Cert.Kernel.K2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 62 of 64), WITH the
    proof that on whole staging memrefs — the inputs' at their contents, the outputs it reads before covering (3) at their running contents `xo·`, the other outputs' at
    anything, the body runs to the continuation holding the inputs' as they were,
    each output's buffer with its pieces written: the functions are their skeletons, which `sl_exec` runs — each `scf.if` decided by the case's hypotheses `hc·`; the pieces are
    the witness that run finds (assigned when `iexact` hands the buffer to the continuation). -/
noncomputable def kernelRun0_B (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : ¬cond0_0 i) (hc1 : cond0_1 i)
    (x0 : Vec F S1x512x2048 .bf16) (x1 : Vec F S1x192x2048 .bf16) (xo3 : Vec F S1x192x2048 .f32) :
    Σ' (L2 : List (View.Piece (Elt F) S1x192x512 .f32)), { L3 : List (View.Piece (Elt F) S1x192x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc2_last i arg2 harg2 arg3 harg3 arg4 harg4 arg5 harg5) K } := by
  refine ⟨?_, ?_, fun E K => ?run⟩
  case run =>
    simp only [cc2_last_eq_skeleton]; unfold cc2_last_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.K2

end
-- ==== Proof.Kernel.K2.Body.lean ====
/- The `last` call: what its outputs hold after each point, the pipeline's proof data, and the body obligation. -/
module

public import proofs.«01_k».proof.Proof.Kernel.K2.RunB

@[expose] public section

set_option maxRecDepth 16384

noncomputable section

namespace Cert.Kernel.K2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 2 tile its block (1 store of `S1x192x512`, checked by the kernel's evaluation: the library's `Piece.tiledL`, linear in the pieces, through a loop's `@[irreducible]` trip theorem too), so they cover it. -/
theorem cover0_A_2 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : cond0_0 i) (hc1 : ¬cond0_1 i)
    (x0 : Vec F S1x512x2048 .bf16) (x1 : Vec F S1x192x2048 .bf16) (y : S1x192x512.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x192x512.size (by sl_kernel_rfl) y

/-- What case A leaves in output 2's staging buffer: its pieces read back over junk. -/
def out0_A_2 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : cond0_0 i) (hc1 : ¬cond0_1 i)
    (x0 : Vec F S1x512x2048 .bf16) (x1 : Vec F S1x192x2048 .bf16) : Vec F S1x192x512 .f32 :=
  VO0_2.read (Elt F) (VO0_2.writes (Elt F) VO0_2.junk (kernelRun0_A c i arg2 harg2 arg3 harg3 arg4 harg4 arg5 harg5 hc0 hc1 x0 x1).1)

/-- Case A's pieces for output 3 tile its block (1 store of `S1x192x2048`, checked by the kernel's evaluation: the library's `Piece.tiledL`, linear in the pieces, through a loop's `@[irreducible]` trip theorem too), so they cover it. -/
theorem cover0_A_3 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : cond0_0 i) (hc1 : ¬cond0_1 i)
    (x0 : Vec F S1x512x2048 .bf16) (x1 : Vec F S1x192x2048 .bf16) (y : S1x192x2048.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x192x2048.size (by sl_kernel_rfl) y

/-- What case A leaves in output 3's staging buffer: its pieces read back over junk. -/
def out0_A_3 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : cond0_0 i) (hc1 : ¬cond0_1 i)
    (x0 : Vec F S1x512x2048 .bf16) (x1 : Vec F S1x192x2048 .bf16) : Vec F S1x192x2048 .f32 :=
  VO0_3.read (Elt F) (VO0_3.writes (Elt F) VO0_3.junk (kernelRun0_A c i arg2 harg2 arg3 harg3 arg4 harg4 arg5 harg5 hc0 hc1 x0 x1).2.1)

/-- Case B's pieces for output 2 tile its block (1 store of `S1x192x512`, checked by the kernel's evaluation: the library's `Piece.tiledL`, linear in the pieces, through a loop's `@[irreducible]` trip theorem too), so they cover it. -/
theorem cover0_B_2 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : ¬cond0_0 i) (hc1 : cond0_1 i)
    (x0 : Vec F S1x512x2048 .bf16) (x1 : Vec F S1x192x2048 .bf16) (xo3 : Vec F S1x192x2048 .f32) (y : S1x192x512.Idx) :
    ∃ pc ∈ (kernelRun0_B c i arg2 harg2 arg3 harg3 arg4 harg4 arg5 harg5 hc0 hc1 x0 x1 xo3).1, y ∈ pc.1.set :=
  View.cover_of_tiledL (kernelRun0_B c i arg2 harg2 arg3 harg3 arg4 harg4 arg5 harg5 hc0 hc1 x0 x1 xo3).1 S1x192x512.size (by sl_kernel_rfl) y

/-- What case B leaves in output 2's staging buffer: its pieces read back over junk. -/
def out0_B_2 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : ¬cond0_0 i) (hc1 : cond0_1 i)
    (x0 : Vec F S1x512x2048 .bf16) (x1 : Vec F S1x192x2048 .bf16) (xo3 : Vec F S1x192x2048 .f32) : Vec F S1x192x512 .f32 :=
  VO0_2.read (Elt F) (VO0_2.writes (Elt F) VO0_2.junk (kernelRun0_B c i arg2 harg2 arg3 harg3 arg4 harg4 arg5 harg5 hc0 hc1 x0 x1 xo3).1)

/-- Case B's pieces for output 3 tile its block (1 store of `S1x192x2048`, checked by the kernel's evaluation: the library's `Piece.tiledL`, linear in the pieces, through a loop's `@[irreducible]` trip theorem too), so they cover it. -/
theorem cover0_B_3 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : ¬cond0_0 i) (hc1 : cond0_1 i)
    (x0 : Vec F S1x512x2048 .bf16) (x1 : Vec F S1x192x2048 .bf16) (xo3 : Vec F S1x192x2048 .f32) (y : S1x192x2048.Idx) :
    ∃ pc ∈ (kernelRun0_B c i arg2 harg2 arg3 harg3 arg4 harg4 arg5 harg5 hc0 hc1 x0 x1 xo3).2.1, y ∈ pc.1.set :=
  View.cover_of_tiledL (kernelRun0_B c i arg2 harg2 arg3 harg3 arg4 harg4 arg5 harg5 hc0 hc1 x0 x1 xo3).2.1 S1x192x2048.size (by sl_kernel_rfl) y

/-- What case B leaves in output 3's staging buffer: its pieces read back over junk. -/
def out0_B_3 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : ¬cond0_0 i) (hc1 : cond0_1 i)
    (x0 : Vec F S1x512x2048 .bf16) (x1 : Vec F S1x192x2048 .bf16) (xo3 : Vec F S1x192x2048 .f32) : Vec F S1x192x2048 .f32 :=
  VO0_3.read (Elt F) (VO0_3.writes (Elt F) VO0_3.junk (kernelRun0_B c i arg2 harg2 arg3 harg3 arg4 harg4 arg5 harg5 hc0 hc1 x0 x1 xo3).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg2.N → Vec F S1x192x512 .f32 × Vec F S1x192x2048 .f32
  | 0, hn => (out0_A_2 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), out0_A_3 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩))
  | n + 1, hn =>
    if h0 : (n + 1) % 32 = 0 then
      if h1 : 1 ≤ (n + 1) % 32 then
        False.elim (by have hN : n + 1 < 64 := lt_of_lt_of_eq hn (show cfg2.N = 64 from N_2); omega)
      else
        (out0_A_2 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩), out0_A_3 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩))
    else
      if h1 : 1 ≤ (n + 1) % 32 then
        (out0_B_2 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2, out0_B_3 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2)
      else
        False.elim (by have hN : n + 1 < 64 := lt_of_lt_of_eq hn (show cfg2.N = 64 from N_2); omega)

/-- `outsAt0` at a point of case A: that case's contents. -/
theorem outsAt0_A (c : Dev nD) (t : Fin cfg2.N) (h0 : t.val % 32 = 0) (h1 : ¬1 ≤ t.val % 32) :
    outsAt0 V c t.val t.isLt = (out0_A_2 c (grid2.coords t) (ms0_0 t) (hs0_0 t) (ms0_1 t) (hs0_1 t) (ms0_2 t) (hs0_2 t) (ms0_3 t) (hs0_3 t) ((hcond0_0 t).mpr h0) (fun h => h1 ((hcond0_1 t).mp h)) (iblk V c 0 t) (iblk V c 1 t), out0_A_3 c (grid2.coords t) (ms0_0 t) (hs0_0 t) (ms0_1 t) (hs0_1 t) (ms0_2 t) (hs0_2 t) (ms0_3 t) (hs0_3 t) ((hcond0_0 t).mpr h0) (fun h => h1 ((hcond0_1 t).mp h)) (iblk V c 0 t) (iblk V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg2.N) (h0 : ¬t.val % 32 = 0) (h1 : 1 ≤ t.val % 32) :
    outsAt0 V c t.val t.isLt = (out0_B_2 c (grid2.coords t) (ms0_0 t) (hs0_0 t) (ms0_1 t) (hs0_1 t) (ms0_2 t) (hs0_2 t) (ms0_3 t) (hs0_3 t) (fun h => h0 ((hcond0_0 t).mp h)) ((hcond0_1 t).mpr h1) (iblk V c 0 t) (iblk V c 1 t) (outsAt0 V c (t.val - 1) (Nat.lt_of_le_of_lt (Nat.sub_le _ _) t.isLt)).2, out0_B_3 c (grid2.coords t) (ms0_0 t) (hs0_0 t) (ms0_1 t) (hs0_1 t) (ms0_2 t) (hs0_2 t) (ms0_3 t) (hs0_3 t) (fun h => h0 ((hcond0_0 t).mp h)) ((hcond0_1 t).mpr h1) (iblk V c 0 t) (iblk V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt0 V c t.val t.isLt).1
    | ⟨3, _⟩ => (outsAt0 V c t.val t.isLt).2
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`). -/
theorem after0_0 (c : Dev nD) (t : Fin cfg2.N) : (dat V c).after 0 t = iblk V c 0 t := by dsimp only [dat]
theorem after0_1 (c : Dev nD) (t : Fin cfg2.N) : (dat V c).after 1 t = iblk V c 1 t := by dsimp only [dat]
theorem after0_2 (c : Dev nD) (t : Fin cfg2.N) : (dat V c).after 2 t = (outsAt0 V c t.val t.isLt).1 := by dsimp only [dat]
theorem after0_3 (c : Dev nD) (t : Fin cfg2.N) : (dat V c).after 3 t = (outsAt0 V c t.val t.isLt).2 := by dsimp only [dat]

/-- Each input's current staging buffer holds its block at every point, fetched there or not (`beforeK_W_of`). -/
theorem before0_0 (c : Dev nD) (t : Fin cfg2.N) (d) : (dat V c).before 0 t d = iblk V c 0 t :=
  before0_0_of V (dat V c) (A_eq V c 0) (after0_0 V c) t d
theorem before0_1 (c : Dev nD) (t : Fin cfg2.N) (d) : (dat V c).before 1 t d = iblk V c 1 t :=
  before0_1_of V (dat V c) (A_eq V c 1) (after0_1 V c) t d

/-- Output 3's contents CARRY through the points that leave it idle: at such a point, its buffer not fresh, the proof data's
    `after` is the point before's (the case there stores nothing into the window and its term says so; a case that stores
    into it is not idle there by `liveAt0_3_κ`) — the hypothesis of the library's `Dat.before_out_traj`. -/
theorem hcarry0_3 (c : Dev nD) : ∀ (t : Fin cfg2.N) (_ : t.val ≠ 0), cfg2.idle 3 (grid2.coords t) = true → cfg2.fresh 3 t.val = false →
    (dat V c).after 3 t = (dat V c).after 3 ⟨t.val - 1, by omega⟩ := by
  intro t _ hi _
  have hN : t.val < 64 := lt_of_lt_of_eq t.isLt (show cfg2.N = 64 from N_2)
  rw [after0_3, after0_3]
  by_cases h0 : t.val % 32 = 0
  · by_cases h1 : 1 ≤ t.val % 32
    · exfalso; omega
    · rw [liveAt0_3_A t ((hcond0_0 t).mpr h0) (fun h => h1 ((hcond0_1 t).mp h))] at hi
      exact absurd hi Bool.false_ne_true
  · by_cases h1 : 1 ≤ t.val % 32
    · rw [liveAt0_3_B t (fun h => h0 ((hcond0_0 t).mp h)) ((hcond0_1 t).mpr h1)] at hi
      exact absurd hi Bool.false_ne_true
    · exfalso; omega
/-- At a point of case B output 3's current staging buffer holds what the point before left: the buffer is not fresh
    there (`notFresh0_3_B`: stored into since the region's entry or the last write-back, carried through the points that
    leave it idle by `hcarry0_3`; the library's `Dat.before_out_traj`). -/
theorem before0_3_B (c : Dev nD) (t : Fin cfg2.N) (h0 : ¬t.val % 32 = 0) (h1 : 1 ≤ t.val % 32) (d) :
    (dat V c).before 3 t d = (outsAt0 V c (t.val - 1) (Nat.lt_of_le_of_lt (Nat.sub_le _ _) t.isLt)).2 := by
  rw [Dat.before_out_traj _ 3 rfl (fun _ _ => rfl) (hcarry0_3 V c) t.val t rfl d,
    if_neg (by rw [notFresh0_3_B t (fun h => h0 ((hcond0_0 t).mp h)) ((hcond0_1 t).mpr h1)]; exact Bool.false_ne_true)]
  dsimp only [dat]

/-! ## The body obligation, at a generic point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0_0, before0_1]
  rw [show (dat V c).Φ t.succ = (dat V c).Φ t.castSucc from rfl,
    show (dat V c).owesAt () t.succ = (dat V c).owesAt () t.castSucc from rfl]
  have hN : t.val < 64 := lt_of_lt_of_eq t.isLt (show cfg2.N = 64 from N_2)
  by_cases h0 : t.val % 32 = 0
  · by_cases h1 : 1 ≤ t.val % 32
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3_A t ((hcond0_0 t).mpr h0) (fun h => h1 ((hcond0_1 t).mp h))], after0_3]
      rw [outsAt0_A V c t h0 h1]
      unfold out0_A_2 out0_A_3; (try dsimp only)
      iintro ⟨HΦ, Ho, ⟨%d0, H0⟩, ⟨%d1, H1⟩, ⟨%d2, H2⟩, ⟨%d3, H3⟩⟩
      iapply ((kernelRun0_A c (grid2.coords t) _ _ _ _ _ _ _ _ ((hcond0_0 t).mpr h0) (fun h => h1 ((hcond0_1 t).mp h)) (iblk V c 0 t) (iblk V c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _)
      unfold owns; iexists _; isplitr
      swap; · iexact H3
      ipureintro; exact View.read_writes_of_cover _ _ _ _ _ (cover0_A_3 c _ _ _ _ _ _ _ _ _ _ _ _ _)
  · by_cases h1 : 1 ≤ t.val % 32
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3_B t (fun h => h0 ((hcond0_0 t).mp h)) ((hcond0_1 t).mpr h1)], after0_3]
      rw [outsAt0_B V c t h0 h1]
      simp only [before0_3_B V c t h0 h1]
      unfold out0_B_2 out0_B_3; (try dsimp only)
      iintro ⟨HΦ, Ho, ⟨%d0, H0⟩, ⟨%d1, H1⟩, ⟨%d2, H2⟩, ⟨%d3, H3⟩⟩
      iapply ((kernelRun0_B c (grid2.coords t) _ _ _ _ _ _ _ _ (fun h => h0 ((hcond0_0 t).mp h)) ((hcond0_1 t).mpr h1) (iblk V c 0 t) (iblk V c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _)
      unfold owns; iexists _; isplitr
      swap; · iexact H3
      ipureintro; exact View.read_writes_of_cover _ _ _ _ _ (cover0_B_3 c _ _ _ _ _ _ _ _ _ _ _ _ _ _)
    · exfalso; omega

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.Kernel.K2

end
-- ==== Proof.Kernel.Run.lean ====
/- The whole program run: its host stretches and its three calls in order, the buffer contents at each boundary between
    them, and from these the frame claim and what every buffer holds at the end. -/
module

public import proofs.«01_k».proof.Proof.Kernel.K0.Body
public import proofs.«01_k».proof.Proof.Kernel.K1.Body
public import proofs.«01_k».proof.Proof.Kernel.K2.Body
public import Idealize.ShloMosaic.Lib.Pipeline.RegionsLoop
public import Idealize.ShloMosaic.Lib.Pipeline.FrameSuffix
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v11, main_v12, main_v13, main_v14, main_v15, main_v16, main_v17, main_v18, main_v19]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (K0.dat (V1 m ρ) c).arrAt w cfg0.N
theorem W2_arr (c : Dev nD) (w : Fin cfg0.W) :
    W2 m ρ c (Proc.devRef .tc (Pipeline.arrRef spec0 w)) = (K0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `K0.A_eq`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((K0.dat (V1 m ρ) c).arrAt_in w (h w rfl) _).trans (K0.A_eq (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of the library's `unscopedBufs_of_arrays`. -/
theorem hF0 (c : Dev nD) (w : Fin cfg0.W) : (K0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (K1.dat (V3 m ρ) c).arrAt w cfg1.N
theorem W4_arr (c : Dev nD) (w : Fin cfg1.W) :
    W4 m ρ c (Proc.devRef .tc (Pipeline.arrRef spec1 w)) = (K1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `K1.A_eq`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((K1.dat (V3 m ρ) c).arrAt_in w (h w rfl) _).trans (K1.A_eq (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of the library's `unscopedBufs_of_arrays`. -/
theorem hF1 (c : Dev nD) (w : Fin cfg1.W) : (K1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered. -/
def W6 (c : Dev nD) : Valuation τ sig (Elt F) :=
  Pipeline.withArrays spec2 c (W5 m ρ c) fun w => (K2.dat (V5 m ρ) c).arrAt w cfg2.N
theorem W6_arr (c : Dev nD) (w : Fin cfg2.W) :
    W6 m ρ c (Proc.devRef .tc (Pipeline.arrRef spec2 w)) = (K2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `K2.A_eq`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((K2.dat (V5 m ρ) c).arrAt_in w (h w rfl) _).trans (K2.A_eq (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of the library's `unscopedBufs_of_arrays`. -/
theorem hF2 (c : Dev nD) (w : Fin cfg2.W) : (K2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the configuration. -/
def pdats : (p : Fin 3) → (c : Dev nD) → Dat τ (Elt F) Unit ℕ (UR sig nD τ) ℕ (Pipeline.pin (pcfgs (F := F)) adm p) c
  | ⟨0, _⟩ => fun c => K0.dat (V1 m ρ) c
  | ⟨1, _⟩ => fun c => K1.dat (V3 m ρ) c
  | ⟨2, _⟩ => fun c => K2.dat (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (K0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (K0.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (K1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (K1.A_eq (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (K2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (K2.A_eq (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of the whole program, at any reading of the floats: from any memory with zero counters every weakly fair
    execution of @main on the TensorCores terminates, nothing faulting, with every unscoped buffer at the last
    boundary's contents `W7` and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The frame claim at any reading of the floats: the arguments end as launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c)⟩, h.2⟩) (run m ρ)

end Cert.Kernel.Run

end
-- ==== Proof.KernelIdeal.K0.Runs.lean ====
/- The `first` call: what the runs of its body share — the windows' blocks at a point, the branch conditions in closed
    form over the grid, which windows are live, the staging memrefs. Everything is stated at a parameter `V`, the buffer
    contents when the call is entered. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.K0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s (`hA`) and whose body leaves the block in place (`hafter`); one such theorem per input. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 32) — by arithmetic of the point. -/
theorem hcond0_0 : ∀ t : Fin cfg0.N, cond0_0 (grid0.coords t) ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 32 :=
  (by decide +kernel : ∀ t : Fin grid0.N, cond0_1 (grid0.coords t) ↔ 1 ≤ t.val % 32)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- Whether output 7's buffer is FRESH at each position `1 ‥ N` — holds nothing the body stored since the region's entry or the
    last write-back (written back at the point before, or idle there and fresh before it) —, as a bitmask, bit `n` for position `n + 1`; position 0 is fresh. `freshTab0_7_step` checks it against the configuration's own
    step point by point and the library's `Cfg.fresh_tab` makes it `Cfg.fresh` (`fresh0_7_eq`). -/
def freshTab0_7 : ℕ → Bool
  | 0 => true
  | n + 1 => (0x8000000080000000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the configuration (`Cfg.idle`) calls output 7 live: the case stores into it. -/
theorem liveAt0_7_A : ∀ t : Fin cfg0.N, cond0_0 (grid0.coords t) → ¬cond0_1 (grid0.coords t) → cfg0.idle 7 (grid0.coords t) = false := by decide +kernel
/-- At the points of case B the configuration (`Cfg.idle`) calls output 7 live: the case stores into it. -/
theorem liveAt0_7_B : ∀ t : Fin cfg0.N, ¬cond0_0 (grid0.coords t) → cond0_1 (grid0.coords t) → cfg0.idle 7 (grid0.coords t) = false := by decide +kernel
/-- At the points of case B, which keeps output 7's prior contents (reads it before covering, or covers it in part), the
    window's buffer is not FRESH: something was stored into it since the region's entry or its last write-back, idle points
    between or not. -/
theorem notFresh0_7_B : ∀ t : Fin cfg0.N, ¬cond0_0 (grid0.coords t) → cond0_1 (grid0.coords t) → cfg0.fresh 7 t.val = false := by
  intro t; rw [fresh0_7_eq t]; revert t; decide +kernel

/-! ## The kernel body on any staging memrefs: a subtype the run finds -/

/-- One staging buffer of output window 5, through which its contents are stated (`View.read_writes_of_cover`: the
    choice does not matter). -/
abbrev VO0_5 : View sig .tc .vmem S1x512x2048 .bf16 := (Memref.whole cc0_stg5_0 : Memref sig .tc .vmem S1x512x2048 .bf16).view
abbrev VO0_6 : View sig .tc .vmem S1x192x512 .f32 := (Memref.whole cc0_stg6_0 : Memref sig .tc .vmem S1x192x512 .f32).view
abbrev VO0_7 : View sig .tc .vmem S1x192x2048 .f32 := (Memref.whole cc0_stg7_0 : Memref sig .tc .vmem S1x192x2048 .f32).view
/-- Each window's current staging memref at point `t`, spelled as the pipeline passes it (`bodyAt0`), and its wholeness. -/
abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x192x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x192x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x192x2048 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x128 .f32 := Memref.whole cc0_scratch0
abbrev scM0_1 : Memref sig .tc .vmem S512x128 .bf16 := Memref.whole cc0_scratch1

/-- The staging buffers of the two later calls, each whole at some contents: untouched by this call. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The invariant with the scratch operands as memrefs owned at some contents: what the body obligation hands the run
    and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest c) ∗ (∃ r, prngReg c r)) := by
  unfold Pipeline.ΦA rest; rw [scopedRest0_eq]; simp only [scM0_0, scM0_1, owns_whole]; try rfl

end Cert.KernelIdeal.K0

end
-- ==== Proof.KernelIdeal.K0.RunA.lean ====
/- The `first` call: the run of its body at the points of case A (a batch's first row block), with the pieces each
    output buffer ends with. -/
module

public import proofs.«01_k».proof.Proof.KernelIdeal.K0.Runs

@[expose] public section

set_option maxRecDepth 16384

noncomputable section

namespace Cert.KernelIdeal.K0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option backward.proofsInPublic true in
set_option maxHeartbeats 1000000 in
/-- What the body's stores leave in each output's staging memref, as pieces (last first) IN CASE A (`scf.if` 0 taken, `scf.if` 1 not taken: points 0, 32), WITH the
    proof that on whole staging memrefs — the inputs' at their contents, the other outputs' at
    anything, the scratch buffers at anything, the body runs to the continuation holding the inputs' as they were,
    the scratch at some contents, each output's buffer with its pieces written: the functions are their skeletons, which `sl_exec` runs — each `scf.if` decided by the case's hypotheses `hc·`; the pieces are
    the witness that run finds (assigned when `iexact` hands the buffer to the continuation). -/
noncomputable def kernelRun0_A (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) :
    Σ' (L5 : List (View.Piece (Elt F) S1x512x2048 .bf16)), Σ' (L6 : List (View.Piece (Elt F) S1x192x512 .f32)), { L7 : List (View.Piece (Elt F) S1x192x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d)) -∗ K ⟨⟩))
          ⊢ wp frame (wpE (defs₀ (F := F)) Variants.none c none) E (cc0_first i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_first_eq_skeleton]; unfold cc0_first_skel
    simp only [k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    have hrd0 : ∀ (𝒱 : Variants) (c : Dev nD) (bd : Option 𝒱.V) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (v18 : IVec S32x128 32) (v20 : IVec S32x128 1) (v42 : IVec S32x128 32) (v64 : IVec S32x128 32) (c64_i32_24 : BitVec 32) (v66 : IVec S32x128 32) (v73 : IVec S32x128 32) (v79 : IVec S32x128 32) (X_arg2 : BufTy.Contents (Elt F) arg2.view.ty) (X_arg3 : BufTy.Contents (Elt F) arg3.view.ty) (X_arg10 : BufTy.Contents (Elt F) arg10.view.ty) (X_arg11 : BufTy.Contents (Elt F) arg11.view.ty) (hrdF : BufTy.Contents (Elt F) arg7.view.ty) (hrdB : LoadRect S1x512x2048), arg7.view.readAt (Elt F) hrdB (arg7.view.writes (Elt F) hrdF (pb_k0_t1 (F := F) 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 (Scf.trips k0_t1_loop.lb k0_t1_loop.ub k0_t1_loop.st))) = arg7.view.readCov (pb_k0_t1 (F := F) 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 (Scf.trips k0_t1_loop.lb k0_t1_loop.ub k0_t1_loop.st)) S1x32x128.size (by sl_kernel_rfl) (hrdB.idx hrdJ))
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    iexists _, _; isplitr; swap; · iexact HS1
    ipureintro; rfl

end Cert.KernelIdeal.K0

end
-- ==== Proof.KernelIdeal.K0.RunB.lean ====
/- The `first` call: the run of its body at the points of case B (a later row block of a batch), with the pieces each
    output buffer ends with. -/
module

public import proofs.«01_k».proof.Proof.KernelIdeal.K0.RunA

@[expose] public section

set_option maxRecDepth 16384

noncomputable section

namespace Cert.KernelIdeal.K0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option backward.proofsInPublic true in
set_option maxHeartbeats 1000000 in
/-- What the body's stores leave in each output's staging memref, as pieces (last first) IN CASE B (`scf.if` 0 not taken, `scf.if` 1 taken: points 1, 2, … 63: 62 of 64), WITH the
    proof that on whole staging memrefs — the inputs' at their contents, the outputs it reads before covering (7) at their running contents `xo·`, the other outputs' at
    anything, the scratch buffers at anything, the body runs to the continuation holding the inputs' as they were,
    the scratch at some contents, each output's buffer with its pieces written: the functions are their skeletons, which `sl_exec` runs — each `scf.if` decided by the case's hypotheses `hc·`; the pieces are
    the witness that run finds (assigned when `iexact` hands the buffer to the continuation). -/
noncomputable def kernelRun0_B (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) :
    Σ' (L5 : List (View.Piece (Elt F) S1x512x2048 .bf16)), Σ' (L6 : List (View.Piece (Elt F) S1x192x512 .f32)), { L7 : List (View.Piece (Elt F) S1x192x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xo7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d)) -∗ K ⟨⟩))
          ⊢ wp frame (wpE (defs₀ (F := F)) Variants.none c none) E (cc0_first i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_first_eq_skeleton]; unfold cc0_first_skel
    simp only [k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    have hrd0 : ∀ (𝒱 : Variants) (c : Dev nD) (bd : Option 𝒱.V) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (v18 : IVec S32x128 32) (v20 : IVec S32x128 1) (v42 : IVec S32x128 32) (v64 : IVec S32x128 32) (c64_i32_24 : BitVec 32) (v66 : IVec S32x128 32) (v73 : IVec S32x128 32) (v79 : IVec S32x128 32) (X_arg2 : BufTy.Contents (Elt F) arg2.view.ty) (X_arg3 : BufTy.Contents (Elt F) arg3.view.ty) (X_arg10 : BufTy.Contents (Elt F) arg10.view.ty) (X_arg11 : BufTy.Contents (Elt F) arg11.view.ty) (hrdF : BufTy.Contents (Elt F) arg7.view.ty) (hrdB : LoadRect S1x512x2048), arg7.view.readAt (Elt F) hrdB (arg7.view.writes (Elt F) hrdF (pb_k0_t1 (F := F) 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 (Scf.trips k0_t1_loop.lb k0_t1_loop.ub k0_t1_loop.st))) = arg7.view.readCov (pb_k0_t1 (F := F) 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 v18 v20 v42 v64 c64_i32_24 v66 v73 v79 X_arg2 X_arg3 X_arg10 X_arg11 (Scf.trips k0_t1_loop.lb k0_t1_loop.ub k0_t1_loop.st)) S1x32x128.size (by sl_kernel_rfl) (hrdB.idx hrdJ))
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]
    · iexists _, _; isplitr; swap; · iexact HS0
      ipureintro; rfl
    iexists _, _; isplitr; swap; · iexact HS1
    ipureintro; rfl

end Cert.KernelIdeal.K0

end
-- ==== Proof.KernelIdeal.K0.Body.lean ====
/- The `first` call: what its outputs hold after each point, the pipeline's proof data, and the body obligation. -/
module

public import proofs.«01_k».proof.Proof.KernelIdeal.K0.RunB

@[expose] public section

set_option maxRecDepth 16384

noncomputable section

namespace Cert.KernelIdeal.K0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 5 tile its block (256 stores of `S1x32x128`, checked by the kernel's evaluation: the library's `Piece.tiledL`, linear in the pieces, through a loop's `@[irreducible]` trip theorem too), so they cover it. -/
theorem cover0_A_5 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) (y : S1x512x2048.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).1 S1x32x128.size (by sl_kernel_rfl) y

/-- What case A leaves in output 5's staging buffer: its pieces read back over junk. -/
def out0_A_5 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) : Vec F S1x512x2048 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3 x4).1)

/-- Case A's pieces for output 6 tile its block (1 store of `S1x192x512`, checked by the kernel's evaluation: the library's `Piece.tiledL`, linear in the pieces, through a loop's `@[irreducible]` trip theorem too), so they cover it. -/
theorem cover0_A_6 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) (y : S1x192x512.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.1 S1x192x512.size (by sl_kernel_rfl) y

/-- What case A leaves in output 6's staging buffer: its pieces read back over junk. -/
def out0_A_6 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) : Vec F S1x192x512 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3 x4).2.1)

/-- Case A's pieces for output 7 tile its block (1 store of `S1x192x2048`, checked by the kernel's evaluation: the library's `Piece.tiledL`, linear in the pieces, through a loop's `@[irreducible]` trip theorem too), so they cover it. -/
theorem cover0_A_7 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) (y : S1x192x2048.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.2.1 S1x192x2048.size (by sl_kernel_rfl) y

/-- What case A leaves in output 7's staging buffer: its pieces read back over junk. -/
def out0_A_7 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i)
    (x0 : Vec F S1x512x2048 .bf16) (x1 : Vec F S1x512x1024 .i8) (x2 : Vec F S1x16x512 .f32) (x3 : Vec F S1x16x512 .i8) (x4 : Vec F S1x192x2048 .bf16) : Vec F S1x192x2048 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4).2.2.1)

/-- Case B's pieces for output 5 tile its block (256 stores of `S1x32x128`, checked by the kernel's evaluation: the library's `Piece.tiledL`, linear in the pieces, through a loop's `@[irreducible]` trip theorem too), so they cover it. -/
theorem cover0_B_5 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) (y : S1x512x2048.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xo7).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xo7).1 S1x32x128.size (by sl_kernel_rfl) y

/-- What case B leaves in output 5's staging buffer: its pieces read back over junk. -/
def out0_B_5 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) : Vec F S1x512x2048 .bf16 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 x4 xo7).1)

/-- Case B's pieces for output 6 tile its block (1 store of `S1x192x512`, checked by the kernel's evaluation: the library's `Piece.tiledL`, linear in the pieces, through a loop's `@[irreducible]` trip theorem too), so they cover it. -/
theorem cover0_B_6 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) (y : S1x192x512.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xo7).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xo7).2.1 S1x192x512.size (by sl_kernel_rfl) y

/-- What case B leaves in output 6's staging buffer: its pieces read back over junk. -/
def out0_B_6 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) : Vec F S1x192x512 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 x4 xo7).2.1)

/-- Case B's pieces for output 7 tile its block (1 store of `S1x192x2048`, checked by the kernel's evaluation: the library's `Piece.tiledL`, linear in the pieces, through a loop's `@[irreducible]` trip theorem too), so they cover it. -/
theorem cover0_B_7 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) (y : S1x192x2048.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xo7).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xo7).2.2.1 S1x192x2048.size (by sl_kernel_rfl) y

/-- What case B leaves in output 7's staging buffer: its pieces read back over junk. -/
def out0_B_7 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i)
    (x0 : Vec F S1x512x2048 .bf16) (x1 : Vec F S1x512x1024 .i8) (x2 : Vec F S1x16x512 .f32) (x3 : Vec F S1x16x512 .i8) (x4 : Vec F S1x192x2048 .bf16) (xo7 : Vec F S1x192x2048 .f32) : Vec F S1x192x2048 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 xo7).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x512x2048 .bf16 × Vec F S1x192x512 .f32 × Vec F S1x192x2048 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 32 = 0 then
      if h1 : 1 ≤ (n + 1) % 32 then
        False.elim (by have hN : n + 1 < 64 := lt_of_lt_of_eq hn (show cfg0.N = 64 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : 1 ≤ (n + 1) % 32 then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.2)
      else
        False.elim (by have hN : n + 1 < 64 := lt_of_lt_of_eq hn (show cfg0.N = 64 from N_0); omega)

/-- `outsAt0` at a point of case A: that case's contents. -/
theorem outsAt0_A (c : Dev nD) (t : Fin cfg0.N) (h0 : t.val % 32 = 0) (h1 : ¬1 ≤ t.val % 32) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : 1 ≤ t.val % 32) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt).1
    | ⟨6, _⟩ => (outsAt0 V c t.val t.isLt).2.1
    | ⟨7, _⟩ => (outsAt0 V c t.val t.isLt).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = (outsAt0 V c t.val t.isLt).1 := by dsimp only [dat]
theorem after0_6 (c : Dev nD) (t : Fin cfg0.N) : (dat V c).after 6 t = (outsAt0 V c t.val t.isLt).2.1 := by dsimp only [dat]
theorem after0_7 (c : Dev nD) (t : Fin cfg0.N) : (dat V c).after 7 t = (outsAt0 V c t.val t.isLt).2.2 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d

/-- Output 7's contents CARRY through the points that leave it idle: at such a point, its buffer not fresh, the proof data's
    `after` is the point before's (the case there stores nothing into the window and its term says so; a case that stores
    into it is not idle there by `liveAt0_7_κ`) — the hypothesis of the library's `Dat.before_out_traj`. -/
theorem hcarry0_7 (c : Dev nD) : ∀ (t : Fin cfg0.N) (_ : t.val ≠ 0), cfg0.idle 7 (grid0.coords t) = true → cfg0.fresh 7 t.val = false →
    (dat V c).after 7 t = (dat V c).after 7 ⟨t.val - 1, by omega⟩ := by
  intro t _ hi _
  have hN : t.val < 64 := lt_of_lt_of_eq t.isLt (show cfg0.N = 64 from N_0)
  rw [after0_7, after0_7]
  by_cases h0 : t.val % 32 = 0
  · by_cases h1 : 1 ≤ t.val % 32
    · exfalso; omega
    · rw [liveAt0_7_A t ((hcond0_0 t).mpr h0) (fun h => h1 ((hcond0_1 t).mp h))] at hi
      exact absurd hi Bool.false_ne_true
  · by_cases h1 : 1 ≤ t.val % 32
    · rw [liveAt0_7_B t (fun h => h0 ((hcond0_0 t).mp h)) ((hcond0_1 t).mpr h1)] at hi
      exact absurd hi Bool.false_ne_true
    · exfalso; omega
/-- At a point of case B output 7's current staging buffer holds what the point before left: the buffer is not fresh
    there (`notFresh0_7_B`: stored into since the region's entry or the last write-back, carried through the points that
    leave it idle by `hcarry0_7`; the library's `Dat.before_out_traj`). -/
theorem before0_7_B (c : Dev nD) (t : Fin cfg0.N) (h0 : ¬t.val % 32 = 0) (h1 : 1 ≤ t.val % 32) (d) :
    (dat V c).before 7 t d = (outsAt0 V c (t.val - 1) (Nat.lt_of_le_of_lt (Nat.sub_le _ _) t.isLt)).2.2 := by
  rw [Dat.before_out_traj _ 7 rfl (fun _ _ => rfl) (hcarry0_7 V c) t.val t rfl d,
    if_neg (by rw [notFresh0_7_B t (fun h => h0 ((hcond0_0 t).mp h)) ((hcond0_1 t).mpr h1)]; exact Bool.false_ne_true)]
  dsimp only [dat]

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat V c).Φ t.succ = (dat V c).Φ t.castSucc from rfl,
    show (dat V c).owesAt () t.succ = (dat V c).owesAt () t.castSucc from rfl]
  rw [show (dat V c).Φ t.castSucc = Pipeline.ΦA spec0 c from rfl, PhiA0_eq]
  have hN : t.val < 64 := lt_of_lt_of_eq t.isLt (show cfg0.N = 64 from N_0)
  by_cases h0 : t.val % 32 = 0
  · by_cases h1 : 1 ≤ t.val % 32
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7_A t ((hcond0_0 t).mpr h0) (fun h => h1 ((hcond0_1 t).mp h))], after0_7]
      rw [outsAt0_A V c t h0 h1]
      unfold out0_A_5 out0_A_6 out0_A_7; (try dsimp only)
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, HS0, HS1⟩
      isplitl [HS0 HS1 HR Hg]
      · isplitl [HS0 HS1 HR]
        · isplitl [HS0]
          · iexact HS0
          isplitl [HS1]
          · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _)
  · by_cases h1 : 1 ≤ t.val % 32
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7_B t (fun h => h0 ((hcond0_0 t).mp h)) ((hcond0_1 t).mpr h1)], after0_7]
      rw [outsAt0_B V c t h0 h1]
      simp only [before0_7_B V c t h0 h1]
      unfold out0_B_5 out0_B_6 out0_B_7; (try dsimp only)
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      isplitl [HS1]; · iexact HS1
      iintro ⟨H0, H1, H2, H3, H4, ⟨%e5, H5⟩, ⟨%e6, H6⟩, ⟨%e7, H7⟩, HS0, HS1⟩
      isplitl [HS0 HS1 HR Hg]
      · isplitl [HS0 HS1 HR]
        · isplitl [HS0]
          · iexact HS0
          isplitl [HS1]
          · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.K0

end
-- ==== Proof.KernelIdeal.K1.Runs.lean ====
/- The `mid` call: what the runs of its body share — the windows' blocks at a point, the branch conditions in closed
    form over the grid, which windows are live, the staging memrefs. Everything is stated at a parameter `V`, the buffer
    contents when the call is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.K1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s (`hA`) and whose body leaves the block in place (`hafter`); one such theorem per input. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := k1_cond1 i = 1#1
/-- It holds at the points ≡ 0 (mod 32) — by arithmetic of the point. -/
theorem hcond0_0 : ∀ t : Fin cfg1.N, cond0_0 (grid1.coords t) ↔ t.val % 32 = 0 :=
  (fun t => by
    have ht : t.val < 64 := Nat.lt_of_lt_of_eq t.isLt N_1
    have e0 : (grid1.coords t 0).val = t.val / 32 % 2 := Pipeline.Grid.coords_val t 0 (by decide) rfl
    have e1 : (grid1.coords t 1).val = t.val / 1 % 32 := Pipeline.Grid.coords_val t 1 (by decide) rfl
    simp only [cond0_0, k1_cond1, e0, e1]
    word_cmp
   : ∀ t : Fin grid1.N, cond0_0 (grid1.coords t) ↔ t.val % 32 = 0)

/-- The condition of the body's `scf.if` 1 (`k1_h2`), from the grid coordinates (the skeleton's scalar
    chain substituted). -/
abbrev cond0_1 (i : grid1.Coords) : Prop := k1_cond2 i = 1#1
/-- It holds at the points whose coordinates have 1 ≤ i1 — decided over the grid. -/
theorem hcond0_1 : ∀ t : Fin cfg1.N, cond0_1 (grid1.coords t) ↔ 1 ≤ t.val % 32 :=
  (by decide +kernel : ∀ t : Fin grid1.N, cond0_1 (grid1.coords t) ↔ 1 ≤ t.val % 32)

/-! ## Where the windows are idle (the printed configuration's table `Cfg.idle`) -/

theorem liveAt0_0 : ∀ t : Fin cfg1.N, cfg1.idle 0 (grid1.coords t) = false := fun _ => rfl
theorem liveAt0_1 : ∀ t : Fin cfg1.N, cfg1.idle 1 (grid1.coords t) = false := fun _ => rfl
/-- Whether output 2's buffer is FRESH at each position `1 ‥ N` — holds nothing the body stored since the region's entry or the
    last write-back (written back at the point before, or idle there and fresh before it) —, as a bitmask, bit `n` for position `n + 1`; position 0 is fresh. `freshTab0_2_step` checks it against the configuration's own
    step point by point and the library's `Cfg.fresh_tab` makes it `Cfg.fresh` (`fresh0_2_eq`). -/
def freshTab0_2 : ℕ → Bool
  | 0 => true
  | n + 1 => (0x8000000080000000 : ℕ).testBit n
theorem freshTab0_2_step : ∀ t : Fin cfg1.N,
    freshTab0_2 (t.val + 1) = ((cfg1.win 2).flush t || (cfg1.idle 2 (cfg1.grid.coords t) && freshTab0_2 t.val)) := by decide +kernel
theorem fresh0_2_eq (t : Fin cfg1.N) : cfg1.fresh 2 t.val = freshTab0_2 t.val :=
  Pipeline.Cfg.fresh_tab cfg1 2 freshTab0_2 rfl freshTab0_2_step t.val (Nat.le_of_lt t.isLt)
/-- At the points of case A the configuration (`Cfg.idle`) calls output 2 live: the case stores into it. -/
theorem liveAt0_2_A : ∀ t : Fin cfg1.N, cond0_0 (grid1.coords t) → ¬cond0_1 (grid1.coords t) → cfg1.idle 2 (grid1.coords t) = false := by decide +kernel
/-- At the points of case B the configuration (`Cfg.idle`) calls output 2 live: the case stores into it. -/
theorem liveAt0_2_B : ∀ t : Fin cfg1.N, ¬cond0_0 (grid1.coords t) → cond0_1 (grid1.coords t) → cfg1.idle 2 (grid1.coords t) = false := by decide +kernel
/-- At the points of case B, which keeps output 2's prior contents (reads it before covering, or covers it in part), the
    window's buffer is not FRESH: something was stored into it since the region's entry or its last write-back, idle points
    between or not. -/
theorem notFresh0_2_B : ∀ t : Fin cfg1.N, ¬cond0_0 (grid1.coords t) → cond0_1 (grid1.coords t) → cfg1.fresh 2 t.val = false := by
  intro t; rw [fresh0_2_eq t]; revert t; decide +kernel

/-! ## The kernel body on any staging memrefs: a subtype the run finds -/

/-- One staging buffer of output window 2, through which its contents are stated (`View.read_writes_of_cover`: the
    choice does not matter). -/
abbrev VO0_2 : View sig .tc .vmem S1x192x2048 .f32 := (Memref.whole cc1_stg2_0 : Memref sig .tc .vmem S1x192x2048 .f32).view
/-- Each window's current staging memref at point `t`, spelled as the pipeline passes it (`bodyAt1`), and its wholeness. -/
abbrev ms0_0 (t : Fin cfg1.N) : Memref sig .tc .vmem S1x512x2048 .bf16 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1x192x2048 .bf16 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1x192x2048 .f32 := win1_2.stage (cfg1.slots t 2)
abbrev hs0_2 (t : Fin cfg1.N) : (ms0_2 t).IsWhole := hstage1_2 ((cfg1.slots t 2).cast nbuf1_2)

end Cert.KernelIdeal.K1

end
-- ==== Proof.KernelIdeal.K1.RunA.lean ====
/- The `mid` call: the run of its body at the points of case A (a batch's first row block), with the pieces each
    output buffer ends with. -/
module

public import proofs.«01_k».proof.Proof.KernelIdeal.K1.Runs

@[expose] public section

set_option maxRecDepth 16384

noncomputable section

namespace Cert.KernelIdeal.K1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 32), WITH the
    proof that on whole staging memrefs — the inputs' at their contents, the other outputs' at
    anything, the body runs to the continuation holding the inputs' as they were,
    each output's buffer with its pieces written: the functions are their skeletons, which `sl_exec` runs — each `scf.if` decided by the case's hypotheses `hc·`; the pieces are
    the witness that run finds (assigned when `iexact` hands the buffer to the continuation). -/
noncomputable def kernelRun0_A (c : Dev nD) (i : grid1.Coords) (arg2 : Memref sig .tc .vmem S1x512x2048 .bf16) (harg2 : arg2.IsWhole) (arg3 : Memref sig .tc .vmem S1x192x2048 .bf16) (harg3 : arg3.IsWhole) (arg4 : Memref sig .tc .vmem S1x192x2048 .f32) (harg4 : arg4.IsWhole) (hc0 : cond0_0 i) (hc1 : ¬cond0_1 i)
    (x0 : Vec F S1x512x2048 .bf16) (x1 : Vec F S1x192x2048 .bf16) :
    { L2 : List (View.Piece (Elt F) S1x192x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1_mid i arg2 harg2 arg3 harg3 arg4 harg4) K } := by
  refine ⟨?_, fun E K => ?run⟩
  case run =>
    simp only [cc1_mid_eq_skeleton]; unfold cc1_mid_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.K1

end
-- ==== Proof.KernelIdeal.K1.RunB.lean ====
/- The `mid` call: the run of its body at the points of case B (a later row block of a batch), with the pieces each
    output buffer ends with. -/
module

public import proofs.«01_k».proof.Proof.KernelIdeal.K1.RunA

@[expose] public section

set_option maxRecDepth 16384

noncomputable section

namespace Cert.KernelIdeal.K1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 62 of 64), WITH the
    proof that on whole staging memrefs — the inputs' at their contents, the outputs it reads before covering (2) at their running contents `xo·`, the other outputs' at
    anything, the body runs to the continuation holding the inputs' as they were,
    each output's buffer with its pieces written: the functions are their skeletons, which `sl_exec` runs — each `scf.if` decided by the case's hypotheses `hc·`; the pieces are
    the witness that run finds (assigned when `iexact` hands the buffer to the continuation). -/
noncomputable def kernelRun0_B (c : Dev nD) (i : grid1.Coords) (arg2 : Memref sig .tc .vmem S1x512x2048 .bf16) (harg2 : arg2.IsWhole) (arg3 : Memref sig .tc .vmem S1x192x2048 .bf16) (harg3 : arg3.IsWhole) (arg4 : Memref sig .tc .vmem S1x192x2048 .f32) (harg4 : arg4.IsWhole) (hc0 : ¬cond0_0 i) (hc1 : cond0_1 i)
    (x0 : Vec F S1x512x2048 .bf16) (x1 : Vec F S1x192x2048 .bf16) (xo2 : Vec F S1x192x2048 .f32) :
    { L2 : List (View.Piece (Elt F) S1x192x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1_mid i arg2 harg2 arg3 harg3 arg4 harg4) K } := by
  refine ⟨?_, fun E K => ?run⟩
  case run =>
    simp only [cc1_mid_eq_skeleton]; unfold cc1_mid_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.K1

end
-- ==== Proof.KernelIdeal.K1.Body.lean ====
/- The `mid` call: what its outputs hold after each point, the pipeline's proof data, and the body obligation. -/
module

public import proofs.«01_k».proof.Proof.KernelIdeal.K1.RunB

@[expose] public section

set_option maxRecDepth 16384

noncomputable section

namespace Cert.KernelIdeal.K1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 2 tile its block (1 store of `S1x192x2048`, checked by the kernel's evaluation: the library's `Piece.tiledL`, linear in the pieces, through a loop's `@[irreducible]` trip theorem too), so they cover it. -/
theorem cover0_A_2 (c : Dev nD) (i : grid1.Coords) (arg2 : Memref sig .tc .vmem S1x512x2048 .bf16) (harg2 : arg2.IsWhole) (arg3 : Memref sig .tc .vmem S1x192x2048 .bf16) (harg3 : arg3.IsWhole) (arg4 : Memref sig .tc .vmem S1x192x2048 .f32) (harg4 : arg4.IsWhole) (hc0 : cond0_0 i) (hc1 : ¬cond0_1 i)
    (x0 : Vec F S1x512x2048 .bf16) (x1 : Vec F S1x192x2048 .bf16) (y : S1x192x2048.Idx) :
    ∃ pc ∈ (kernelRun0_A c i arg2 harg2 arg3 harg3 arg4 harg4 hc0 hc1 x0 x1).1, y ∈ pc.1.set :=
  View.cover_of_tiledL (kernelRun0_A c i arg2 harg2 arg3 harg3 arg4 harg4 hc0 hc1 x0 x1).1 S1x192x2048.size (by sl_kernel_rfl) y

/-- What case A leaves in output 2's staging buffer: its pieces read back over junk. -/
def out0_A_2 (c : Dev nD) (i : grid1.Coords) (arg2 : Memref sig .tc .vmem S1x512x2048 .bf16) (harg2 : arg2.IsWhole) (arg3 : Memref sig .tc .vmem S1x192x2048 .bf16) (harg3 : arg3.IsWhole) (arg4 : Memref sig .tc .vmem S1x192x2048 .f32) (harg4 : arg4.IsWhole) (hc0 : cond0_0 i) (hc1 : ¬cond0_1 i)
    (x0 : Vec F S1x512x2048 .bf16) (x1 : Vec F S1x192x2048 .bf16) : Vec F S1x192x2048 .f32 :=
  VO0_2.read (Elt F) (VO0_2.writes (Elt F) VO0_2.junk (kernelRun0_A c i arg2 harg2 arg3 harg3 arg4 harg4 hc0 hc1 x0 x1).1)

/-- Case B's pieces for output 2 tile its block (1 store of `S1x192x2048`, checked by the kernel's evaluation: the library's `Piece.tiledL`, linear in the pieces, through a loop's `@[irreducible]` trip theorem too), so they cover it. -/
theorem cover0_B_2 (c : Dev nD) (i : grid1.Coords) (arg2 : Memref sig .tc .vmem S1x512x2048 .bf16) (harg2 : arg2.IsWhole) (arg3 : Memref sig .tc .vmem S1x192x2048 .bf16) (harg3 : arg3.IsWhole) (arg4 : Memref sig .tc .vmem S1x192x2048 .f32) (harg4 : arg4.IsWhole) (hc0 : ¬cond0_0 i) (hc1 : cond0_1 i)
    (x0 : Vec F S1x512x2048 .bf16) (x1 : Vec F S1x192x2048 .bf16) (xo2 : Vec F S1x192x2048 .f32) (y : S1x192x2048.Idx) :
    ∃ pc ∈ (kernelRun0_B c i arg2 harg2 arg3 harg3 arg4 harg4 hc0 hc1 x0 x1 xo2).1, y ∈ pc.1.set :=
  View.cover_of_tiledL (kernelRun0_B c i arg2 harg2 arg3 harg3 arg4 harg4 hc0 hc1 x0 x1 xo2).1 S1x192x2048.size (by sl_kernel_rfl) y

/-- What case B leaves in output 2's staging buffer: its pieces read back over junk. -/
def out0_B_2 (c : Dev nD) (i : grid1.Coords) (arg2 : Memref sig .tc .vmem S1x512x2048 .bf16) (harg2 : arg2.IsWhole) (arg3 : Memref sig .tc .vmem S1x192x2048 .bf16) (harg3 : arg3.IsWhole) (arg4 : Memref sig .tc .vmem S1x192x2048 .f32) (harg4 : arg4.IsWhole) (hc0 : ¬cond0_0 i) (hc1 : cond0_1 i)
    (x0 : Vec F S1x512x2048 .bf16) (x1 : Vec F S1x192x2048 .bf16) (xo2 : Vec F S1x192x2048 .f32) : Vec F S1x192x2048 .f32 :=
  VO0_2.read (Elt F) (VO0_2.writes (Elt F) VO0_2.junk (kernelRun0_B c i arg2 harg2 arg3 harg3 arg4 harg4 hc0 hc1 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg1.N → Vec F S1x192x2048 .f32
  | 0, hn => out0_A_2 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩)
  | n + 1, hn =>
    if h0 : (n + 1) % 32 = 0 then
      if h1 : 1 ≤ (n + 1) % 32 then
        False.elim (by have hN : n + 1 < 64 := lt_of_lt_of_eq hn (show cfg1.N = 64 from N_1); omega)
      else
        out0_A_2 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩)
    else
      if h1 : 1 ≤ (n + 1) % 32 then
        out0_B_2 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn))
      else
        False.elim (by have hN : n + 1 < 64 := lt_of_lt_of_eq hn (show cfg1.N = 64 from N_1); omega)

/-- `outsAt0` at a point of case A: that case's contents. -/
theorem outsAt0_A (c : Dev nD) (t : Fin cfg1.N) (h0 : t.val % 32 = 0) (h1 : ¬1 ≤ t.val % 32) :
    outsAt0 V c t.val t.isLt = out0_A_2 c (grid1.coords t) (ms0_0 t) (hs0_0 t) (ms0_1 t) (hs0_1 t) (ms0_2 t) (hs0_2 t) ((hcond0_0 t).mpr h0) (fun h => h1 ((hcond0_1 t).mp h)) (iblk V c 0 t) (iblk V c 1 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg1.N) (h0 : ¬t.val % 32 = 0) (h1 : 1 ≤ t.val % 32) :
    outsAt0 V c t.val t.isLt = out0_B_2 c (grid1.coords t) (ms0_0 t) (hs0_0 t) (ms0_1 t) (hs0_1 t) (ms0_2 t) (hs0_2 t) (fun h => h0 ((hcond0_0 t).mp h)) ((hcond0_1 t).mpr h1) (iblk V c 0 t) (iblk V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt0 V c t.val t.isLt)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = (outsAt0 V c t.val t.isLt) := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d

/-- Output 2's contents CARRY through the points that leave it idle: at such a point, its buffer not fresh, the proof data's
    `after` is the point before's (the case there stores nothing into the window and its term says so; a case that stores
    into it is not idle there by `liveAt0_2_κ`) — the hypothesis of the library's `Dat.before_out_traj`. -/
theorem hcarry0_2 (c : Dev nD) : ∀ (t : Fin cfg1.N) (_ : t.val ≠ 0), cfg1.idle 2 (grid1.coords t) = true → cfg1.fresh 2 t.val = false →
    (dat V c).after 2 t = (dat V c).after 2 ⟨t.val - 1, by omega⟩ := by
  intro t _ hi _
  have hN : t.val < 64 := lt_of_lt_of_eq t.isLt (show cfg1.N = 64 from N_1)
  rw [after0_2, after0_2]
  by_cases h0 : t.val % 32 = 0
  · by_cases h1 : 1 ≤ t.val % 32
    · exfalso; omega
    · rw [liveAt0_2_A t ((hcond0_0 t).mpr h0) (fun h => h1 ((hcond0_1 t).mp h))] at hi
      exact absurd hi Bool.false_ne_true
  · by_cases h1 : 1 ≤ t.val % 32
    · rw [liveAt0_2_B t (fun h => h0 ((hcond0_0 t).mp h)) ((hcond0_1 t).mpr h1)] at hi
      exact absurd hi Bool.false_ne_true
    · exfalso; omega
/-- At a point of case B output 2's current staging buffer holds what the point before left: the buffer is not fresh
    there (`notFresh0_2_B`: stored into since the region's entry or the last write-back, carried through the points that
    leave it idle by `hcarry0_2`; the library's `Dat.before_out_traj`). -/
theorem before0_2_B (c : Dev nD) (t : Fin cfg1.N) (h0 : ¬t.val % 32 = 0) (h1 : 1 ≤ t.val % 32) (d) :
    (dat V c).before 2 t d = (outsAt0 V c (t.val - 1) (Nat.lt_of_le_of_lt (Nat.sub_le _ _) t.isLt)) := by
  rw [Dat.before_out_traj _ 2 rfl (fun _ _ => rfl) (hcarry0_2 V c) t.val t rfl d,
    if_neg (by rw [notFresh0_2_B t (fun h => h0 ((hcond0_0 t).mp h)) ((hcond0_1 t).mpr h1)]; exact Bool.false_ne_true)]
  dsimp only [dat]

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dat V c).Φ t.succ = (dat V c).Φ t.castSucc from rfl,
    show (dat V c).owesAt () t.succ = (dat V c).owesAt () t.castSucc from rfl]
  have hN : t.val < 64 := lt_of_lt_of_eq t.isLt (show cfg1.N = 64 from N_1)
  by_cases h0 : t.val % 32 = 0
  · by_cases h1 : 1 ≤ t.val % 32
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2_A t ((hcond0_0 t).mpr h0) (fun h => h1 ((hcond0_1 t).mp h))], after0_2]
      rw [outsAt0_A V c t h0 h1]
      unfold out0_A_2
      iintro ⟨HΦ, Ho, ⟨%d0, H0⟩, ⟨%d1, H1⟩, ⟨%d2, H2⟩⟩
      iapply ((kernelRun0_A c (grid1.coords t) _ _ _ _ _ _ ((hcond0_0 t).mpr h0) (fun h => h1 ((hcond0_1 t).mp h)) (iblk V c 0 t) (iblk V c 1 t)).2 Set.univ _)
      isplitl [H0]; · iexact H0
      isplitl [H1]; · iexact H1
      isplitl [H2]; · iexists _; iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _)
  · by_cases h1 : 1 ≤ t.val % 32
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2_B t (fun h => h0 ((hcond0_0 t).mp h)) ((hcond0_1 t).mpr h1)], after0_2]
      rw [outsAt0_B V c t h0 h1]
      simp only [before0_2_B V c t h0 h1]
      unfold out0_B_2
      iintro ⟨HΦ, Ho, ⟨%d0, H0⟩, ⟨%d1, H1⟩, ⟨%d2, H2⟩⟩
      iapply ((kernelRun0_B c (grid1.coords t) _ _ _ _ _ _ (fun h => h0 ((hcond0_0 t).mp h)) ((hcond0_1 t).mpr h1) (iblk V c 0 t) (iblk V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _)
    · exfalso; omega

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.K1

end
-- ==== Proof.KernelIdeal.K2.Runs.lean ====
/- The `last` call: what the runs of its body share — the windows' blocks at a point, the branch conditions in closed
    form over the grid, which windows are live, the staging memrefs. Everything is stated at a parameter `V`, the buffer
    contents when the call is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.K2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s (`hA`) and whose body leaves the block in place (`hafter`); one such theorem per input. -/
theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k2_h1`), from the grid coordinates (the skeleton's scalar
    chain substituted). -/
abbrev cond0_0 (i : grid2.Coords) : Prop := k2_cond1 i = 1#1
/-- It holds at the points ≡ 0 (mod 32) — by arithmetic of the point. -/
theorem hcond0_0 : ∀ t : Fin cfg2.N, cond0_0 (grid2.coords t) ↔ t.val % 32 = 0 :=
  (fun t => by
    have ht : t.val < 64 := Nat.lt_of_lt_of_eq t.isLt N_2
    have e0 : (grid2.coords t 0).val = t.val / 32 % 2 := Pipeline.Grid.coords_val t 0 (by decide) rfl
    have e1 : (grid2.coords t 1).val = t.val / 1 % 32 := Pipeline.Grid.coords_val t 1 (by decide) rfl
    simp only [cond0_0, k2_cond1, e0, e1]
    word_cmp
   : ∀ t : Fin grid2.N, cond0_0 (grid2.coords t) ↔ t.val % 32 = 0)

/-- The condition of the body's `scf.if` 1 (`k2_h2`), from the grid coordinates (the skeleton's scalar
    chain substituted). -/
abbrev cond0_1 (i : grid2.Coords) : Prop := k2_cond2 i = 1#1
/-- It holds at the points whose coordinates have 1 ≤ i1 — decided over the grid. -/
theorem hcond0_1 : ∀ t : Fin cfg2.N, cond0_1 (grid2.coords t) ↔ 1 ≤ t.val % 32 :=
  (by decide +kernel : ∀ t : Fin grid2.N, cond0_1 (grid2.coords t) ↔ 1 ≤ t.val % 32)

/-! ## Where the windows are idle (the printed configuration's table `Cfg.idle`) -/

theorem liveAt0_0 : ∀ t : Fin cfg2.N, cfg2.idle 0 (grid2.coords t) = false := fun _ => rfl
theorem liveAt0_1 : ∀ t : Fin cfg2.N, cfg2.idle 1 (grid2.coords t) = false := fun _ => rfl
theorem liveAt0_2 : ∀ t : Fin cfg2.N, cfg2.idle 2 (grid2.coords t) = false := fun _ => rfl
/-- Whether output 3's buffer is FRESH at each position `1 ‥ N` — holds nothing the body stored since the region's entry or the
    last write-back (written back at the point before, or idle there and fresh before it) —, as a bitmask, bit `n` for position `n + 1`; position 0 is fresh. `freshTab0_3_step` checks it against the configuration's own
    step point by point and the library's `Cfg.fresh_tab` makes it `Cfg.fresh` (`fresh0_3_eq`). -/
def freshTab0_3 : ℕ → Bool
  | 0 => true
  | n + 1 => (0x8000000080000000 : ℕ).testBit n
theorem freshTab0_3_step : ∀ t : Fin cfg2.N,
    freshTab0_3 (t.val + 1) = ((cfg2.win 3).flush t || (cfg2.idle 3 (cfg2.grid.coords t) && freshTab0_3 t.val)) := by decide +kernel
theorem fresh0_3_eq (t : Fin cfg2.N) : cfg2.fresh 3 t.val = freshTab0_3 t.val :=
  Pipeline.Cfg.fresh_tab cfg2 3 freshTab0_3 rfl freshTab0_3_step t.val (Nat.le_of_lt t.isLt)
/-- At the points of case A the configuration (`Cfg.idle`) calls output 3 live: the case stores into it. -/
theorem liveAt0_3_A : ∀ t : Fin cfg2.N, cond0_0 (grid2.coords t) → ¬cond0_1 (grid2.coords t) → cfg2.idle 3 (grid2.coords t) = false := by decide +kernel
/-- At the points of case B the configuration (`Cfg.idle`) calls output 3 live: the case stores into it. -/
theorem liveAt0_3_B : ∀ t : Fin cfg2.N, ¬cond0_0 (grid2.coords t) → cond0_1 (grid2.coords t) → cfg2.idle 3 (grid2.coords t) = false := by decide +kernel
/-- At the points of case B, which keeps output 3's prior contents (reads it before covering, or covers it in part), the
    window's buffer is not FRESH: something was stored into it since the region's entry or its last write-back, idle points
    between or not. -/
theorem notFresh0_3_B : ∀ t : Fin cfg2.N, ¬cond0_0 (grid2.coords t) → cond0_1 (grid2.coords t) → cfg2.fresh 3 t.val = false := by
  intro t; rw [fresh0_3_eq t]; revert t; decide +kernel

/-! ## The kernel body on any staging memrefs: a subtype the run finds -/

/-- One staging buffer of output window 2, through which its contents are stated (`View.read_writes_of_cover`: the
    choice does not matter). -/
abbrev VO0_2 : View sig .tc .vmem S1x192x512 .f32 := (Memref.whole cc2_stg2_0 : Memref sig .tc .vmem S1x192x512 .f32).view
abbrev VO0_3 : View sig .tc .vmem S1x192x2048 .f32 := (Memref.whole cc2_stg3_0 : Memref sig .tc .vmem S1x192x2048 .f32).view
/-- Each window's current staging memref at point `t`, spelled as the pipeline passes it (`bodyAt2`), and its wholeness. -/
abbrev ms0_0 (t : Fin cfg2.N) : Memref sig .tc .vmem S1x512x2048 .bf16 := win2_0.stage (cfg2.slots t 0)
abbrev hs0_0 (t : Fin cfg2.N) : (ms0_0 t).IsWhole := hstage2_0 ((cfg2.slots t 0).cast nbuf2_0)
abbrev ms0_1 (t : Fin cfg2.N) : Memref sig .tc .vmem S1x192x2048 .bf16 := win2_1.stage (cfg2.slots t 1)
abbrev hs0_1 (t : Fin cfg2.N) : (ms0_1 t).IsWhole := hstage2_1 ((cfg2.slots t 1).cast nbuf2_1)
abbrev ms0_2 (t : Fin cfg2.N) : Memref sig .tc .vmem S1x192x512 .f32 := win2_2.stage (cfg2.slots t 2)
abbrev hs0_2 (t : Fin cfg2.N) : (ms0_2 t).IsWhole := hstage2_2 ((cfg2.slots t 2).cast nbuf2_2)
abbrev ms0_3 (t : Fin cfg2.N) : Memref sig .tc .vmem S1x192x2048 .f32 := win2_3.stage (cfg2.slots t 3)
abbrev hs0_3 (t : Fin cfg2.N) : (ms0_3 t).IsWhole := hstage2_3 ((cfg2.slots t 3).cast nbuf2_3)

end Cert.KernelIdeal.K2

end
-- ==== Proof.KernelIdeal.K2.RunA.lean ====
/- The `last` call: the run of its body at the points of case A (a batch's first row block), with the pieces each
    output buffer ends with. -/
module

public import proofs.«01_k».proof.Proof.KernelIdeal.K2.Runs

@[expose] public section

set_option maxRecDepth 16384

noncomputable section

namespace Cert.KernelIdeal.K2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 32), WITH the
    proof that on whole staging memrefs — the inputs' at their contents, the other outputs' at
    anything, the body runs to the continuation holding the inputs' as they were,
    each output's buffer with its pieces written: the functions are their skeletons, which `sl_exec` runs — each `scf.if` decided by the case's hypotheses `hc·`; the pieces are
    the witness that run finds (assigned when `iexact` hands the buffer to the continuation). -/
noncomputable def kernelRun0_A (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : cond0_0 i) (hc1 : ¬cond0_1 i)
    (x0 : Vec F S1x512x2048 .bf16) (x1 : Vec F S1x192x2048 .bf16) :
    Σ' (L2 : List (View.Piece (Elt F) S1x192x512 .f32)), { L3 : List (View.Piece (Elt F) S1x192x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc2_last i arg2 harg2 arg3 harg3 arg4 harg4 arg5 harg5) K } := by
  refine ⟨?_, ?_, fun E K => ?run⟩
  case run =>
    simp only [cc2_last_eq_skeleton]; unfold cc2_last_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.K2

end
-- ==== Proof.KernelIdeal.K2.RunB.lean ====
/- The `last` call: the run of its body at the points of case B (a later row block of a batch), with the pieces each
    output buffer ends with. -/
module

public import proofs.«01_k».proof.Proof.KernelIdeal.K2.RunA

@[expose] public section

set_option maxRecDepth 16384

noncomputable section

namespace Cert.KernelIdeal.K2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 62 of 64), WITH the
    proof that on whole staging memrefs — the inputs' at their contents, the outputs it reads before covering (3) at their running contents `xo·`, the other outputs' at
    anything, the body runs to the continuation holding the inputs' as they were,
    each output's buffer with its pieces written: the functions are their skeletons, which `sl_exec` runs — each `scf.if` decided by the case's hypotheses `hc·`; the pieces are
    the witness that run finds (assigned when `iexact` hands the buffer to the continuation). -/
noncomputable def kernelRun0_B (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : ¬cond0_0 i) (hc1 : cond0_1 i)
    (x0 : Vec F S1x512x2048 .bf16) (x1 : Vec F S1x192x2048 .bf16) (xo3 : Vec F S1x192x2048 .f32) :
    Σ' (L2 : List (View.Piece (Elt F) S1x192x512 .f32)), { L3 : List (View.Piece (Elt F) S1x192x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc2_last i arg2 harg2 arg3 harg3 arg4 harg4 arg5 harg5) K } := by
  refine ⟨?_, ?_, fun E K => ?run⟩
  case run =>
    simp only [cc2_last_eq_skeleton]; unfold cc2_last_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.K2

end
-- ==== Proof.KernelIdeal.K2.Body.lean ====
/- The `last` call: what its outputs hold after each point, the pipeline's proof data, and the body obligation. -/
module

public import proofs.«01_k».proof.Proof.KernelIdeal.K2.RunB

@[expose] public section

set_option maxRecDepth 16384

noncomputable section

namespace Cert.KernelIdeal.K2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 2 tile its block (1 store of `S1x192x512`, checked by the kernel's evaluation: the library's `Piece.tiledL`, linear in the pieces, through a loop's `@[irreducible]` trip theorem too), so they cover it. -/
theorem cover0_A_2 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : cond0_0 i) (hc1 : ¬cond0_1 i)
    (x0 : Vec F S1x512x2048 .bf16) (x1 : Vec F S1x192x2048 .bf16) (y : S1x192x512.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x192x512.size (by sl_kernel_rfl) y

/-- What case A leaves in output 2's staging buffer: its pieces read back over junk. -/
def out0_A_2 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : cond0_0 i) (hc1 : ¬cond0_1 i)
    (x0 : Vec F S1x512x2048 .bf16) (x1 : Vec F S1x192x2048 .bf16) : Vec F S1x192x512 .f32 :=
  VO0_2.read (Elt F) (VO0_2.writes (Elt F) VO0_2.junk (kernelRun0_A c i arg2 harg2 arg3 harg3 arg4 harg4 arg5 harg5 hc0 hc1 x0 x1).1)

/-- Case A's pieces for output 3 tile its block (1 store of `S1x192x2048`, checked by the kernel's evaluation: the library's `Piece.tiledL`, linear in the pieces, through a loop's `@[irreducible]` trip theorem too), so they cover it. -/
theorem cover0_A_3 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : cond0_0 i) (hc1 : ¬cond0_1 i)
    (x0 : Vec F S1x512x2048 .bf16) (x1 : Vec F S1x192x2048 .bf16) (y : S1x192x2048.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x192x2048.size (by sl_kernel_rfl) y

/-- What case A leaves in output 3's staging buffer: its pieces read back over junk. -/
def out0_A_3 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : cond0_0 i) (hc1 : ¬cond0_1 i)
    (x0 : Vec F S1x512x2048 .bf16) (x1 : Vec F S1x192x2048 .bf16) : Vec F S1x192x2048 .f32 :=
  VO0_3.read (Elt F) (VO0_3.writes (Elt F) VO0_3.junk (kernelRun0_A c i arg2 harg2 arg3 harg3 arg4 harg4 arg5 harg5 hc0 hc1 x0 x1).2.1)

/-- Case B's pieces for output 2 tile its block (1 store of `S1x192x512`, checked by the kernel's evaluation: the library's `Piece.tiledL`, linear in the pieces, through a loop's `@[irreducible]` trip theorem too), so they cover it. -/
theorem cover0_B_2 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : ¬cond0_0 i) (hc1 : cond0_1 i)
    (x0 : Vec F S1x512x2048 .bf16) (x1 : Vec F S1x192x2048 .bf16) (xo3 : Vec F S1x192x2048 .f32) (y : S1x192x512.Idx) :
    ∃ pc ∈ (kernelRun0_B c i arg2 harg2 arg3 harg3 arg4 harg4 arg5 harg5 hc0 hc1 x0 x1 xo3).1, y ∈ pc.1.set :=
  View.cover_of_tiledL (kernelRun0_B c i arg2 harg2 arg3 harg3 arg4 harg4 arg5 harg5 hc0 hc1 x0 x1 xo3).1 S1x192x512.size (by sl_kernel_rfl) y

/-- What case B leaves in output 2's staging buffer: its pieces read back over junk. -/
def out0_B_2 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : ¬cond0_0 i) (hc1 : cond0_1 i)
    (x0 : Vec F S1x512x2048 .bf16) (x1 : Vec F S1x192x2048 .bf16) (xo3 : Vec F S1x192x2048 .f32) : Vec F S1x192x512 .f32 :=
  VO0_2.read (Elt F) (VO0_2.writes (Elt F) VO0_2.junk (kernelRun0_B c i arg2 harg2 arg3 harg3 arg4 harg4 arg5 harg5 hc0 hc1 x0 x1 xo3).1)

/-- Case B's pieces for output 3 tile its block (1 store of `S1x192x2048`, checked by the kernel's evaluation: the library's `Piece.tiledL`, linear in the pieces, through a loop's `@[irreducible]` trip theorem too), so they cover it. -/
theorem cover0_B_3 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : ¬cond0_0 i) (hc1 : cond0_1 i)
    (x0 : Vec F S1x512x2048 .bf16) (x1 : Vec F S1x192x2048 .bf16) (xo3 : Vec F S1x192x2048 .f32) (y : S1x192x2048.Idx) :
    ∃ pc ∈ (kernelRun0_B c i arg2 harg2 arg3 harg3 arg4 harg4 arg5 harg5 hc0 hc1 x0 x1 xo3).2.1, y ∈ pc.1.set :=
  View.cover_of_tiledL (kernelRun0_B c i arg2 harg2 arg3 harg3 arg4 harg4 arg5 harg5 hc0 hc1 x0 x1 xo3).2.1 S1x192x2048.size (by sl_kernel_rfl) y

/-- What case B leaves in output 3's staging buffer: its pieces read back over junk. -/
def out0_B_3 (c : Dev nD) (i : grid2.Coords) (arg2 : Memref sig .tc .vmem S1x512x2048 .bf16) (harg2 : arg2.IsWhole) (arg3 : Memref sig .tc .vmem S1x192x2048 .bf16) (harg3 : arg3.IsWhole) (arg4 : Memref sig .tc .vmem S1x192x512 .f32) (harg4 : arg4.IsWhole) (arg5 : Memref sig .tc .vmem S1x192x2048 .f32) (harg5 : arg5.IsWhole) (hc0 : ¬cond0_0 i) (hc1 : cond0_1 i)
    (x0 : Vec F S1x512x2048 .bf16) (x1 : Vec F S1x192x2048 .bf16) (xo3 : Vec F S1x192x2048 .f32) : Vec F S1x192x2048 .f32 :=
  VO0_3.read (Elt F) (VO0_3.writes (Elt F) VO0_3.junk (kernelRun0_B c i arg2 harg2 arg3 harg3 arg4 harg4 arg5 harg5 hc0 hc1 x0 x1 xo3).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg2.N → Vec F S1x192x512 .f32 × Vec F S1x192x2048 .f32
  | 0, hn => (out0_A_2 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), out0_A_3 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩))
  | n + 1, hn =>
    if h0 : (n + 1) % 32 = 0 then
      if h1 : 1 ≤ (n + 1) % 32 then
        False.elim (by have hN : n + 1 < 64 := lt_of_lt_of_eq hn (show cfg2.N = 64 from N_2); omega)
      else
        (out0_A_2 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩), out0_A_3 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩))
    else
      if h1 : 1 ≤ (n + 1) % 32 then
        (out0_B_2 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2, out0_B_3 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2)
      else
        False.elim (by have hN : n + 1 < 64 := lt_of_lt_of_eq hn (show cfg2.N = 64 from N_2); omega)

/-- `outsAt0` at a point of case A: that case's contents. -/
theorem outsAt0_A (c : Dev nD) (t : Fin cfg2.N) (h0 : t.val % 32 = 0) (h1 : ¬1 ≤ t.val % 32) :
    outsAt0 V c t.val t.isLt = (out0_A_2 c (grid2.coords t) (ms0_0 t) (hs0_0 t) (ms0_1 t) (hs0_1 t) (ms0_2 t) (hs0_2 t) (ms0_3 t) (hs0_3 t) ((hcond0_0 t).mpr h0) (fun h => h1 ((hcond0_1 t).mp h)) (iblk V c 0 t) (iblk V c 1 t), out0_A_3 c (grid2.coords t) (ms0_0 t) (hs0_0 t) (ms0_1 t) (hs0_1 t) (ms0_2 t) (hs0_2 t) (ms0_3 t) (hs0_3 t) ((hcond0_0 t).mpr h0) (fun h => h1 ((hcond0_1 t).mp h)) (iblk V c 0 t) (iblk V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg2.N) (h0 : ¬t.val % 32 = 0) (h1 : 1 ≤ t.val % 32) :
    outsAt0 V c t.val t.isLt = (out0_B_2 c (grid2.coords t) (ms0_0 t) (hs0_0 t) (ms0_1 t) (hs0_1 t) (ms0_2 t) (hs0_2 t) (ms0_3 t) (hs0_3 t) (fun h => h0 ((hcond0_0 t).mp h)) ((hcond0_1 t).mpr h1) (iblk V c 0 t) (iblk V c 1 t) (outsAt0 V c (t.val - 1) (Nat.lt_of_le_of_lt (Nat.sub_le _ _) t.isLt)).2, out0_B_3 c (grid2.coords t) (ms0_0 t) (hs0_0 t) (ms0_1 t) (hs0_1 t) (ms0_2 t) (hs0_2 t) (ms0_3 t) (hs0_3 t) (fun h => h0 ((hcond0_0 t).mp h)) ((hcond0_1 t).mpr h1) (iblk V c 0 t) (iblk V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt0 V c t.val t.isLt).1
    | ⟨3, _⟩ => (outsAt0 V c t.val t.isLt).2
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`). -/
theorem after0_0 (c : Dev nD) (t : Fin cfg2.N) : (dat V c).after 0 t = iblk V c 0 t := by dsimp only [dat]
theorem after0_1 (c : Dev nD) (t : Fin cfg2.N) : (dat V c).after 1 t = iblk V c 1 t := by dsimp only [dat]
theorem after0_2 (c : Dev nD) (t : Fin cfg2.N) : (dat V c).after 2 t = (outsAt0 V c t.val t.isLt).1 := by dsimp only [dat]
theorem after0_3 (c : Dev nD) (t : Fin cfg2.N) : (dat V c).after 3 t = (outsAt0 V c t.val t.isLt).2 := by dsimp only [dat]

/-- Each input's current staging buffer holds its block at every point, fetched there or not (`beforeK_W_of`). -/
theorem before0_0 (c : Dev nD) (t : Fin cfg2.N) (d) : (dat V c).before 0 t d = iblk V c 0 t :=
  before0_0_of V (dat V c) (A_eq V c 0) (after0_0 V c) t d
theorem before0_1 (c : Dev nD) (t : Fin cfg2.N) (d) : (dat V c).before 1 t d = iblk V c 1 t :=
  before0_1_of V (dat V c) (A_eq V c 1) (after0_1 V c) t d

/-- Output 3's contents CARRY through the points that leave it idle: at such a point, its buffer not fresh, the proof data's
    `after` is the point before's (the case there stores nothing into the window and its term says so; a case that stores
    into it is not idle there by `liveAt0_3_κ`) — the hypothesis of the library's `Dat.before_out_traj`. -/
theorem hcarry0_3 (c : Dev nD) : ∀ (t : Fin cfg2.N) (_ : t.val ≠ 0), cfg2.idle 3 (grid2.coords t) = true → cfg2.fresh 3 t.val = false →
    (dat V c).after 3 t = (dat V c).after 3 ⟨t.val - 1, by omega⟩ := by
  intro t _ hi _
  have hN : t.val < 64 := lt_of_lt_of_eq t.isLt (show cfg2.N = 64 from N_2)
  rw [after0_3, after0_3]
  by_cases h0 : t.val % 32 = 0
  · by_cases h1 : 1 ≤ t.val % 32
    · exfalso; omega
    · rw [liveAt0_3_A t ((hcond0_0 t).mpr h0) (fun h => h1 ((hcond0_1 t).mp h))] at hi
      exact absurd hi Bool.false_ne_true
  · by_cases h1 : 1 ≤ t.val % 32
    · rw [liveAt0_3_B t (fun h => h0 ((hcond0_0 t).mp h)) ((hcond0_1 t).mpr h1)] at hi
      exact absurd hi Bool.false_ne_true
    · exfalso; omega
/-- At a point of case B output 3's current staging buffer holds what the point before left: the buffer is not fresh
    there (`notFresh0_3_B`: stored into since the region's entry or the last write-back, carried through the points that
    leave it idle by `hcarry0_3`; the library's `Dat.before_out_traj`). -/
theorem before0_3_B (c : Dev nD) (t : Fin cfg2.N) (h0 : ¬t.val % 32 = 0) (h1 : 1 ≤ t.val % 32) (d) :
    (dat V c).before 3 t d = (outsAt0 V c (t.val - 1) (Nat.lt_of_le_of_lt (Nat.sub_le _ _) t.isLt)).2 := by
  rw [Dat.before_out_traj _ 3 rfl (fun _ _ => rfl) (hcarry0_3 V c) t.val t rfl d,
    if_neg (by rw [notFresh0_3_B t (fun h => h0 ((hcond0_0 t).mp h)) ((hcond0_1 t).mpr h1)]; exact Bool.false_ne_true)]
  dsimp only [dat]

/-! ## The body obligation, at a generic point -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0_0, before0_1]
  rw [show (dat V c).Φ t.succ = (dat V c).Φ t.castSucc from rfl,
    show (dat V c).owesAt () t.succ = (dat V c).owesAt () t.castSucc from rfl]
  have hN : t.val < 64 := lt_of_lt_of_eq t.isLt (show cfg2.N = 64 from N_2)
  by_cases h0 : t.val % 32 = 0
  · by_cases h1 : 1 ≤ t.val % 32
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3_A t ((hcond0_0 t).mpr h0) (fun h => h1 ((hcond0_1 t).mp h))], after0_3]
      rw [outsAt0_A V c t h0 h1]
      unfold out0_A_2 out0_A_3; (try dsimp only)
      iintro ⟨HΦ, Ho, ⟨%d0, H0⟩, ⟨%d1, H1⟩, ⟨%d2, H2⟩, ⟨%d3, H3⟩⟩
      iapply ((kernelRun0_A c (grid2.coords t) _ _ _ _ _ _ _ _ ((hcond0_0 t).mpr h0) (fun h => h1 ((hcond0_1 t).mp h)) (iblk V c 0 t) (iblk V c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _)
      unfold owns; iexists _; isplitr
      swap; · iexact H3
      ipureintro; exact View.read_writes_of_cover _ _ _ _ _ (cover0_A_3 c _ _ _ _ _ _ _ _ _ _ _ _ _)
  · by_cases h1 : 1 ≤ t.val % 32
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3_B t (fun h => h0 ((hcond0_0 t).mp h)) ((hcond0_1 t).mpr h1)], after0_3]
      rw [outsAt0_B V c t h0 h1]
      simp only [before0_3_B V c t h0 h1]
      unfold out0_B_2 out0_B_3; (try dsimp only)
      iintro ⟨HΦ, Ho, ⟨%d0, H0⟩, ⟨%d1, H1⟩, ⟨%d2, H2⟩, ⟨%d3, H3⟩⟩
      iapply ((kernelRun0_B c (grid2.coords t) _ _ _ _ _ _ _ _ (fun h => h0 ((hcond0_0 t).mp h)) ((hcond0_1 t).mpr h1) (iblk V c 0 t) (iblk V c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _)
      unfold owns; iexists _; isplitr
      swap; · iexact H3
      ipureintro; exact View.read_writes_of_cover _ _ _ _ _ (cover0_B_3 c _ _ _ _ _ _ _ _ _ _ _ _ _ _)
    · exfalso; omega

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.K2

end
-- ==== Proof.KernelIdeal.Run.lean ====
/- The whole program run: its host stretches and its three calls in order, the buffer contents at each boundary between
    them, and from these the frame claim and what every buffer holds at the end. -/
module

public import proofs.«01_k».proof.Proof.KernelIdeal.K0.Body
public import proofs.«01_k».proof.Proof.KernelIdeal.K1.Body
public import proofs.«01_k».proof.Proof.KernelIdeal.K2.Body
public import Idealize.ShloMosaic.Lib.Pipeline.RegionsLoop
public import Idealize.ShloMosaic.Lib.Pipeline.FrameSuffix
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v11, main_v12, main_v13, main_v14, main_v15, main_v16, main_v17, main_v18, main_v19]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (K0.dat (V1 m ρ) c).arrAt w cfg0.N
theorem W2_arr (c : Dev nD) (w : Fin cfg0.W) :
    W2 m ρ c (Proc.devRef .tc (Pipeline.arrRef spec0 w)) = (K0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `K0.A_eq`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((K0.dat (V1 m ρ) c).arrAt_in w (h w rfl) _).trans (K0.A_eq (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of the library's `unscopedBufs_of_arrays`. -/
theorem hF0 (c : Dev nD) (w : Fin cfg0.W) : (K0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (K1.dat (V3 m ρ) c).arrAt w cfg1.N
theorem W4_arr (c : Dev nD) (w : Fin cfg1.W) :
    W4 m ρ c (Proc.devRef .tc (Pipeline.arrRef spec1 w)) = (K1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `K1.A_eq`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((K1.dat (V3 m ρ) c).arrAt_in w (h w rfl) _).trans (K1.A_eq (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of the library's `unscopedBufs_of_arrays`. -/
theorem hF1 (c : Dev nD) (w : Fin cfg1.W) : (K1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered. -/
def W6 (c : Dev nD) : Valuation τ sig (Elt F) :=
  Pipeline.withArrays spec2 c (W5 m ρ c) fun w => (K2.dat (V5 m ρ) c).arrAt w cfg2.N
theorem W6_arr (c : Dev nD) (w : Fin cfg2.W) :
    W6 m ρ c (Proc.devRef .tc (Pipeline.arrRef spec2 w)) = (K2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `K2.A_eq`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((K2.dat (V5 m ρ) c).arrAt_in w (h w rfl) _).trans (K2.A_eq (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of the library's `unscopedBufs_of_arrays`. -/
theorem hF2 (c : Dev nD) (w : Fin cfg2.W) : (K2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the configuration. -/
def pdats : (p : Fin 3) → (c : Dev nD) → Dat τ (Elt F) Unit ℕ (UR sig nD τ) ℕ (Pipeline.pin (pcfgs (F := F)) adm p) c
  | ⟨0, _⟩ => fun c => K0.dat (V1 m ρ) c
  | ⟨1, _⟩ => fun c => K1.dat (V3 m ρ) c
  | ⟨2, _⟩ => fun c => K2.dat (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (K0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (K0.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (K1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (K1.A_eq (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (K2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (K2.A_eq (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of the whole program, at any reading of the floats: from any memory with zero counters every weakly fair
    execution of @main on the TensorCores terminates, nothing faulting, with every unscoped buffer at the last
    boundary's contents `W7` and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The frame claim at any reading of the floats: the arguments end as launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c)⟩, h.2⟩) (run m ρ)

end Cert.KernelIdeal.Run

end
-- ==== Proof.Value.FirstPiece.lean ====
/- The `first` call's unpacking of the int4 residual, one 32x128 tile: the two tiles it stores, read at an index over the
   extended reals. -/
module

public import proofs.«01_k».proof.Proof.Gen.KernelIdeal.Loops
public import Idealize.ShloMosaic.Lib.BitcastPair
public import Idealize.ShloMosaic.Lib.Pipeline.Value
public import Idealize.ShloMosaic.Lib.Pointwise
public import Idealize.ShloMosaic.Lib.Tactic

@[expose] public section

set_option maxRecDepth 16384

noncomputable section

namespace Cert.KernelIdeal.K0

open Cert.KernelIdeal.Gen
open Idealize.ShloMosaic Idealize.ShloMosaic.TcCoe Idealize.SL.Sem

/-! ## Four bytes in one word -/

theorem mask_bit (p : Nat) (hp : p < 32) : (252645135#32 : BitVec 32).getLsbD p = decide (p % 8 < 4) := by
  have h : ∀ p : Fin 32, (252645135#32 : BitVec 32).getLsbD p.val = decide (p.val % 8 < 4) := by decide
  exact h ⟨p, hp⟩

theorem mask_bit8 (q : Nat) (hq : q < 8) : (15#8 : BitVec 8).getLsbD q = decide (q < 4) := by
  have h : ∀ p : Fin 8, (15#8 : BitVec 8).getLsbD p.val = decide (p.val < 4) := by decide
  exact h ⟨q, hq⟩

theorem row_byte (r : Fin 32) (c : Fin 128) : S32x128.row (ix2 r c) = r.val := rfl

theorem row_word (r : Fin 8) (c : Fin 128) : S8x128.row (ix2 r c) = r.val := rfl

theorem src_word (r : Fin 32) (c : Fin 128) (p : Nat) (hp) (h : p < 8) :
    bitcasts_S8x128_w32_S32x128_w8.srcIdx (ix2 r c) p hp = ix2 ⟨p, h⟩ c := by
  funext a; fin_cases a <;> rfl

theorem src_byte (r : Fin 8) (c : Fin 128) (p : Nat) (hp) (h : p < 32) :
    bitcasts_S32x128_w8_S8x128_w32.srcIdx (ix2 r c) p hp = ix2 ⟨p, h⟩ c := by
  funext a; fin_cases a <;> rfl

/-- Bit `p` of a word is bit `p % 8` of its byte `p / 8`. -/
theorem word_bit (x : IVec S32x128 8) (r : Fin 8) (c : Fin 128) (p : Nat) (hp : p < 32) :
    (bitcast S8x128 32 x bitcasts_S32x128_w8_S8x128_w32 (ix2 r c)).getLsbD p
      = (x (ix2 ⟨4 * r.val + p / 8, by omega⟩ c)).getLsbD (p % 8) := by
  rw [bitcast_getLsbD _ _ _ _ hp (by decide)]
  rw [src_byte r c _ _ (by rw [row_word]; omega)]
  have e1 : (S8x128.row (ix2 r c) * 32 + p) / 8 = 4 * r.val + p / 8 := by rw [row_word]; omega
  have e2 : (S8x128.row (ix2 r c) * 32 + p) % 8 = p % 8 := by rw [row_word]; omega
  simp only [e1, e2]

/-- Bit `q` of a byte is bit `8 (r % 4) + q` of the word it lies in. -/
theorem byte_bit (x : IVec S8x128 32) (r : Fin 32) (c : Fin 128) (q : Nat) (hq : q < 8) :
    (bitcast S32x128 8 x bitcasts_S8x128_w32_S32x128_w8 (ix2 r c)).getLsbD q
      = (x (ix2 ⟨r.val / 4, by omega⟩ c)).getLsbD (8 * (r.val % 4) + q) := by
  rw [bitcast_getLsbD _ _ _ _ hq (by decide)]
  rw [src_word r c _ _ (by rw [row_byte]; omega)]
  have e1 : (S32x128.row (ix2 r c) * 8 + q) / 32 = r.val / 4 := by rw [row_byte]; omega
  have e2 : (S32x128.row (ix2 r c) * 8 + q) % 32 = 8 * (r.val % 4) + q := by rw [row_byte]; omega
  simp only [e1, e2]

/-- The low nibbles of a word's four bytes at once. -/
theorem lo_byte (x : IVec S32x128 8) (r : Fin 32) (c : Fin 128) :
    bitcast S32x128 8 (andi (bitcast S8x128 32 x bitcasts_S32x128_w8_S8x128_w32) (broadcast S8x128 252645135#32))
        bitcasts_S8x128_w32_S32x128_w8 (ix2 r c) = x (ix2 r c) &&& 15#8 := by
  apply BitVec.eq_of_getLsbD_eq
  intro q hq
  rw [byte_bit _ _ _ _ hq]
  show (bitcast S8x128 32 x bitcasts_S32x128_w8_S8x128_w32 _ &&& 252645135#32).getLsbD _ = _
  rw [BitVec.getLsbD_and, BitVec.getLsbD_and, mask_bit _ (by omega), mask_bit8 _ hq, word_bit _ _ _ _ (by omega)]
  have e1 : 4 * (r.val / 4) + (8 * (r.val % 4) + q) / 8 = r.val := by omega
  have e2 : (8 * (r.val % 4) + q) % 8 = q := by omega
  simp only [e1, e2]

/-- The high nibbles of a word's four bytes at once. -/
theorem hi_byte (x : IVec S32x128 8) (r : Fin 32) (c : Fin 128) :
    bitcast S32x128 8 (andi (shrui (bitcast S8x128 32 x bitcasts_S32x128_w8_S8x128_w32) (broadcast S8x128 4#32)) (broadcast S8x128 252645135#32))
        bitcasts_S8x128_w32_S32x128_w8 (ix2 r c) = x (ix2 r c) >>> 4 := by
  apply BitVec.eq_of_getLsbD_eq
  intro q hq
  rw [byte_bit _ _ _ _ hq]
  have hs : ∀ w : BitVec 32, Scalar.shrui w 4#32 = w >>> 4 := fun w => rfl
  show (Scalar.shrui (bitcast S8x128 32 x bitcasts_S32x128_w8_S8x128_w32 _) 4#32 &&& 252645135#32).getLsbD _ = _
  rw [hs, BitVec.getLsbD_and, BitVec.getLsbD_ushiftRight, mask_bit _ (by omega), BitVec.getLsbD_ushiftRight]
  have e2 : (8 * (r.val % 4) + q) % 8 = q := by omega
  rw [e2]
  by_cases h : q < 4
  · rw [word_bit _ _ _ _ (by omega)]
    have e1 : 4 * (r.val / 4) + (4 + (8 * (r.val % 4) + q)) / 8 = r.val := by omega
    have e3 : (4 + (8 * (r.val % 4) + q)) % 8 = 4 + q := by omega
    simp only [e1, e3, decide_true, Bool.and_true, h]
  · rw [BitVec.getLsbD_of_ge _ (4 + q) (by omega)]
    simp [h]

/-! ## The lane indices -/

theorem half_apply (r : Fin 32) (c : Fin 128) : (k0_pay99 : IVec S32x128 1) (ix2 r c) = if c.val < 64 then 1#1 else 0#1 := by
  pointwise [k0_pay99]
  revert c; decide +kernel

/-- The lane read from the even tile. -/
def evenLane (c : Fin 128) : Fin 128 := ⟨(2 * c.val) % 128 + (if c.val < 64 then 0 else 1), by split <;> omega⟩
/-- The lane read from the odd tile. -/
def oddLane (c : Fin 128) : Fin 128 := ⟨(2 * c.val) % 128 + (if c.val < 64 then 1 else 0), by split <;> omega⟩

theorem even_apply (r : Fin 32) (c : Fin 128) :
    (k0_pay102 k0_pay99 (Scalar.select (Scalar.cmpi .eq 128#32 0#32) 1#32 128#32) k0_pay100 k0_pay101 : IVec S32x128 32) (ix2 r c)
      = BitVec.ofNat 32 (evenLane c).val := by
  pointwise [k0_pay102, k0_pay99, k0_pay100, k0_pay101]
  revert c; decide +kernel

theorem odd_apply (r : Fin 32) (c : Fin 128) :
    (k0_pay103 (iota .tc S32x128 32 [1] iota_S32x128_d1_w32) k0_pay99 : IVec S32x128 32) (ix2 r c)
      = BitVec.ofNat 32 (oddLane c).val := by
  pointwise [k0_pay103, k0_pay99]
  revert c; decide +kernel

theorem group_apply (r : Fin 32) (c : Fin 128) :
    (k0_pay107 (iota .tc S32x128 32 [1] iota_S32x128_d1_w32) 64#32 (k0_pay104 (iota .tc S32x128 32 [1] iota_S32x128_d1_w32))
      (k0_pay105 (iota .tc S32x128 32 [1] iota_S32x128_d1_w32)) k0_pay106 : IVec S32x128 32) (ix2 r c)
      = BitVec.ofNat 32 (c.val / 64) := by
  pointwise [k0_pay104, k0_pay105, k0_pay106, k0_pay107]
  revert c; decide +kernel

theorem group'_apply (r : Fin 32) (c : Fin 128) : (k0_pay108 : IVec S32x128 32) (ix2 r c) = BitVec.ofNat 32 (c.val / 64) := by
  pointwise [k0_pay108]
  revert c; decide +kernel

/-! ## The two tiles of one pass -/

/-- The lookup along the lanes, an index below zero counting from the end. -/
def lane {α : Type} (i : IVec S32x128 32) (x : S32x128.Idx → α) : S32x128.Idx → α :=
  dynamicGather 1 x (shapeCast S32x128 (shapeCast S32x128x1 (select (cmpi .slt i (broadcast S32x128 0#32)) (addi i (broadcast S32x128 128#32)) i)
    shapeCasts_S32x128_S32x128x1) shapeCasts_S32x128x1_S32x128)

theorem back (i : IVec S32x128 32) : shapeCast S32x128 (shapeCast S32x128x1 i shapeCasts_S32x128_S32x128x1) shapeCasts_S32x128x1_S32x128 = i := by
  funext j
  pointwise []

theorem lane_apply {α : Type} (i : IVec S32x128 32) (x : S32x128.Idx → α) (r : Fin 32) (c m : Fin 128)
    (h : i (ix2 r c) = BitVec.ofNat 32 m.val) : lane i x (ix2 r c) = x (ix2 r m) := by
  have hm : ∀ m : Fin 128, (Scalar.select (Scalar.cmpi .slt (BitVec.ofNat 32 m.val) 0#32) (BitVec.ofNat 32 m.val + 128#32) (BitVec.ofNat 32 m.val)).toNat % 128 = m.val := by
    decide +kernel
  unfold lane
  rw [back]
  have e : ((select (cmpi .slt i (broadcast S32x128 0#32)) (addi i (broadcast S32x128 128#32)) i : IVec S32x128 32) (ix2 r c)).toNat % 128 = m.val := by
    show (Scalar.select (Scalar.cmpi .slt (i (ix2 r c)) 0#32) (i (ix2 r c) + 128#32) (i (ix2 r c))).toNat % 128 = m.val
    rw [h]; exact hm m
  show x _ = _
  congr 1
  funext a
  fin_cases a
  · rfl
  · exact Fin.ext e

variable (g : BitVec 32) (v20 : IVec S32x128 1) (v42 v64 v88 v113 : IVec S32x128 32) (wA wB : Vec Ideal S1x32x128 .bf16)
  (cd : Vec Ideal S1x32x128 .i8) (sc : Vec Ideal S32x128 .f32) (zr : Vec Ideal S32x128 .bf16)

/-- The tile of even columns. -/
def loTile : FVec Ideal S1x32x128 .bf16 :=
  shapeCast S1x32x128 (truncf .bf16 (subf
    (select v20 (lane v42 (extf .f32 (shapeCast S32x128 wA shapeCasts_S1x32x128_S32x128 : FVec Ideal S32x128 .bf16) bitsLt_bf16_f32))
      (lane v64 (extf .f32 (shapeCast S32x128 wB shapeCasts_S1x32x128_S32x128 : FVec Ideal S32x128 .bf16) bitsLt_bf16_f32)) : FVec Ideal S32x128 .f32)
    (mulf (extf .f32 (subf (uitofp .bf16 (bitcast S32x128 8 (andi (bitcast S8x128 32 (shapeCast S32x128 cd shapeCasts_S1x32x128_S32x128 : IVec S32x128 8) bitcasts_S32x128_w8_S8x128_w32)
        (broadcast S8x128 252645135#32)) bitcasts_S8x128_w32_S32x128_w8))
      (truncf .bf16 (lane (addi v88 (broadcast S32x128 g)) (extf .f32 (zr : FVec Ideal S32x128 .bf16) bitsLt_bf16_f32) : FVec Ideal S32x128 .f32) bitsLt_bf16_f32)) bitsLt_bf16_f32)
      (lane (addi v113 (broadcast S32x128 g)) sc))) bitsLt_bf16_f32) shapeCasts_S32x128_S1x32x128

/-- The tile of odd columns. -/
def hiTile : FVec Ideal S1x32x128 .bf16 :=
  shapeCast S1x32x128 (truncf .bf16 (subf
    (dynamicRotate 1 64#32 none (select v20 (lane v64 (extf .f32 (shapeCast S32x128 wB shapeCasts_S1x32x128_S32x128 : FVec Ideal S32x128 .bf16) bitsLt_bf16_f32))
      (lane v42 (extf .f32 (shapeCast S32x128 wA shapeCasts_S1x32x128_S32x128 : FVec Ideal S32x128 .bf16) bitsLt_bf16_f32)) : FVec Ideal S32x128 .f32) rotates_S32x128_d1)
    (mulf (extf .f32 (subf (uitofp .bf16 (bitcast S32x128 8 (andi (shrui (bitcast S8x128 32 (shapeCast S32x128 cd shapeCasts_S1x32x128_S32x128 : IVec S32x128 8) bitcasts_S32x128_w8_S8x128_w32)
        (broadcast S8x128 4#32)) (broadcast S8x128 252645135#32)) bitcasts_S8x128_w32_S32x128_w8))
      (truncf .bf16 (lane (addi v88 (broadcast S32x128 g)) (extf .f32 (zr : FVec Ideal S32x128 .bf16) bitsLt_bf16_f32) : FVec Ideal S32x128 .f32) bitsLt_bf16_f32)) bitsLt_bf16_f32)
      (lane (addi v113 (broadcast S32x128 g)) sc))) bitsLt_bf16_f32) shapeCasts_S32x128_S1x32x128

theorem in_cast {α : Type} (x : S1x32x128.Idx → α) (r : Fin 32) (c : Fin 128) :
    shapeCast S32x128 x shapeCasts_S1x32x128_S32x128 (ix2 r c) = x (ix3 0 r c) := by
  pointwise []

theorem out_cast {α : Type} (x : S32x128.Idx → α) (r : Fin 32) (c : Fin 128) :
    shapeCast S1x32x128 x shapeCasts_S32x128_S1x32x128 (ix3 0 r c) = x (ix2 r c) := by
  pointwise []

theorem roll_apply {α : Type} (x : S32x128.Idx → α) (r : Fin 32) (c : Fin 128) :
    dynamicRotate 1 64#32 none x rotates_S32x128_d1 (ix2 r c) = x (ix2 r ⟨(c.val + 64) % 128, by omega⟩) := by
  pointwise []
  congr 2

/-- The group a lane of pass `v` belongs to. -/
theorem group_add (v : Fin 8) (c : Fin 128) : BitVec.ofNat 32 (c.val / 64) + BitVec.ofNat 32 (2 * v.val) = BitVec.ofNat 32 (2 * v.val + c.val / 64) := by
  rw [← BitVec.ofNat_add, Nat.add_comm]

/-- The lane of the pass's 256 columns that column `2 c + h` is. -/
theorem loTile_apply (v : Fin 8) (h20 : ∀ r c, v20 (ix2 r c) = if c.val < 64 then 1#1 else 0#1)
    (h42 : ∀ r c, v42 (ix2 r c) = BitVec.ofNat 32 (evenLane c).val) (h64 : ∀ r c, v64 (ix2 r c) = BitVec.ofNat 32 (oddLane c).val)
    (h88 : ∀ r c, v88 (ix2 r c) = BitVec.ofNat 32 (c.val / 64)) (h113 : ∀ r c, v113 (ix2 r c) = BitVec.ofNat 32 (c.val / 64))
    (r : Fin 32) (c : Fin 128) :
    loTile (BitVec.ofNat 32 (2 * v.val)) v20 v42 v64 v88 v113 wA wB cd sc zr (ix3 0 r c)
      = ((if h : c.val < 64 then wA (ix3 0 r ⟨2 * c.val, by omega⟩) else wB (ix3 0 r ⟨2 * c.val - 128, by omega⟩) : EReal)
        - ((((cd (ix3 0 r c) &&& 15#8).toNat : ℝ) : EReal) - (zr (ix2 r ⟨2 * v.val + c.val / 64, by omega⟩) : EReal))
          * (sc (ix2 r ⟨2 * v.val + c.val / 64, by omega⟩) : EReal) : EReal) := by
  unfold loTile
  rw [out_cast]
  have hz : ∀ x : S32x128.Idx → EReal, lane (addi v88 (broadcast S32x128 (BitVec.ofNat 32 (2 * v.val)))) x (ix2 r c) = x (ix2 r ⟨2 * v.val + c.val / 64, by omega⟩) :=
    fun x => lane_apply _ _ _ _ _ (by show v88 (ix2 r c) + _ = _; rw [h88]; exact group_add v c)
  have hs : ∀ x : S32x128.Idx → EReal, lane (addi v113 (broadcast S32x128 (BitVec.ofNat 32 (2 * v.val)))) x (ix2 r c) = x (ix2 r ⟨2 * v.val + c.val / 64, by omega⟩) :=
    fun x => lane_apply _ _ _ _ _ (by show v113 (ix2 r c) + _ = _; rw [h113]; exact group_add v c)
  show (Scalar.select (v20 (ix2 r c)) (lane v42 _ (ix2 r c)) (lane v64 _ (ix2 r c)) : EReal)
      - ((((bitcast S32x128 8 _ _ (ix2 r c)).toNat : ℝ) : EReal) - lane (addi v88 _) _ (ix2 r c)) * lane (addi v113 _) _ (ix2 r c) = _
  rw [hz, hs, lo_byte, in_cast, lane_apply v42 _ r c _ (h42 r c), lane_apply v64 _ r c _ (h64 r c), h20]
  congr 1
  by_cases h : c.val < 64
  · rw [if_pos h, dif_pos h]
    show shapeCast S32x128 wA _ (ix2 r (evenLane c)) = _
    rw [in_cast]
    congr 2
    apply Fin.ext; simp [evenLane, h]; omega
  · rw [if_neg h, dif_neg h]
    show shapeCast S32x128 wB _ (ix2 r (oddLane c)) = _
    rw [in_cast]
    congr 2
    apply Fin.ext; simp [oddLane, h]; omega

theorem hiTile_apply (v : Fin 8) (h20 : ∀ r c, v20 (ix2 r c) = if c.val < 64 then 1#1 else 0#1)
    (h42 : ∀ r c, v42 (ix2 r c) = BitVec.ofNat 32 (evenLane c).val) (h64 : ∀ r c, v64 (ix2 r c) = BitVec.ofNat 32 (oddLane c).val)
    (h88 : ∀ r c, v88 (ix2 r c) = BitVec.ofNat 32 (c.val / 64)) (h113 : ∀ r c, v113 (ix2 r c) = BitVec.ofNat 32 (c.val / 64))
    (r : Fin 32) (c : Fin 128) :
    hiTile (BitVec.ofNat 32 (2 * v.val)) v20 v42 v64 v88 v113 wA wB cd sc zr (ix3 0 r c)
      = ((if h : c.val < 64 then wA (ix3 0 r ⟨2 * c.val + 1, by omega⟩) else wB (ix3 0 r ⟨2 * c.val + 1 - 128, by omega⟩) : EReal)
        - ((((cd (ix3 0 r c) >>> 4).toNat : ℝ) : EReal) - (zr (ix2 r ⟨2 * v.val + c.val / 64, by omega⟩) : EReal))
          * (sc (ix2 r ⟨2 * v.val + c.val / 64, by omega⟩) : EReal) : EReal) := by
  unfold hiTile
  rw [out_cast]
  have hz : ∀ x : S32x128.Idx → EReal, lane (addi v88 (broadcast S32x128 (BitVec.ofNat 32 (2 * v.val)))) x (ix2 r c) = x (ix2 r ⟨2 * v.val + c.val / 64, by omega⟩) :=
    fun x => lane_apply _ _ _ _ _ (by show v88 (ix2 r c) + _ = _; rw [h88]; exact group_add v c)
  have hs : ∀ x : S32x128.Idx → EReal, lane (addi v113 (broadcast S32x128 (BitVec.ofNat 32 (2 * v.val)))) x (ix2 r c) = x (ix2 r ⟨2 * v.val + c.val / 64, by omega⟩) :=
    fun x => lane_apply _ _ _ _ _ (by show v113 (ix2 r c) + _ = _; rw [h113]; exact group_add v c)
  show (dynamicRotate 1 64#32 none _ _ (ix2 r c) : EReal)
      - ((((bitcast S32x128 8 _ _ (ix2 r c)).toNat : ℝ) : EReal) - lane (addi v88 _) _ (ix2 r c)) * lane (addi v113 _) _ (ix2 r c) = _
  rw [hz, hs, hi_byte, in_cast, roll_apply]
  congr 1
  show (Scalar.select (v20 (ix2 r _)) (lane v64 _ (ix2 r _)) (lane v42 _ (ix2 r _)) : EReal) = _
  rw [lane_apply v42 _ r _ _ (h42 r _), lane_apply v64 _ r _ _ (h64 r _), h20]
  by_cases h : c.val < 64
  · have h' : ¬ (c.val + 64) % 128 < 64 := by omega
    rw [if_neg h', dif_pos h]
    show shapeCast S32x128 wA _ (ix2 r (evenLane _)) = _
    rw [in_cast]
    congr 2
    apply Fin.ext; simp [evenLane, h']; omega
  · have h' : (c.val + 64) % 128 < 64 := by omega
    rw [if_pos h', dif_neg h]
    show shapeCast S32x128 wB _ (ix2 r (oddLane _)) = _
    rw [in_cast]
    congr 2
    apply Fin.ext; simp [oddLane, h']; omega

end Cert.KernelIdeal.K0
-- ==== Proof.Value.FirstTile.lean ====
/- The `first` call's unpacking of the int4 residual: what its loop over the block's rows leaves, read at an index over the
   extended reals. -/
module

public import proofs.«01_k».proof.Proof.Value.FirstPiece

@[expose] public section

set_option maxRecDepth 16384

noncomputable section

namespace Cert.KernelIdeal.K0

open Cert.KernelIdeal.Gen
open Idealize.ShloMosaic Idealize.ShloMosaic.TcCoe Idealize.SL.Sem

/-- The nibble of a byte: the low one (`h = 0`) or the high one. -/
def nib (h : ℕ) (b : BitVec 8) : BitVec 8 := if h = 0 then b &&& 15#8 else b >>> 4

/-- Element `(s, j)` of the residual's block: the even columns of the weight in front, the odd ones behind. -/
def eBlk (x0 : Vec Ideal S1x512x2048 .bf16) (x1 : Vec Ideal S1x512x1024 .i8) (x2 : Vec Ideal S1x16x512 .f32) (x3 : Vec Ideal S1x16x512 .i8)
    (s : Fin 512) (j : Fin 2048) : EReal :=
  (x0 (ix3 0 s ⟨2 * (j.val % 1024) + j.val / 1024, by omega⟩) : EReal)
    - ((((nib (j.val / 1024) (x1 (ix3 0 s ⟨j.val % 1024, by omega⟩))).toNat : ℝ) : EReal)
        - (((x3 (ix3 0 ⟨j.val % 1024 / 64, by omega⟩ s) : BitVec 8).toNat : ℝ) : EReal))
      * (x2 (ix3 0 ⟨j.val % 1024 / 64, by omega⟩ s) : EReal)

/-- The same, over the block's own index. -/
def eOut (x0 : Vec Ideal S1x512x2048 .bf16) (x1 : Vec Ideal S1x512x1024 .i8) (x2 : Vec Ideal S1x16x512 .f32) (x3 : Vec Ideal S1x16x512 .i8) :
    Vec Ideal S1x512x2048 .bf16 := fun y => eBlk x0 x1 x2 x3 (y 1) (y 2)

theorem trips_eq : k0_t1_loop.trips = 16 := by decide +kernel

theorem off1_eq (k : Fin k0_t1_loop.trips) : k0_off1 k = ![32 * k.val, 0] := by
  revert k; decide +kernel
theorem off2_eq (k : Fin k0_t1_loop.trips) : k0_off2 k = ![0, 32 * k.val, 0] := by
  revert k; decide +kernel
theorem off3_eq (k : Fin k0_t1_loop.trips) : k0_off3 k = ![0, 32 * k.val, 0] := by
  revert k; decide +kernel
theorem off4_eq (k : Fin k0_t1_loop.trips) : k0_off4 k = ![0, 32 * k.val, 128] := by
  revert k; decide +kernel
theorem off5_eq (k : Fin k0_t1_loop.trips) : k0_off5 k = ![0, 32 * k.val, 1024] := by
  revert k; decide +kernel
theorem off6_eq (k : Fin k0_t1_loop.trips) : k0_off6 k = ![0, 32 * k.val, 128] := by
  revert k; decide +kernel
theorem off7_eq (k : Fin k0_t1_loop.trips) : k0_off7 k = ![0, 32 * k.val, 256] := by
  revert k; decide +kernel
theorem off8_eq (k : Fin k0_t1_loop.trips) : k0_off8 k = ![0, 32 * k.val, 384] := by
  revert k; decide +kernel
theorem off9_eq (k : Fin k0_t1_loop.trips) : k0_off9 k = ![0, 32 * k.val, 1152] := by
  revert k; decide +kernel
theorem off10_eq (k : Fin k0_t1_loop.trips) : k0_off10 k = ![0, 32 * k.val, 256] := by
  revert k; decide +kernel
theorem off11_eq (k : Fin k0_t1_loop.trips) : k0_off11 k = ![0, 32 * k.val, 512] := by
  revert k; decide +kernel
theorem off12_eq (k : Fin k0_t1_loop.trips) : k0_off12 k = ![0, 32 * k.val, 640] := by
  revert k; decide +kernel
theorem off13_eq (k : Fin k0_t1_loop.trips) : k0_off13 k = ![0, 32 * k.val, 1280] := by
  revert k; decide +kernel
theorem off14_eq (k : Fin k0_t1_loop.trips) : k0_off14 k = ![0, 32 * k.val, 384] := by
  revert k; decide +kernel
theorem off15_eq (k : Fin k0_t1_loop.trips) : k0_off15 k = ![0, 32 * k.val, 768] := by
  revert k; decide +kernel
theorem off16_eq (k : Fin k0_t1_loop.trips) : k0_off16 k = ![0, 32 * k.val, 896] := by
  revert k; decide +kernel
theorem off17_eq (k : Fin k0_t1_loop.trips) : k0_off17 k = ![0, 32 * k.val, 1408] := by
  revert k; decide +kernel
theorem off18_eq (k : Fin k0_t1_loop.trips) : k0_off18 k = ![0, 32 * k.val, 512] := by
  revert k; decide +kernel
theorem off19_eq (k : Fin k0_t1_loop.trips) : k0_off19 k = ![0, 32 * k.val, 1536] := by
  revert k; decide +kernel
theorem off20_eq (k : Fin k0_t1_loop.trips) : k0_off20 k = ![0, 32 * k.val, 640] := by
  revert k; decide +kernel
theorem off21_eq (k : Fin k0_t1_loop.trips) : k0_off21 k = ![0, 32 * k.val, 1664] := by
  revert k; decide +kernel
theorem off22_eq (k : Fin k0_t1_loop.trips) : k0_off22 k = ![0, 32 * k.val, 768] := by
  revert k; decide +kernel
theorem off23_eq (k : Fin k0_t1_loop.trips) : k0_off23 k = ![0, 32 * k.val, 1792] := by
  revert k; decide +kernel
theorem off24_eq (k : Fin k0_t1_loop.trips) : k0_off24 k = ![0, 32 * k.val, 896] := by
  revert k; decide +kernel
theorem off25_eq (k : Fin k0_t1_loop.trips) : k0_off25 k = ![0, 32 * k.val, 1920] := by
  revert k; decide +kernel

/-! ## One tile -/

theorem tile_at (k : Fin 16) (b : ℕ) (hb : b + 128 ≤ 2048) (off : Fin 3 → ℕ) (inb : ∀ a, off a + ![1, 32, 128] a ≤ S1x512x2048.size a)
    (ho : off = ![0, 32 * k.val, b]) (r : Fin 32) (c : Fin 128) :
    (Rect.unit (s := S1x512x2048) off ![1, 32, 128] inb).emb (ix3 0 r c) = ix3 0 ⟨32 * k.val + r.val, by omega⟩ ⟨b + c.val, by omega⟩ := by
  subst ho
  funext a; fin_cases a <;> apply Fin.ext <;> simp [ix3, Rect.emb_apply]

theorem read_w (a : Memref sig .tc .vmem S1x512x2048 .bf16) (X : BufTy.Contents (Elt Ideal) a.view.ty) (k : Fin 16) (b : ℕ) (hb : b + 128 ≤ 2048)
    (off : Fin 3 → ℕ) (inb : ∀ a, off a + ![1, 32, 128] a ≤ S1x512x2048.size a) (ho : off = ![0, 32 * k.val, b]) (r : Fin 32) (c : Fin 128) :
    (a.view.readAt (Elt Ideal) (Rect.unit (s := S1x512x2048) off ![1, 32, 128] inb).toLoadRect X : _) (ix3 0 r c)
      = a.view.read (Elt Ideal) X (ix3 0 ⟨32 * k.val + r.val, by omega⟩ ⟨b + c.val, by omega⟩) := by
  rw [← tile_at k b hb off inb ho r c]; rfl

theorem read_c (a : Memref sig .tc .vmem S1x512x1024 .i8) (X : BufTy.Contents (Elt Ideal) a.view.ty) (k : Fin 16) (b : ℕ) (hb : b + 128 ≤ 1024)
    (off : Fin 3 → ℕ) (inb : ∀ a, off a + ![1, 32, 128] a ≤ S1x512x1024.size a) (ho : off = ![0, 32 * k.val, b]) (r : Fin 32) (c : Fin 128) :
    (a.view.readAt (Elt Ideal) (Rect.unit (s := S1x512x1024) off ![1, 32, 128] inb).toLoadRect X : _) (ix3 0 r c)
      = a.view.read (Elt Ideal) X (ix3 0 ⟨32 * k.val + r.val, by omega⟩ ⟨b + c.val, by omega⟩) := by
  subst ho
  rw [View.readAt_apply]
  congr 1
  funext a; fin_cases a <;> apply Fin.ext <;> simp [ix3]

theorem read_s {e : EltTy} (a : Memref sig .tc .vmem S512x128 e) (X : BufTy.Contents (Elt Ideal) a.view.ty) (k : Fin 16)
    (off : Fin 2 → ℕ) (inb : ∀ a, off a + ![32, 128] a ≤ S512x128.size a) (ho : off = ![32 * k.val, 0]) (r : Fin 32) (c : Fin 128) :
    (a.view.readAt (Elt Ideal) (Rect.unit (s := S512x128) off ![32, 128] inb).toLoadRect X : _) (ix2 r c)
      = a.view.read (Elt Ideal) X (ix2 ⟨32 * k.val + r.val, by omega⟩ c) := by
  subst ho
  rw [View.readAt_apply]
  congr 1
  funext a; fin_cases a <;> apply Fin.ext <;> simp [ix2]

section tile

variable (x0 : Vec Ideal S1x512x2048 .bf16) (x1 : Vec Ideal S1x512x1024 .i8) (x2 : Vec Ideal S1x16x512 .f32) (x3 : Vec Ideal S1x16x512 .i8)
  (v20 : IVec S32x128 1) (v42 v64 v88 v113 : IVec S32x128 32) (wA wB : Vec Ideal S1x32x128 .bf16)
  (cd : Vec Ideal S1x32x128 .i8) (sc : Vec Ideal S32x128 .f32) (zr : Vec Ideal S32x128 .bf16)

/-- The lane indices are what the body computes. -/
structure Lanes : Prop where
  h20 : ∀ r c, v20 (ix2 r c) = if c.val < 64 then 1#1 else 0#1
  h42 : ∀ r c, v42 (ix2 r c) = BitVec.ofNat 32 (evenLane c).val
  h64 : ∀ r c, v64 (ix2 r c) = BitVec.ofNat 32 (oddLane c).val
  h88 : ∀ (r : Fin 32) (c : Fin 128), v88 (ix2 r c) = BitVec.ofNat 32 (c.val / 64)
  h113 : ∀ (r : Fin 32) (c : Fin 128), v113 (ix2 r c) = BitVec.ofNat 32 (c.val / 64)

/-- The tiles read are those of pass `v` over rows `32 k …`. -/
structure Tiles (k : Fin 16) (v : Fin 8) : Prop where
  hA : ∀ (r : Fin 32) (c : Fin 128), wA (ix3 0 r c) = x0 (ix3 0 ⟨32 * k.val + r.val, by omega⟩ ⟨256 * v.val + c.val, by omega⟩)
  hB : ∀ (r : Fin 32) (c : Fin 128), wB (ix3 0 r c) = x0 (ix3 0 ⟨32 * k.val + r.val, by omega⟩ ⟨256 * v.val + 128 + c.val, by omega⟩)
  hC : ∀ (r : Fin 32) (c : Fin 128), cd (ix3 0 r c) = x1 (ix3 0 ⟨32 * k.val + r.val, by omega⟩ ⟨128 * v.val + c.val, by omega⟩)
  hS : ∀ (r : Fin 32) (g : Fin 16), sc (ix2 r ⟨g.val, by omega⟩) = x2 (ix3 0 g ⟨32 * k.val + r.val, by omega⟩)
  hZ : ∀ (r : Fin 32) (g : Fin 16), (zr (ix2 r ⟨g.val, by omega⟩) : EReal) = (((x3 (ix3 0 g ⟨32 * k.val + r.val, by omega⟩) : BitVec 8).toNat : ℝ) : EReal)

variable {x0 x1 x2 x3 v20 v42 v64 v88 v113 wA wB cd sc zr}

theorem lo_tile {k : Fin 16} {v : Fin 8} (hl : Lanes v20 v42 v64 v88 v113) (ht : Tiles x0 x1 x2 x3 wA wB cd sc zr k v) (g : BitVec 32) (hg : g = BitVec.ofNat 32 (2 * v.val)) (off : Fin 3 → ℕ)
    (inb : ∀ a, off a + ![1, 32, 128] a ≤ S1x512x2048.size a) (ho : off = ![0, 32 * k.val, 128 * v.val])
    (x : (Rect.unit (s := S1x512x2048) off ![1, 32, 128] inb).shape.Idx) :
    loTile g v20 v42 v64 v88 v113 wA wB cd sc zr x = eOut x0 x1 x2 x3 ((Rect.unit (s := S1x512x2048) off ![1, 32, 128] inb).emb x) := by
  subst hg
  obtain ⟨r, c, rfl⟩ : ∃ (r : Fin 32) (c : Fin 128), x = (ix3 0 r c : S1x32x128.Idx) :=
    ⟨x 1, x 2, by funext a; fin_cases a; · exact Fin.ext (by have := (x 0).isLt; change (x 0).val < 1 at this; show (x 0).val = 0; omega)
                  · rfl
                  · rfl⟩
  rw [tile_at k (128 * v.val) (by omega) off inb ho r c]
  refine (loTile_apply v20 v42 v64 v88 v113 wA wB cd sc zr v hl.h20 hl.h42 hl.h64 hl.h88 hl.h113 r c).trans ?_
  have hs := ht.hS r ⟨2 * v.val + c.val / 64, by omega⟩
  have hz := ht.hZ r ⟨2 * v.val + c.val / 64, by omega⟩
  have hc := ht.hC r c
  have hw : ((if h : c.val < 64 then wA (ix3 0 r ⟨2 * c.val, by omega⟩) else wB (ix3 0 r ⟨2 * c.val - 128, by omega⟩)) : EReal)
      = x0 (ix3 0 ⟨32 * k.val + r.val, by omega⟩ ⟨256 * v.val + 2 * c.val, by omega⟩) := by
    split
    · exact ht.hA r _
    · refine (ht.hB r _).trans ?_
      congr 2
      exact Fin.ext (by show 256 * v.val + 128 + (2 * c.val - 128) = 256 * v.val + 2 * c.val; omega)
  rw [hw, hs, hz, hc]
  unfold eOut eBlk
  have e1 : (128 * v.val + c.val) % 1024 = 128 * v.val + c.val := by omega
  have e2 : (128 * v.val + c.val) / 1024 = 0 := by omega
  have e3 : (128 * v.val + c.val) / 64 = 2 * v.val + c.val / 64 := by omega
  have e4 : 2 * (128 * v.val + c.val) = 256 * v.val + 2 * c.val := by omega
  show _ = (x0 (ix3 0 ⟨32 * k.val + r.val, by omega⟩ ⟨2 * ((128 * v.val + c.val) % 1024) + (128 * v.val + c.val) / 1024, by omega⟩) : EReal)
    - ((((nib ((128 * v.val + c.val) / 1024) (x1 (ix3 0 ⟨32 * k.val + r.val, by omega⟩ ⟨(128 * v.val + c.val) % 1024, by omega⟩))).toNat : ℝ) : EReal)
        - (((x3 (ix3 0 ⟨(128 * v.val + c.val) % 1024 / 64, by omega⟩ ⟨32 * k.val + r.val, by omega⟩) : BitVec 8).toNat : ℝ) : EReal))
      * (x2 (ix3 0 ⟨(128 * v.val + c.val) % 1024 / 64, by omega⟩ ⟨32 * k.val + r.val, by omega⟩) : EReal)
  simp only [e1, e2, e3, e4, nib, if_true, Nat.add_zero]

theorem hi_tile {k : Fin 16} {v : Fin 8} (hl : Lanes v20 v42 v64 v88 v113) (ht : Tiles x0 x1 x2 x3 wA wB cd sc zr k v) (g : BitVec 32) (hg : g = BitVec.ofNat 32 (2 * v.val)) (off : Fin 3 → ℕ)
    (inb : ∀ a, off a + ![1, 32, 128] a ≤ S1x512x2048.size a) (ho : off = ![0, 32 * k.val, 1024 + 128 * v.val])
    (x : (Rect.unit (s := S1x512x2048) off ![1, 32, 128] inb).shape.Idx) :
    hiTile g v20 v42 v64 v88 v113 wA wB cd sc zr x = eOut x0 x1 x2 x3 ((Rect.unit (s := S1x512x2048) off ![1, 32, 128] inb).emb x) := by
  subst hg
  obtain ⟨r, c, rfl⟩ : ∃ (r : Fin 32) (c : Fin 128), x = (ix3 0 r c : S1x32x128.Idx) :=
    ⟨x 1, x 2, by funext a; fin_cases a; · exact Fin.ext (by have := (x 0).isLt; change (x 0).val < 1 at this; show (x 0).val = 0; omega)
                  · rfl
                  · rfl⟩
  rw [tile_at k (1024 + 128 * v.val) (by omega) off inb ho r c]
  refine (hiTile_apply v20 v42 v64 v88 v113 wA wB cd sc zr v hl.h20 hl.h42 hl.h64 hl.h88 hl.h113 r c).trans ?_
  have hs := ht.hS r ⟨2 * v.val + c.val / 64, by omega⟩
  have hz := ht.hZ r ⟨2 * v.val + c.val / 64, by omega⟩
  have hc := ht.hC r c
  have hw : ((if h : c.val < 64 then wA (ix3 0 r ⟨2 * c.val + 1, by omega⟩) else wB (ix3 0 r ⟨2 * c.val + 1 - 128, by omega⟩)) : EReal)
      = x0 (ix3 0 ⟨32 * k.val + r.val, by omega⟩ ⟨256 * v.val + 2 * c.val + 1, by omega⟩) := by
    split
    · exact ht.hA r _
    · refine (ht.hB r _).trans ?_
      congr 2
      exact Fin.ext (by show 256 * v.val + 128 + (2 * c.val + 1 - 128) = 256 * v.val + 2 * c.val + 1; omega)
  rw [hw, hs, hz, hc]
  unfold eOut eBlk
  have e1 : (1024 + 128 * v.val + c.val) % 1024 = 128 * v.val + c.val := by omega
  have e2 : (1024 + 128 * v.val + c.val) / 1024 = 1 := by omega
  have e3 : (128 * v.val + c.val) / 64 = 2 * v.val + c.val / 64 := by omega
  have e4 : 2 * (128 * v.val + c.val) = 256 * v.val + 2 * c.val := by omega
  show _ = (x0 (ix3 0 ⟨32 * k.val + r.val, by omega⟩ ⟨2 * ((1024 + 128 * v.val + c.val) % 1024) + (1024 + 128 * v.val + c.val) / 1024, by omega⟩) : EReal)
    - ((((nib ((1024 + 128 * v.val + c.val) / 1024) (x1 (ix3 0 ⟨32 * k.val + r.val, by omega⟩ ⟨(1024 + 128 * v.val + c.val) % 1024, by omega⟩))).toNat : ℝ) : EReal)
        - (((x3 (ix3 0 ⟨(1024 + 128 * v.val + c.val) % 1024 / 64, by omega⟩ ⟨32 * k.val + r.val, by omega⟩) : BitVec 8).toNat : ℝ) : EReal))
      * (x2 (ix3 0 ⟨(1024 + 128 * v.val + c.val) % 1024 / 64, by omega⟩ ⟨32 * k.val + r.val, by omega⟩) : EReal)
  simp only [e1, e2, e3, e4, nib, if_neg (show ¬ (1 : ℕ) = 0 by decide)]

end tile

end Cert.KernelIdeal.K0
-- ==== Proof.Value.FirstTrip.lean ====
/- The `first` call's unpacking of the int4 residual: the pieces its loop over the block's rows stores. -/
module

public import proofs.«01_k».proof.Proof.Value.FirstTile

@[expose] public section

set_option maxRecDepth 16384

noncomputable section

namespace Cert.KernelIdeal.K0

open Cert.KernelIdeal.Gen
open Idealize.ShloMosaic Idealize.ShloMosaic.TcCoe Idealize.SL.Sem

variable {x0 : Vec Ideal S1x512x2048 .bf16} {x1 : Vec Ideal S1x512x1024 .i8} {x2 : Vec Ideal S1x16x512 .f32} {x3 : Vec Ideal S1x16x512 .i8}

/-- What the loop reads: the weight and code blocks as loaded, and the two scratch buffers holding the group scales and
    zero points of the block's rows, transposed. -/
structure Reads (arg2 : Memref sig .tc .vmem S1x512x2048 .bf16) (arg3 : Memref sig .tc .vmem S1x512x1024 .i8) (arg10 : Memref sig .tc .vmem S512x128 .f32) (arg11 : Memref sig .tc .vmem S512x128 .bf16)
    (x0 : Vec Ideal S1x512x2048 .bf16) (x1 : Vec Ideal S1x512x1024 .i8) (x2 : Vec Ideal S1x16x512 .f32) (x3 : Vec Ideal S1x16x512 .i8)
    (X2 : BufTy.Contents (Elt Ideal) arg2.view.ty) (X3 : BufTy.Contents (Elt Ideal) arg3.view.ty) (X10 : BufTy.Contents (Elt Ideal) arg10.view.ty) (X11 : BufTy.Contents (Elt Ideal) arg11.view.ty) : Prop where
  r2 : arg2.view.read (Elt Ideal) X2 = x0
  r3 : arg3.view.read (Elt Ideal) X3 = x1
  r10 : ∀ (s : Fin 512) (g : Fin 16), arg10.view.read (Elt Ideal) X10 (ix2 s ⟨g.val, by omega⟩) = x2 (ix3 0 g s)
  r11 : ∀ (s : Fin 512) (g : Fin 16), (arg11.view.read (Elt Ideal) X11 (ix2 s ⟨g.val, by omega⟩) : EReal) = (((x3 (ix3 0 g s) : BitVec 8).toNat : ℝ) : EReal)

theorem tiles {arg2 : Memref sig .tc .vmem S1x512x2048 .bf16} {arg3 : Memref sig .tc .vmem S1x512x1024 .i8} {arg10 : Memref sig .tc .vmem S512x128 .f32} {arg11 : Memref sig .tc .vmem S512x128 .bf16}
    {X2 : BufTy.Contents (Elt Ideal) arg2.view.ty} {X3 : BufTy.Contents (Elt Ideal) arg3.view.ty} {X10 : BufTy.Contents (Elt Ideal) arg10.view.ty} {X11 : BufTy.Contents (Elt Ideal) arg11.view.ty}
    (h : Reads arg2 arg3 arg10 arg11 x0 x1 x2 x3 X2 X3 X10 X11) (k : Fin 16) (v : Fin 8)
    (oA oB oC : Fin 3 → ℕ) (oS : Fin 2 → ℕ) (iA : ∀ a, oA a + ![1, 32, 128] a ≤ S1x512x2048.size a) (iB : ∀ a, oB a + ![1, 32, 128] a ≤ S1x512x2048.size a)
    (iC : ∀ a, oC a + ![1, 32, 128] a ≤ S1x512x1024.size a) (iS : ∀ a, oS a + ![32, 128] a ≤ S512x128.size a)
    (hA : oA = ![0, 32 * k.val, 256 * v.val]) (hB : oB = ![0, 32 * k.val, 256 * v.val + 128]) (hC : oC = ![0, 32 * k.val, 128 * v.val]) (hS : oS = ![32 * k.val, 0]) :
    Tiles x0 x1 x2 x3 (arg2.view.readAt (Elt Ideal) (Rect.unit (s := S1x512x2048) oA ![1, 32, 128] iA).toLoadRect X2)
      (arg2.view.readAt (Elt Ideal) (Rect.unit (s := S1x512x2048) oB ![1, 32, 128] iB).toLoadRect X2)
      (arg3.view.readAt (Elt Ideal) (Rect.unit (s := S1x512x1024) oC ![1, 32, 128] iC).toLoadRect X3)
      (arg10.view.readAt (Elt Ideal) (Rect.unit (s := S512x128) oS ![32, 128] iS).toLoadRect X10)
      (arg11.view.readAt (Elt Ideal) (Rect.unit (s := S512x128) oS ![32, 128] iS).toLoadRect X11) k v where
  hA r c := (read_w arg2 X2 k _ (by omega) oA iA hA r c).trans (congrFun h.r2 _)
  hB r c := (read_w arg2 X2 k _ (by omega) oB iB hB r c).trans (congrFun h.r2 _)
  hC r c := (read_c arg3 X3 k _ (by omega) oC iC hC r c).trans (congrFun h.r3 _)
  hS r g := (read_s arg10 X10 k oS iS hS r _).trans (h.r10 _ g)
  hZ r g := (read_s arg11 X11 k oS iS hS r _).trans (h.r11 _ g)

/-- A trip's number below the loop's literal count. -/
abbrev kk (k : Fin k0_t1_loop.trips) : Fin 16 := ⟨k.val, trips_eq ▸ k.isLt⟩

theorem trip_pieces (𝒱 : Variants) (c : Dev nD) (bd : Option 𝒱.V) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (v18 : IVec S32x128 32) (v20 : IVec S32x128 1) (v42 : IVec S32x128 32) (v64 : IVec S32x128 32) (c64_i32_24 : BitVec 32) (v66 : IVec S32x128 32) (v73 : IVec S32x128 32) (v79 : IVec S32x128 32) (X2 : BufTy.Contents (Elt Ideal) arg2.view.ty) (X3 : BufTy.Contents (Elt Ideal) arg3.view.ty) (X10 : BufTy.Contents (Elt Ideal) arg10.view.ty) (X11 : BufTy.Contents (Elt Ideal) arg11.view.ty)
    (hl : Lanes v20 v42 v64 (k0_pay107 v18 c64_i32_24 v66 v73 v79) k0_pay108) (h : Reads arg2 arg3 arg10 arg11 x0 x1 x2 x3 X2 X3 X10 X11) (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg11 harg11 v18 v20 v42 v64 c64_i32_24 v66 v73 v79 X2 X3 X10 X11 k, ∀ x : p.1.shape.Idx, p.2 x = eOut x0 x1 x2 x3 (p.1.emb x) := by
  unfold tripL_k0_t1 trip_k0_t1
  dsimp only
  simp only [List.forall_mem_cons]
  refine ⟨?_, ?_, ?_, ?_, ?_, ?_, ?_, ?_, ?_, ?_, ?_, ?_, ?_, ?_, ?_, ?_, fun p hp => absurd hp List.not_mem_nil⟩
  · have t := hi_tile (k := kk k) (v := 7) hl (tiles h (kk k) 7 (k0_off23 k) (k0_off25 k) (k0_off24 k) (k0_off1 k) (k0_off23_inb k) (k0_off25_inb k) (k0_off24_inb k) (k0_off1_inb k) (off23_eq k) (off25_eq k) (off24_eq k) (off1_eq k)) 14#32 rfl (k0_off25 k) (k0_off25_inb k) (off25_eq k)
    exact fun x => Eq.trans (congrFun rfl x) (t x)
  · have t := lo_tile (k := kk k) (v := 7) hl (tiles h (kk k) 7 (k0_off23 k) (k0_off25 k) (k0_off24 k) (k0_off1 k) (k0_off23_inb k) (k0_off25_inb k) (k0_off24_inb k) (k0_off1_inb k) (off23_eq k) (off25_eq k) (off24_eq k) (off1_eq k)) 14#32 rfl (k0_off16 k) (k0_off16_inb k) (off16_eq k)
    exact fun x => Eq.trans (congrFun rfl x) (t x)
  · have t := hi_tile (k := kk k) (v := 6) hl (tiles h (kk k) 6 (k0_off19 k) (k0_off21 k) (k0_off22 k) (k0_off1 k) (k0_off19_inb k) (k0_off21_inb k) (k0_off22_inb k) (k0_off1_inb k) (off19_eq k) (off21_eq k) (off22_eq k) (off1_eq k)) 12#32 rfl (k0_off23 k) (k0_off23_inb k) (off23_eq k)
    exact fun x => Eq.trans (congrFun rfl x) (t x)
  · have t := lo_tile (k := kk k) (v := 6) hl (tiles h (kk k) 6 (k0_off19 k) (k0_off21 k) (k0_off22 k) (k0_off1 k) (k0_off19_inb k) (k0_off21_inb k) (k0_off22_inb k) (k0_off1_inb k) (off19_eq k) (off21_eq k) (off22_eq k) (off1_eq k)) 12#32 rfl (k0_off15 k) (k0_off15_inb k) (off15_eq k)
    exact fun x => Eq.trans (congrFun rfl x) (t x)
  · have t := hi_tile (k := kk k) (v := 5) hl (tiles h (kk k) 5 (k0_off13 k) (k0_off17 k) (k0_off20 k) (k0_off1 k) (k0_off13_inb k) (k0_off17_inb k) (k0_off20_inb k) (k0_off1_inb k) (off13_eq k) (off17_eq k) (off20_eq k) (off1_eq k)) 10#32 rfl (k0_off21 k) (k0_off21_inb k) (off21_eq k)
    exact fun x => Eq.trans (congrFun rfl x) (t x)
  · have t := lo_tile (k := kk k) (v := 5) hl (tiles h (kk k) 5 (k0_off13 k) (k0_off17 k) (k0_off20 k) (k0_off1 k) (k0_off13_inb k) (k0_off17_inb k) (k0_off20_inb k) (k0_off1_inb k) (off13_eq k) (off17_eq k) (off20_eq k) (off1_eq k)) 10#32 rfl (k0_off12 k) (k0_off12_inb k) (off12_eq k)
    exact fun x => Eq.trans (congrFun rfl x) (t x)
  · have t := hi_tile (k := kk k) (v := 4) hl (tiles h (kk k) 4 (k0_off5 k) (k0_off9 k) (k0_off18 k) (k0_off1 k) (k0_off5_inb k) (k0_off9_inb k) (k0_off18_inb k) (k0_off1_inb k) (off5_eq k) (off9_eq k) (off18_eq k) (off1_eq k)) 8#32 rfl (k0_off19 k) (k0_off19_inb k) (off19_eq k)
    exact fun x => Eq.trans (congrFun rfl x) (t x)
  · have t := lo_tile (k := kk k) (v := 4) hl (tiles h (kk k) 4 (k0_off5 k) (k0_off9 k) (k0_off18 k) (k0_off1 k) (k0_off5_inb k) (k0_off9_inb k) (k0_off18_inb k) (k0_off1_inb k) (off5_eq k) (off9_eq k) (off18_eq k) (off1_eq k)) 8#32 rfl (k0_off11 k) (k0_off11_inb k) (off11_eq k)
    exact fun x => Eq.trans (congrFun rfl x) (t x)
  · have t := hi_tile (k := kk k) (v := 3) hl (tiles h (kk k) 3 (k0_off15 k) (k0_off16 k) (k0_off14 k) (k0_off1 k) (k0_off15_inb k) (k0_off16_inb k) (k0_off14_inb k) (k0_off1_inb k) (off15_eq k) (off16_eq k) (off14_eq k) (off1_eq k)) 6#32 rfl (k0_off17 k) (k0_off17_inb k) (off17_eq k)
    exact fun x => Eq.trans (congrFun rfl x) (t x)
  · have t := lo_tile (k := kk k) (v := 3) hl (tiles h (kk k) 3 (k0_off15 k) (k0_off16 k) (k0_off14 k) (k0_off1 k) (k0_off15_inb k) (k0_off16_inb k) (k0_off14_inb k) (k0_off1_inb k) (off15_eq k) (off16_eq k) (off14_eq k) (off1_eq k)) 6#32 rfl (k0_off8 k) (k0_off8_inb k) (off8_eq k)
    exact fun x => Eq.trans (congrFun rfl x) (t x)
  · have t := hi_tile (k := kk k) (v := 2) hl (tiles h (kk k) 2 (k0_off11 k) (k0_off12 k) (k0_off10 k) (k0_off1 k) (k0_off11_inb k) (k0_off12_inb k) (k0_off10_inb k) (k0_off1_inb k) (off11_eq k) (off12_eq k) (off10_eq k) (off1_eq k)) 4#32 rfl (k0_off13 k) (k0_off13_inb k) (off13_eq k)
    exact fun x => Eq.trans (congrFun rfl x) (t x)
  · have t := lo_tile (k := kk k) (v := 2) hl (tiles h (kk k) 2 (k0_off11 k) (k0_off12 k) (k0_off10 k) (k0_off1 k) (k0_off11_inb k) (k0_off12_inb k) (k0_off10_inb k) (k0_off1_inb k) (off11_eq k) (off12_eq k) (off10_eq k) (off1_eq k)) 4#32 rfl (k0_off7 k) (k0_off7_inb k) (off7_eq k)
    exact fun x => Eq.trans (congrFun rfl x) (t x)
  · have t := hi_tile (k := kk k) (v := 1) hl (tiles h (kk k) 1 (k0_off7 k) (k0_off8 k) (k0_off6 k) (k0_off1 k) (k0_off7_inb k) (k0_off8_inb k) (k0_off6_inb k) (k0_off1_inb k) (off7_eq k) (off8_eq k) (off6_eq k) (off1_eq k)) 2#32 rfl (k0_off9 k) (k0_off9_inb k) (off9_eq k)
    exact fun x => Eq.trans (congrFun rfl x) (t x)
  · have t := lo_tile (k := kk k) (v := 1) hl (tiles h (kk k) 1 (k0_off7 k) (k0_off8 k) (k0_off6 k) (k0_off1 k) (k0_off7_inb k) (k0_off8_inb k) (k0_off6_inb k) (k0_off1_inb k) (off7_eq k) (off8_eq k) (off6_eq k) (off1_eq k)) 2#32 rfl (k0_off4 k) (k0_off4_inb k) (off4_eq k)
    exact fun x => Eq.trans (congrFun rfl x) (t x)
  · have t := hi_tile (k := kk k) (v := 0) hl (tiles h (kk k) 0 (k0_off3 k) (k0_off4 k) (k0_off2 k) (k0_off1 k) (k0_off3_inb k) (k0_off4_inb k) (k0_off2_inb k) (k0_off1_inb k) (off3_eq k) (off4_eq k) (off2_eq k) (off1_eq k)) 0#32 rfl (k0_off5 k) (k0_off5_inb k) (off5_eq k)
    exact fun x => Eq.trans (congrFun rfl x) (t x)
  · have t := lo_tile (k := kk k) (v := 0) hl (tiles h (kk k) 0 (k0_off3 k) (k0_off4 k) (k0_off2 k) (k0_off1 k) (k0_off3_inb k) (k0_off4_inb k) (k0_off2_inb k) (k0_off1_inb k) (off3_eq k) (off4_eq k) (off2_eq k) (off1_eq k)) 0#32 rfl (k0_off3 k) (k0_off3_inb k) (off3_eq k)
    exact fun x => Eq.trans (congrFun rfl x) (t x)

/-- Every piece the trips before `n` store is the residual's block at its own place. -/
theorem loop_pieces (𝒱 : Variants) (c : Dev nD) (bd : Option 𝒱.V) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (v18 : IVec S32x128 32) (v20 : IVec S32x128 1) (v42 : IVec S32x128 32) (v64 : IVec S32x128 32) (c64_i32_24 : BitVec 32) (v66 : IVec S32x128 32) (v73 : IVec S32x128 32) (v79 : IVec S32x128 32) (X2 : BufTy.Contents (Elt Ideal) arg2.view.ty) (X3 : BufTy.Contents (Elt Ideal) arg3.view.ty) (X10 : BufTy.Contents (Elt Ideal) arg10.view.ty) (X11 : BufTy.Contents (Elt Ideal) arg11.view.ty)
    (hl : Lanes v20 v42 v64 (k0_pay107 v18 c64_i32_24 v66 v73 v79) k0_pay108) (h : Reads arg2 arg3 arg10 arg11 x0 x1 x2 x3 X2 X3 X10 X11) : ∀ n : ℕ, n ≤ k0_t1_loop.trips →
    ∀ p ∈ pb_k0_t1 (F := Ideal) 𝒱 c bd i arg2 harg2 arg3 harg3 arg4 harg4 arg5 harg5 arg6 harg6 arg7 harg7 arg8 harg8 arg9 harg9 arg10 harg10 arg11 harg11 v18 v20 v42 v64 c64_i32_24 v66 v73 v79 X2 X3 X10 X11 n, ∀ x : p.1.shape.Idx, p.2 x = eOut x0 x1 x2 x3 (p.1.emb x)
  | 0, _ => fun p hp => absurd hp List.not_mem_nil
  | n + 1, hn => fun p hp => by
    rw [pb_k0_t1_succ (F := Ideal) 𝒱 c bd i arg2 harg2 arg3 harg3 arg4 harg4 arg5 harg5 arg6 harg6 arg7 harg7 arg8 harg8 arg9 harg9 arg10 harg10 arg11 harg11 v18 v20 v42 v64 c64_i32_24 v66 v73 v79 X2 X3 X10 X11 ⟨n, hn⟩] at hp
    rcases List.mem_append.mp hp with hp | hp
    · exact trip_pieces 𝒱 c bd i arg2 harg2 arg3 harg3 arg4 harg4 arg5 harg5 arg6 harg6 arg7 harg7 arg8 harg8 arg9 harg9 arg10 harg10 arg11 harg11 v18 v20 v42 v64 c64_i32_24 v66 v73 v79 X2 X3 X10 X11 hl h ⟨n, hn⟩ p hp
    · exact loop_pieces 𝒱 c bd i arg2 harg2 arg3 harg3 arg4 harg4 arg5 harg5 arg6 harg6 arg7 harg7 arg8 harg8 arg9 harg9 arg10 harg10 arg11 harg11 v18 v20 v42 v64 c64_i32_24 v66 v73 v79 X2 X3 X10 X11 hl h n (Nat.le_of_succ_le hn) p hp

end Cert.KernelIdeal.K0
-- ==== Proof.Value.MidBlock.lean ====
/- The `mid` call, one grid point: what the body leaves in its output block, read at an index over the extended reals. -/
module

public import proofs.«01_k».proof.Proof.KernelIdeal.K1.Body
public import Idealize.ShloMosaic.Lib.Pipeline.Value
public import Idealize.ShloMosaic.Lib.Pointwise
public import Idealize.ShloMosaic.Lib.Tactic

@[expose] public section

set_option maxRecDepth 16384

noncomputable section

namespace Cert.KernelIdeal.K1

open Cert.KernelIdeal.Gen
open Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

/-- At a batch's first row block the body leaves the product alone. -/
theorem out_A {F : FTy → Type} [FloatOps F] (c : Dev nD) (i : grid1.Coords) (a2 : Memref sig .tc .vmem S1x512x2048 .bf16) (h2 : a2.IsWhole) (a3 : Memref sig .tc .vmem S1x192x2048 .bf16) (h3 : a3.IsWhole) (a4 : Memref sig .tc .vmem S1x192x2048 .f32) (h4 : a4.IsWhole) (hc0 : cond0_0 i) (hc1 : ¬cond0_1 i)
    (x0 : Vec F S1x512x2048 .bf16) (x1 : Vec F S1x192x2048 .bf16) :
    out0_A_2 c i a2 h2 a3 h3 a4 h4 hc0 hc1 x0 x1 = k1_pay2 x0 x1 := by
  unfold out0_A_2
  rw [View.read_writes_eq_canon _ _ _ (cover0_A_2 c i a2 h2 a3 h3 a4 h4 hc0 hc1 x0 x1)]
  unfold kernelRun0_A
  dsimp only
  rw [View.canon_unit_zero hz3]
  simp only [View.readAt_eq_ld, h2.read_unread, h3.read_unread, View.ld_unit_zero (S := S1x512x2048) hz3, View.ld_unit_zero (S := S1x192x2048) hz3]

/-- At every other row block it adds the product to what the point before left. -/
theorem out_B {F : FTy → Type} [FloatOps F] (c : Dev nD) (i : grid1.Coords) (a2 : Memref sig .tc .vmem S1x512x2048 .bf16) (h2 : a2.IsWhole) (a3 : Memref sig .tc .vmem S1x192x2048 .bf16) (h3 : a3.IsWhole) (a4 : Memref sig .tc .vmem S1x192x2048 .f32) (h4 : a4.IsWhole) (hc0 : ¬cond0_0 i) (hc1 : cond0_1 i)
    (x0 : Vec F S1x512x2048 .bf16) (x1 : Vec F S1x192x2048 .bf16) (xo : Vec F S1x192x2048 .f32) :
    out0_B_2 c i a2 h2 a3 h3 a4 h4 hc0 hc1 x0 x1 xo = k1_pay3 x0 x1 xo := by
  unfold out0_B_2
  rw [View.read_writes_eq_canon _ _ _ (cover0_B_2 c i a2 h2 a3 h3 a4 h4 hc0 hc1 x0 x1 xo)]
  unfold kernelRun0_B
  dsimp only
  rw [View.canon_unit_zero hz3]
  simp only [View.readAt_eq_ld, h2.read_unread, h3.read_unread, h4.read_unread, View.ld_unit_zero (S := S1x512x2048) hz3, View.ld_unit_zero (S := S1x192x2048) hz3]

/-- Row `r` of the sketch block: `P · Eᵀ` over the two halves of the columns. -/
def yBlk (x0 : Vec Ideal S1x512x2048 .bf16) (x1 : Vec Ideal S1x192x2048 .bf16) (r : Fin 192) (s : Fin 512) : EReal :=
  (∑ a : Fin 1024, x1 (ix3 0 r ⟨a, by omega⟩) * x0 (ix3 0 s ⟨a, by omega⟩))
    + ∑ a : Fin 1024, x1 (ix3 0 r ⟨1024 + a, by omega⟩) * x0 (ix3 0 s ⟨1024 + a, by omega⟩)

theorem pay2_apply (x0 : Vec Ideal S1x512x2048 .bf16) (x1 : Vec Ideal S1x192x2048 .bf16) (r : Fin 192) (k : Fin 2048) :
    (k1_pay2 (F := Ideal) x0 x1 : _) (ix3 0 r k) = ∑ s : Fin 512, yBlk x0 x1 r s * x0 (ix3 0 s k) := by
  pointwise [k1_pay2, k1_pay1, yBlk]

theorem pay3_apply (x0 : Vec Ideal S1x512x2048 .bf16) (x1 : Vec Ideal S1x192x2048 .bf16) (xo : Vec Ideal S1x192x2048 .f32) (r : Fin 192) (k : Fin 2048) :
    (k1_pay3 (F := Ideal) x0 x1 xo : _) (ix3 0 r k) = xo (ix3 0 r k) + ∑ s : Fin 512, yBlk x0 x1 r s * x0 (ix3 0 s k) := by
  pointwise [k1_pay3, k1_pay1, yBlk]

end Cert.KernelIdeal.K1

end
-- ==== Proof.Value.FirstBlock.lean ====
/- The `first` call, one grid point: what the body leaves in its three output blocks, read at an index over the extended
   reals. -/
module

public import proofs.«01_k».proof.Proof.Value.FirstTrip
public import proofs.«01_k».proof.Proof.Value.MidBlock
public import proofs.«01_k».proof.Proof.KernelIdeal.K0.Body

@[expose] public section

set_option maxRecDepth 16384

noncomputable section

namespace Cert.KernelIdeal.K0

open Cert.KernelIdeal.Gen
open Idealize.ShloMosaic Idealize.ShloMosaic.TcCoe Idealize.SL.Sem
open Cert.KernelIdeal.K1 (hz3 yBlk)

theorem hz2 : (![0, 0] : Fin 2 → Nat) = fun _ => 0 := funext fun a => by fin_cases a <;> rfl

/-- The scratch of group scales, transposed: the first sixteen columns. -/
theorem scales_apply (x2 : Vec Ideal S1x16x512 .f32) (s : Fin 512) (g : Fin 16) :
    (k0_pay97 (F := Ideal) x2 : _) (ix2 s ⟨g.val, by omega⟩) = x2 (ix3 0 g s) := by
  pointwise (disch := omega) [k0_pay97]

/-- The scratch of zero points, transposed: the first sixteen columns. -/
theorem zeros_apply (x3 : Vec Ideal S1x16x512 .i8) (s : Fin 512) (g : Fin 16) :
    ((k0_pay98 (F := Ideal) x3 : _) (ix2 s ⟨g.val, by omega⟩) : EReal) = (((x3 (ix3 0 g s) : BitVec 8).toNat : ℝ) : EReal) := by
  pointwise (disch := omega) [k0_pay98]
  rfl

theorem lanes : Lanes k0_pay99 (k0_pay102 k0_pay99 (Scalar.select (Scalar.cmpi .eq 128#32 0#32) 1#32 128#32) k0_pay100 k0_pay101)
    (k0_pay103 (iota .tc S32x128 32 [1] iota_S32x128_d1_w32) k0_pay99)
    (k0_pay107 (iota .tc S32x128 32 [1] iota_S32x128_d1_w32) 64#32 (k0_pay104 (iota .tc S32x128 32 [1] iota_S32x128_d1_w32))
      (k0_pay105 (iota .tc S32x128 32 [1] iota_S32x128_d1_w32)) k0_pay106) k0_pay108 where
  h20 := half_apply
  h42 := even_apply
  h64 := odd_apply
  h88 := group_apply
  h113 := group'_apply

theorem read_scales (arg10 : Memref sig .tc .vmem S512x128 .f32) (x2 : Vec Ideal S1x16x512 .f32) (inb : ∀ a, (![0, 0] : Fin 2 → ℕ) a + S512x128.size a ≤ S512x128.size a) (s : Fin 512) (g : Fin 16) :
    arg10.view.read (Elt Ideal) (arg10.view.writes (Elt Ideal) arg10.view.junk [⟨Rect.unit ![0, 0] S512x128.size inb, k0_pay97 x2⟩]) (ix2 s ⟨g.val, by omega⟩) = x2 (ix3 0 g s) := by
  rw [View.read_writes_junk_eq_canon, View.canon_unit_zero hz2]
  exact scales_apply x2 s g

theorem read_zeros (arg11 : Memref sig .tc .vmem S512x128 .bf16) (x3 : Vec Ideal S1x16x512 .i8) (inb : ∀ a, (![0, 0] : Fin 2 → ℕ) a + S512x128.size a ≤ S512x128.size a) (s : Fin 512) (g : Fin 16) :
    (arg11.view.read (Elt Ideal) (arg11.view.writes (Elt Ideal) arg11.view.junk [⟨Rect.unit ![0, 0] S512x128.size inb, k0_pay98 x3⟩]) (ix2 s ⟨g.val, by omega⟩) : EReal)
      = (((x3 (ix3 0 g s) : BitVec 8).toNat : ℝ) : EReal) := by
  rw [View.read_writes_junk_eq_canon, View.canon_unit_zero hz2]
  exact zeros_apply x3 s g

/-- A whole load after pieces that agree with one block and cover it reads the block. -/
theorem readCov_of_pieces (a : Memref sig .tc .vmem S1x512x2048 .bf16) (L : List (View.Piece (Elt Ideal) S1x512x2048 .bf16)) (G : Vec Ideal S1x512x2048 .bf16)
    (hG : ∀ p ∈ L, ∀ x : p.1.shape.Idx, p.2 x = G (p.1.emb x)) (hc : ∀ y, ∃ p ∈ L, y ∈ p.1.set)
    (inb : ∀ a, (![0, 0, 0] : Fin 3 → ℕ) a + S1x512x2048.size a ≤ S1x512x2048.size a) :
    a.view.readCov L (Rect.unit (s := S1x512x2048) ![0, 0, 0] S1x512x2048.size inb).toLoadRect = G := by
  have e : View.canon (Val := Elt Ideal) L = G := by
    rw [← View.read_writes_junk_eq_canon a.view L]
    exact funext fun y => View.read_writes_apply_of_pieces _ _ G L hG y (hc y)
  rw [View.readCov_eq_canon_ld _ _ _ hc, e, View.ld_unit_zero (S := S1x512x2048) hz3]

set_option maxHeartbeats 2000000 in
theorem pieces_A (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i) (x0 : Vec Ideal S1x512x2048 .bf16) (x1 : Vec Ideal S1x512x1024 .i8) (x2 : Vec Ideal S1x16x512 .f32) (x3 : Vec Ideal S1x16x512 .i8) (x4 : Vec Ideal S1x192x2048 .bf16) :
    ∀ p ∈ (kernelRun0_A c i arg2 harg2 arg3 harg3 arg4 harg4 arg5 harg5 arg6 harg6 arg7 harg7 arg8 harg8 arg9 harg9 arg10 harg10 arg11 harg11 hc0 hc1 x0 x1 x2 x3 x4).1, ∀ x : p.1.shape.Idx, p.2 x = eOut x0 x1 x2 x3 (p.1.emb x) := by
  unfold kernelRun0_A
  dsimp only
  have hl : Lanes k0_pay99 kernelRun0_A.sl.r (k0_pay103 kernelRun0_A.sl.v18 k0_pay99) (k0_pay107 kernelRun0_A.sl.v18 64#32 (k0_pay104 kernelRun0_A.sl.v18) (k0_pay105 kernelRun0_A.sl.v18) k0_pay106) k0_pay108 := by
    delta kernelRun0_A.sl.r kernelRun0_A.sl.v18
    exact lanes
  have hr : Reads arg2 arg3 arg10 arg11 x0 x1 x2 x3 (harg2.unread x0) (harg3.unread x1) (arg10.view.writes (Elt Ideal) arg10.view.junk (kernelRun0_A.sl.HS0_1 c arg4 harg4 x2)) (arg11.view.writes (Elt Ideal) arg11.view.junk (kernelRun0_A.sl.HS1_1 c arg5 harg5 x3)) := by
    refine ⟨harg2.read_unread _, harg3.read_unread _, ?_, ?_⟩
    · intro s g
      have e : (arg4.view.readAt (Elt Ideal) (Rect.unit (s := S1x16x512) ![0, 0, 0] S1x16x512.size inb_S1x16x512_S1x16x512_0_0_0).toLoadRect (harg4.unread x2)) = x2 := by
        rw [View.readAt_eq_ld, harg4.read_unread, View.ld_unit_zero (S := S1x16x512) hz3]
      have h := read_scales arg10 (arg4.view.readAt (Elt Ideal) (Rect.unit (s := S1x16x512) ![0, 0, 0] S1x16x512.size inb_S1x16x512_S1x16x512_0_0_0).toLoadRect (harg4.unread x2)) inb_S512x128_S512x128_0_0 s g
      exact h.trans (congrFun e _)
    · intro s g
      have e : (arg5.view.readAt (Elt Ideal) (Rect.unit (s := S1x16x512) ![0, 0, 0] S1x16x512.size inb_S1x16x512_S1x16x512_0_0_0).toLoadRect (harg5.unread x3)) = x3 := by
        rw [View.readAt_eq_ld, harg5.read_unread, View.ld_unit_zero (S := S1x16x512) hz3]
      have h := read_zeros arg11 (arg5.view.readAt (Elt Ideal) (Rect.unit (s := S1x16x512) ![0, 0, 0] S1x16x512.size inb_S1x16x512_S1x16x512_0_0_0).toLoadRect (harg5.unread x3)) inb_S512x128_S512x128_0_0 s g
      exact h.trans (congrArg (fun X : Vec Ideal S1x16x512 .i8 => (((X (ix3 0 g s) : BitVec 8).toNat : ℝ) : EReal)) e)
  have hn : Scf.trips 0#32 (Scalar.addi 0#32 16#32) 1#32 ≤ k0_t1_loop.trips := Nat.le_refl _
  exact loop_pieces Variants.none c none i arg2 harg2 arg3 harg3 arg4 harg4 arg5 harg5 arg6 harg6 arg7 harg7 arg8 harg8 arg9 harg9 arg10 harg10 arg11 harg11 _ _ _ _ _ _ _ _ _ _ _ _ hl hr _ hn

/-- The residual's block. -/
theorem out_A_5 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i) (x0 : Vec Ideal S1x512x2048 .bf16) (x1 : Vec Ideal S1x512x1024 .i8) (x2 : Vec Ideal S1x16x512 .f32) (x3 : Vec Ideal S1x16x512 .i8) (x4 : Vec Ideal S1x192x2048 .bf16) :
    out0_A_5 c i arg2 harg2 arg3 harg3 arg4 harg4 arg5 harg5 arg6 harg6 arg7 harg7 arg8 harg8 arg9 harg9 arg10 harg10 arg11 harg11 hc0 hc1 x0 x1 x2 x3 x4 = eOut x0 x1 x2 x3 := by
  unfold out0_A_5
  exact funext fun y => View.read_writes_apply_of_pieces _ _ (eOut x0 x1 x2 x3) _ (pieces_A c i arg2 harg2 arg3 harg3 arg4 harg4 arg5 harg5 arg6 harg6 arg7 harg7 arg8 harg8 arg9 harg9 arg10 harg10 arg11 harg11 hc0 hc1 x0 x1 x2 x3 x4) y
    (cover0_A_5 c i arg2 harg2 arg3 harg3 arg4 harg4 arg5 harg5 arg6 harg6 arg7 harg7 arg8 harg8 arg9 harg9 arg10 harg10 arg11 harg11 hc0 hc1 x0 x1 x2 x3 x4 y)

theorem load_A (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i) (x0 : Vec Ideal S1x512x2048 .bf16) (x1 : Vec Ideal S1x512x1024 .i8) (x2 : Vec Ideal S1x16x512 .f32) (x3 : Vec Ideal S1x16x512 .i8) (x4 : Vec Ideal S1x192x2048 .bf16) :
    arg7.view.readCov (kernelRun0_A c i arg2 harg2 arg3 harg3 arg4 harg4 arg5 harg5 arg6 harg6 arg7 harg7 arg8 harg8 arg9 harg9 arg10 harg10 arg11 harg11 hc0 hc1 x0 x1 x2 x3 x4).1 (Rect.unit (s := S1x512x2048) ![0, 0, 0] S1x512x2048.size inb_S1x512x2048_S1x512x2048_0_0_0).toLoadRect = eOut x0 x1 x2 x3 :=
  readCov_of_pieces arg7 _ _ (pieces_A c i arg2 harg2 arg3 harg3 arg4 harg4 arg5 harg5 arg6 harg6 arg7 harg7 arg8 harg8 arg9 harg9 arg10 harg10 arg11 harg11 hc0 hc1 x0 x1 x2 x3 x4) (cover0_A_5 c i arg2 harg2 arg3 harg3 arg4 harg4 arg5 harg5 arg6 harg6 arg7 harg7 arg8 harg8 arg9 harg9 arg10 harg10 arg11 harg11 hc0 hc1 x0 x1 x2 x3 x4) _

theorem sketch_A (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (x4 : Vec Ideal S1x192x2048 .bf16) :
    arg6.view.readAt (Elt Ideal) (Rect.unit (s := S1x192x2048) ![0, 0, 0] S1x192x2048.size inb_S1x192x2048_S1x192x2048_0_0_0).toLoadRect (harg6.unread x4) = x4 := by
  rw [View.readAt_eq_ld, harg6.read_unread, View.ld_unit_zero (S := S1x192x2048) hz3]

/-- The sketch's block, transposed. -/
theorem out_A_6 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i) (x0 : Vec Ideal S1x512x2048 .bf16) (x1 : Vec Ideal S1x512x1024 .i8) (x2 : Vec Ideal S1x16x512 .f32) (x3 : Vec Ideal S1x16x512 .i8) (x4 : Vec Ideal S1x192x2048 .bf16) :
    out0_A_6 c i arg2 harg2 arg3 harg3 arg4 harg4 arg5 harg5 arg6 harg6 arg7 harg7 arg8 harg8 arg9 harg9 arg10 harg10 arg11 harg11 hc0 hc1 x0 x1 x2 x3 x4 = k0_pay2 (k0_pay111 (eOut x0 x1 x2 x3)) (k0_pay112 x4) (k0_pay113 x4) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 hc1 x0 x1 x2 x3 x4)]
  have h1 := load_A c i arg2 harg2 arg3 harg3 arg4 harg4 arg5 harg5 arg6 harg6 arg7 harg7 arg8 harg8 arg9 harg9 arg10 harg10 arg11 harg11 hc0 hc1 x0 x1 x2 x3 x4
  have h2 := sketch_A c i arg2 harg2 arg3 harg3 arg4 harg4 arg5 harg5 arg6 harg6 arg7 harg7 arg8 harg8 arg9 harg9 arg10 harg10 arg11 harg11 x4
  unfold kernelRun0_A at h1 ⊢
  dsimp only at h1 ⊢
  rw [View.canon_unit_zero hz3]
  exact congrArg₂ (fun u w => k0_pay2 (k0_pay111 u) (k0_pay112 w) (k0_pay113 w)) h1 h2

/-- The back projection's block, transposed. -/
theorem out_A_7 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : cond0_0 i) (hc1 : ¬cond0_1 i) (x0 : Vec Ideal S1x512x2048 .bf16) (x1 : Vec Ideal S1x512x1024 .i8) (x2 : Vec Ideal S1x16x512 .f32) (x3 : Vec Ideal S1x16x512 .i8) (x4 : Vec Ideal S1x192x2048 .bf16) :
    out0_A_7 c i arg2 harg2 arg3 harg3 arg4 harg4 arg5 harg5 arg6 harg6 arg7 harg7 arg8 harg8 arg9 harg9 arg10 harg10 arg11 harg11 hc0 hc1 x0 x1 x2 x3 x4 = k0_pay4 (k0_pay111 (eOut x0 x1 x2 x3)) (k0_pay112 x4) (k0_pay113 x4) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4)]
  have h1 := load_A c i arg2 harg2 arg3 harg3 arg4 harg4 arg5 harg5 arg6 harg6 arg7 harg7 arg8 harg8 arg9 harg9 arg10 harg10 arg11 harg11 hc0 hc1 x0 x1 x2 x3 x4
  have h2 := sketch_A c i arg2 harg2 arg3 harg3 arg4 harg4 arg5 harg5 arg6 harg6 arg7 harg7 arg8 harg8 arg9 harg9 arg10 harg10 arg11 harg11 x4
  unfold kernelRun0_A at h1 ⊢
  dsimp only at h1 ⊢
  rw [View.canon_unit_zero hz3]
  exact congrArg₂ (fun u w => k0_pay4 (k0_pay111 u) (k0_pay112 w) (k0_pay113 w)) h1 h2

set_option maxHeartbeats 2000000 in
theorem pieces_B (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i) (x0 : Vec Ideal S1x512x2048 .bf16) (x1 : Vec Ideal S1x512x1024 .i8) (x2 : Vec Ideal S1x16x512 .f32) (x3 : Vec Ideal S1x16x512 .i8) (x4 : Vec Ideal S1x192x2048 .bf16) (xo : Vec Ideal S1x192x2048 .f32) :
    ∀ p ∈ (kernelRun0_B c i arg2 harg2 arg3 harg3 arg4 harg4 arg5 harg5 arg6 harg6 arg7 harg7 arg8 harg8 arg9 harg9 arg10 harg10 arg11 harg11 hc0 hc1 x0 x1 x2 x3 x4 xo).1, ∀ x : p.1.shape.Idx, p.2 x = eOut x0 x1 x2 x3 (p.1.emb x) := by
  unfold kernelRun0_B
  dsimp only
  have hl : Lanes k0_pay99 kernelRun0_B.sl.r (k0_pay103 kernelRun0_B.sl.v18 k0_pay99) (k0_pay107 kernelRun0_B.sl.v18 64#32 (k0_pay104 kernelRun0_B.sl.v18) (k0_pay105 kernelRun0_B.sl.v18) k0_pay106) k0_pay108 := by
    delta kernelRun0_B.sl.r kernelRun0_B.sl.v18
    exact lanes
  have hr : Reads arg2 arg3 arg10 arg11 x0 x1 x2 x3 (harg2.unread x0) (harg3.unread x1) (arg10.view.writes (Elt Ideal) arg10.view.junk (kernelRun0_B.sl.HS0_1 c arg4 harg4 x2)) (arg11.view.writes (Elt Ideal) arg11.view.junk (kernelRun0_B.sl.HS1_1 c arg5 harg5 x3)) := by
    refine ⟨harg2.read_unread _, harg3.read_unread _, ?_, ?_⟩
    · intro s g
      have e : (arg4.view.readAt (Elt Ideal) (Rect.unit (s := S1x16x512) ![0, 0, 0] S1x16x512.size inb_S1x16x512_S1x16x512_0_0_0).toLoadRect (harg4.unread x2)) = x2 := by
        rw [View.readAt_eq_ld, harg4.read_unread, View.ld_unit_zero (S := S1x16x512) hz3]
      have h := read_scales arg10 (arg4.view.readAt (Elt Ideal) (Rect.unit (s := S1x16x512) ![0, 0, 0] S1x16x512.size inb_S1x16x512_S1x16x512_0_0_0).toLoadRect (harg4.unread x2)) inb_S512x128_S512x128_0_0 s g
      exact h.trans (congrFun e _)
    · intro s g
      have e : (arg5.view.readAt (Elt Ideal) (Rect.unit (s := S1x16x512) ![0, 0, 0] S1x16x512.size inb_S1x16x512_S1x16x512_0_0_0).toLoadRect (harg5.unread x3)) = x3 := by
        rw [View.readAt_eq_ld, harg5.read_unread, View.ld_unit_zero (S := S1x16x512) hz3]
      have h := read_zeros arg11 (arg5.view.readAt (Elt Ideal) (Rect.unit (s := S1x16x512) ![0, 0, 0] S1x16x512.size inb_S1x16x512_S1x16x512_0_0_0).toLoadRect (harg5.unread x3)) inb_S512x128_S512x128_0_0 s g
      exact h.trans (congrArg (fun X : Vec Ideal S1x16x512 .i8 => (((X (ix3 0 g s) : BitVec 8).toNat : ℝ) : EReal)) e)
  have hn : Scf.trips 0#32 (Scalar.addi 0#32 16#32) 1#32 ≤ k0_t1_loop.trips := Nat.le_refl _
  exact loop_pieces Variants.none c none i arg2 harg2 arg3 harg3 arg4 harg4 arg5 harg5 arg6 harg6 arg7 harg7 arg8 harg8 arg9 harg9 arg10 harg10 arg11 harg11 _ _ _ _ _ _ _ _ _ _ _ _ hl hr _ hn

/-- The residual's block. -/
theorem out_B_5 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i) (x0 : Vec Ideal S1x512x2048 .bf16) (x1 : Vec Ideal S1x512x1024 .i8) (x2 : Vec Ideal S1x16x512 .f32) (x3 : Vec Ideal S1x16x512 .i8) (x4 : Vec Ideal S1x192x2048 .bf16) (xo : Vec Ideal S1x192x2048 .f32) :
    out0_B_5 c i arg2 harg2 arg3 harg3 arg4 harg4 arg5 harg5 arg6 harg6 arg7 harg7 arg8 harg8 arg9 harg9 arg10 harg10 arg11 harg11 hc0 hc1 x0 x1 x2 x3 x4 xo = eOut x0 x1 x2 x3 := by
  unfold out0_B_5
  exact funext fun y => View.read_writes_apply_of_pieces _ _ (eOut x0 x1 x2 x3) _ (pieces_B c i arg2 harg2 arg3 harg3 arg4 harg4 arg5 harg5 arg6 harg6 arg7 harg7 arg8 harg8 arg9 harg9 arg10 harg10 arg11 harg11 hc0 hc1 x0 x1 x2 x3 x4 xo) y
    (cover0_B_5 c i arg2 harg2 arg3 harg3 arg4 harg4 arg5 harg5 arg6 harg6 arg7 harg7 arg8 harg8 arg9 harg9 arg10 harg10 arg11 harg11 hc0 hc1 x0 x1 x2 x3 x4 xo y)

theorem load_B (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i) (x0 : Vec Ideal S1x512x2048 .bf16) (x1 : Vec Ideal S1x512x1024 .i8) (x2 : Vec Ideal S1x16x512 .f32) (x3 : Vec Ideal S1x16x512 .i8) (x4 : Vec Ideal S1x192x2048 .bf16) (xo : Vec Ideal S1x192x2048 .f32) :
    arg7.view.readCov (kernelRun0_B c i arg2 harg2 arg3 harg3 arg4 harg4 arg5 harg5 arg6 harg6 arg7 harg7 arg8 harg8 arg9 harg9 arg10 harg10 arg11 harg11 hc0 hc1 x0 x1 x2 x3 x4 xo).1 (Rect.unit (s := S1x512x2048) ![0, 0, 0] S1x512x2048.size inb_S1x512x2048_S1x512x2048_0_0_0).toLoadRect = eOut x0 x1 x2 x3 :=
  readCov_of_pieces arg7 _ _ (pieces_B c i arg2 harg2 arg3 harg3 arg4 harg4 arg5 harg5 arg6 harg6 arg7 harg7 arg8 harg8 arg9 harg9 arg10 harg10 arg11 harg11 hc0 hc1 x0 x1 x2 x3 x4 xo) (cover0_B_5 c i arg2 harg2 arg3 harg3 arg4 harg4 arg5 harg5 arg6 harg6 arg7 harg7 arg8 harg8 arg9 harg9 arg10 harg10 arg11 harg11 hc0 hc1 x0 x1 x2 x3 x4 xo) _

theorem sketch_B (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (x4 : Vec Ideal S1x192x2048 .bf16) :
    arg6.view.readAt (Elt Ideal) (Rect.unit (s := S1x192x2048) ![0, 0, 0] S1x192x2048.size inb_S1x192x2048_S1x192x2048_0_0_0).toLoadRect (harg6.unread x4) = x4 := by
  rw [View.readAt_eq_ld, harg6.read_unread, View.ld_unit_zero (S := S1x192x2048) hz3]

/-- The sketch's block, transposed. -/
theorem out_B_6 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i) (x0 : Vec Ideal S1x512x2048 .bf16) (x1 : Vec Ideal S1x512x1024 .i8) (x2 : Vec Ideal S1x16x512 .f32) (x3 : Vec Ideal S1x16x512 .i8) (x4 : Vec Ideal S1x192x2048 .bf16) (xo : Vec Ideal S1x192x2048 .f32) :
    out0_B_6 c i arg2 harg2 arg3 harg3 arg4 harg4 arg5 harg5 arg6 harg6 arg7 harg7 arg8 harg8 arg9 harg9 arg10 harg10 arg11 harg11 hc0 hc1 x0 x1 x2 x3 x4 xo = k0_pay2 (k0_pay111 (eOut x0 x1 x2 x3)) (k0_pay112 x4) (k0_pay113 x4) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 hc1 x0 x1 x2 x3 x4 xo)]
  have h1 := load_B c i arg2 harg2 arg3 harg3 arg4 harg4 arg5 harg5 arg6 harg6 arg7 harg7 arg8 harg8 arg9 harg9 arg10 harg10 arg11 harg11 hc0 hc1 x0 x1 x2 x3 x4 xo
  have h2 := sketch_B c i arg2 harg2 arg3 harg3 arg4 harg4 arg5 harg5 arg6 harg6 arg7 harg7 arg8 harg8 arg9 harg9 arg10 harg10 arg11 harg11 x4
  unfold kernelRun0_B at h1 ⊢
  dsimp only at h1 ⊢
  rw [View.canon_unit_zero hz3]
  exact congrArg₂ (fun u w => k0_pay2 (k0_pay111 u) (k0_pay112 w) (k0_pay113 w)) h1 h2

/-- The back projection's block, transposed. -/
theorem out_B_7 (c : Dev nD) (i : grid0.Coords) (arg2 : Memref sig .tc .vmem S1x512x2048 .bf16) (harg2 : arg2.IsWhole) (arg3 : Memref sig .tc .vmem S1x512x1024 .i8) (harg3 : arg3.IsWhole) (arg4 : Memref sig .tc .vmem S1x16x512 .f32) (harg4 : arg4.IsWhole) (arg5 : Memref sig .tc .vmem S1x16x512 .i8) (harg5 : arg5.IsWhole) (arg6 : Memref sig .tc .vmem S1x192x2048 .bf16) (harg6 : arg6.IsWhole) (arg7 : Memref sig .tc .vmem S1x512x2048 .bf16) (harg7 : arg7.IsWhole) (arg8 : Memref sig .tc .vmem S1x192x512 .f32) (harg8 : arg8.IsWhole) (arg9 : Memref sig .tc .vmem S1x192x2048 .f32) (harg9 : arg9.IsWhole) (arg10 : Memref sig .tc .vmem S512x128 .f32) (harg10 : arg10.IsWhole) (arg11 : Memref sig .tc .vmem S512x128 .bf16) (harg11 : arg11.IsWhole) (hc0 : ¬cond0_0 i) (hc1 : cond0_1 i) (x0 : Vec Ideal S1x512x2048 .bf16) (x1 : Vec Ideal S1x512x1024 .i8) (x2 : Vec Ideal S1x16x512 .f32) (x3 : Vec Ideal S1x16x512 .i8) (x4 : Vec Ideal S1x192x2048 .bf16) (xo : Vec Ideal S1x192x2048 .f32) :
    out0_B_7 c i arg2 harg2 arg3 harg3 arg4 harg4 arg5 harg5 arg6 harg6 arg7 harg7 arg8 harg8 arg9 harg9 arg10 harg10 arg11 harg11 hc0 hc1 x0 x1 x2 x3 x4 xo = k0_pay5 (k0_pay111 (eOut x0 x1 x2 x3)) (k0_pay112 x4) (k0_pay113 x4) xo := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 xo)]
  have h1 := load_B c i arg2 harg2 arg3 harg3 arg4 harg4 arg5 harg5 arg6 harg6 arg7 harg7 arg8 harg8 arg9 harg9 arg10 harg10 arg11 harg11 hc0 hc1 x0 x1 x2 x3 x4 xo
  have h2 := sketch_B c i arg2 harg2 arg3 harg3 arg4 harg4 arg5 harg5 arg6 harg6 arg7 harg7 arg8 harg8 arg9 harg9 arg10 harg10 arg11 harg11 x4
  have h3 : arg9.view.readAt (Elt Ideal) (Rect.unit (s := S1x192x2048) ![0, 0, 0] S1x192x2048.size inb_S1x192x2048_S1x192x2048_0_0_0).toLoadRect (harg9.unread xo) = xo := by
    rw [View.readAt_eq_ld, harg9.read_unread, View.ld_unit_zero (S := S1x192x2048) hz3]
  unfold kernelRun0_B at h1 ⊢
  dsimp only at h1 ⊢
  rw [View.canon_unit_zero hz3]
  exact (congrArg₂ (fun u w => k0_pay5 (k0_pay111 u) (k0_pay112 w) (k0_pay113 w) _) h1 h2).trans (congrArg (k0_pay5 _ _ _) h3)

theorem pay2_apply (e : Vec Ideal S1x512x2048 .bf16) (x4 : Vec Ideal S1x192x2048 .bf16) (r : Fin 192) (s : Fin 512) :
    (k0_pay2 (F := Ideal) (k0_pay111 e) (k0_pay112 x4) (k0_pay113 x4) : _) (ix3 0 r s) = yBlk e x4 r s := by
  pointwise [k0_pay2, k0_pay1, k0_pay111, k0_pay112, k0_pay113, yBlk]

theorem pay4_apply (e : Vec Ideal S1x512x2048 .bf16) (x4 : Vec Ideal S1x192x2048 .bf16) (r : Fin 192) (k : Fin 2048) :
    (k0_pay4 (F := Ideal) (k0_pay111 e) (k0_pay112 x4) (k0_pay113 x4) : _) (ix3 0 r k) = ∑ s : Fin 512, yBlk e x4 r s * e (ix3 0 s k) := by
  pointwise [k0_pay4, k0_pay3, k0_pay1, k0_pay111, k0_pay112, k0_pay113, yBlk]

theorem pay5_apply (e : Vec Ideal S1x512x2048 .bf16) (x4 : Vec Ideal S1x192x2048 .bf16) (xo : Vec Ideal S1x192x2048 .f32) (r : Fin 192) (k : Fin 2048) :
    (k0_pay5 (F := Ideal) (k0_pay111 e) (k0_pay112 x4) (k0_pay113 x4) xo : _) (ix3 0 r k) = xo (ix3 0 r k) + ∑ s : Fin 512, yBlk e x4 r s * e (ix3 0 s k) := by
  pointwise [k0_pay5, k0_pay3, k0_pay1, k0_pay111, k0_pay112, k0_pay113, yBlk]

end Cert.KernelIdeal.K0
-- ==== Proof.Value.MidArray.lean ====
/- The `mid` call: what its result array holds at the end, as a product over all 16384 rows. -/
module

public import proofs.«01_k».proof.Proof.Value.MidBlock

@[expose] public section

set_option maxRecDepth 16384

noncomputable section

namespace Cert.KernelIdeal

open Cert.KernelIdeal.Gen
open Idealize.ShloMosaic Idealize.ShloMosaic.TcCoe Idealize.SL.Sem
open Idealize.ShloMosaic.Pipeline (Dat)

/-- Entry `(b, s, r)` of `E · P` with the columns in two halves, `E` by rows and `P` transposed. -/
def yAt (e : Vec Ideal S2x16384x2048 .bf16) (p : Vec Ideal S2x192x2048 .bf16) (b : Fin 2) (r : Fin 192) (s : Fin 16384) : EReal :=
  (∑ a : Fin 1024, p (ix3 b r ⟨a, by omega⟩) * e (ix3 b s ⟨a, by omega⟩))
    + ∑ a : Fin 1024, p (ix3 b r ⟨1024 + a, by omega⟩) * e (ix3 b s ⟨1024 + a, by omega⟩)

/-- Entry `(b, r, k)` of `(Eᵀ · (E · P))ᵀ`. -/
def qAt (e : Vec Ideal S2x16384x2048 .bf16) (p : Vec Ideal S2x192x2048 .bf16) (b : Fin 2) (r : Fin 192) (k : Fin 2048) : EReal :=
  ∑ s : Fin 16384, yAt e p b r s * e (ix3 b s k)

/-- A sum over the 16384 rows, block by block. -/
theorem sum_rows (f : Fin 16384 → EReal) :
    ∑ s : Fin 16384, f s = ∑ i : Fin 32, ∑ s : Fin 512, f ⟨512 * i + s, by omega⟩ := by
  rw [← Fintype.sum_prod_type']
  refine (Fintype.sum_equiv (finProdFinEquiv (m := 32) (n := 512)) _ _ fun x => ?_).symm
  refine congrArg f (Fin.ext ?_)
  simp [finProdFinEquiv]
  omega

theorem congr3 {α : Type} (f : Fin 2 → Fin 192 → Fin 2048 → α) {b b' : Fin 2} {r r' : Fin 192} {k k' : Fin 2048} (hb : b.val = b'.val)
    (hr : r.val = r'.val) (hk : k.val = k'.val) : f b r k = f b' r' k' := by
  rw [Fin.ext hb, Fin.ext hr, Fin.ext hk]

namespace K1

theorem idx0 : ∀ t : Fin 64, cc1_transform_0 (grid1.coords t) 0 = t.val / 32 ∧ cc1_transform_0 (grid1.coords t) 1 = t.val % 32 ∧ cc1_transform_0 (grid1.coords t) 2 = 0 := by
  decide +kernel
theorem idx1 : ∀ t : Fin 64, cc1_transform_1 (grid1.coords t) 0 = t.val / 32 ∧ cc1_transform_1 (grid1.coords t) 1 = 0 ∧ cc1_transform_1 (grid1.coords t) 2 = 0 := by
  decide +kernel
theorem idx2 : ∀ t : Fin 64, cc1_transform_2 (grid1.coords t) 0 = t.val / 32 ∧ cc1_transform_2 (grid1.coords t) 1 = 0 ∧ cc1_transform_2 (grid1.coords t) 2 = 0 := by
  decide +kernel

variable (V : (c : Dev nD) → (b : Ref sig .tc) → Buf (Elt Ideal) ((c : Thread nD τ).loc b))

abbrev eArr (c : Dev nD) : Vec Ideal S2x16384x2048 .bf16 := V c (Pipeline.arrRef spec1 0)
abbrev pArr (c : Dev nD) : Vec Ideal S2x192x2048 .bf16 := V c (Pipeline.arrRef spec1 1)

theorem iblk0_apply (c : Dev nD) (t : Fin cfg1.N) (b : Fin 2) (j : Fin 32) (ht : t.val = 32 * b + j) (s : Fin 512) (a : Fin 2048) :
    (iblk V c 0 t : Vec Ideal S1x512x2048 .bf16) (ix3 0 s a) = eArr V c (ix3 b ⟨512 * j + s, by omega⟩ a) := by
  have hi := idx0 t
  refine congrArg (eArr V c) (funext fun x => Fin.ext ?_)
  refine (win1_0.rect_emb_val t _ x).trans ?_
  show cc1_transform_0 (grid1.coords t) x * S1x512x2048.size x + _ = _
  match x with
  | ⟨0, _⟩ => show cc1_transform_0 (grid1.coords t) 0 * 1 + 0 = b.val; rw [hi.1]; omega
  | ⟨1, _⟩ => show cc1_transform_0 (grid1.coords t) 1 * 512 + s.val = 512 * j.val + s.val; rw [hi.2.1]; omega
  | ⟨2, _⟩ => show cc1_transform_0 (grid1.coords t) 2 * 2048 + a.val = a.val; rw [hi.2.2]; omega

theorem iblk1_apply (c : Dev nD) (t : Fin cfg1.N) (b : Fin 2) (j : Fin 32) (ht : t.val = 32 * b + j) (r : Fin 192) (a : Fin 2048) :
    (iblk V c 1 t : Vec Ideal S1x192x2048 .bf16) (ix3 0 r a) = pArr V c (ix3 b r a) := by
  have hi := idx1 t
  refine congrArg (pArr V c) (funext fun x => Fin.ext ?_)
  refine (win1_1.rect_emb_val t _ x).trans ?_
  show cc1_transform_1 (grid1.coords t) x * S1x192x2048.size x + _ = _
  match x with
  | ⟨0, _⟩ => show cc1_transform_1 (grid1.coords t) 0 * 1 + 0 = b.val; rw [hi.1]; omega
  | ⟨1, _⟩ => show cc1_transform_1 (grid1.coords t) 1 * 192 + r.val = r.val; rw [hi.2.1]; omega
  | ⟨2, _⟩ => show cc1_transform_1 (grid1.coords t) 2 * 2048 + a.val = a.val; rw [hi.2.2]; omega

/-- Row block `j`'s share of the result. -/
def part (c : Dev nD) (b : Fin 2) (r : Fin 192) (k : Fin 2048) (j : ℕ) : EReal :=
  if h : j < 32 then ∑ s : Fin 512, yAt (eArr V c) (pArr V c) b r ⟨512 * j + s, by omega⟩ * eArr V c (ix3 b ⟨512 * j + s, by omega⟩ k) else 0

theorem blk_eq (c : Dev nD) (t : Fin cfg1.N) (b : Fin 2) (j : Fin 32) (ht : t.val = 32 * b + j) (r : Fin 192) (k : Fin 2048) :
    (∑ s : Fin 512, yBlk (iblk V c 0 t) (iblk V c 1 t) r s * (iblk V c 0 t : Vec Ideal S1x512x2048 .bf16) (ix3 0 s k)) = part V c b r k j := by
  unfold part
  rw [dif_pos j.isLt]
  refine Finset.sum_congr rfl fun s _ => ?_
  unfold yBlk yAt
  simp only [iblk0_apply V c t b j ht, iblk1_apply V c t b j ht]

/-- After row block `j` of batch `b` the staging buffer holds the row blocks summed so far. -/
theorem outs_eq (c : Dev nD) (b : Fin 2) (r : Fin 192) (k : Fin 2048) : ∀ (j : ℕ) (hj : j < 32) (h : 32 * b.val + j < cfg1.N),
    (outsAt0 V c (32 * b.val + j) h : Vec Ideal S1x192x2048 .f32) (ix3 0 r k) = ∑ i ∈ Finset.range (j + 1), part V c b r k i
  | 0, hj, h => by
    rw [outsAt0_A V c ⟨32 * b.val + 0, h⟩ (by dsimp only; omega) (by dsimp only; omega), out_A, pay2_apply, blk_eq V c _ b ⟨0, hj⟩ rfl]
    simp
  | j + 1, hj, h => by
    rw [outsAt0_B V c ⟨32 * b.val + (j + 1), h⟩ (by dsimp only; omega) (by dsimp only; omega), out_B, pay3_apply, blk_eq V c _ b ⟨j + 1, hj⟩ rfl,
      Finset.sum_range_succ]
    exact congrArg (· + _) (outs_eq c b r k j (by omega) (by omega))

theorem parts_sum (c : Dev nD) (b : Fin 2) (r : Fin 192) (k : Fin 2048) :
    ∑ i ∈ Finset.range 32, part V c b r k i = qAt (eArr V c) (pArr V c) b r k := by
  unfold qAt
  rw [sum_rows, ← Fin.sum_univ_eq_sum_range]
  refine Finset.sum_congr rfl fun i _ => ?_
  unfold part
  rw [dif_pos i.isLt]

/-- The result array. -/
def res (c : Dev nD) : Vec Ideal S2x192x2048 .f32 := fun i => qAt (eArr V c) (pArr V c) (i 0) (i 1) (i 2)

theorem outs_fun (c : Dev nD) (t : Fin cfg1.N) (hlt : t.val < 64) (h31 : t.val % 32 = 31) :
    outsAt0 V c t.val t.isLt = fun y : S1x192x2048.Idx => qAt (eArr V c) (pArr V c) ⟨t.val / 32, by omega⟩ (y 1) (y 2) := by
  funext y
  obtain ⟨u, r, k, rfl⟩ : ∃ (u : Fin 1) (r : Fin 192) (k : Fin 2048), y = ix3 u r k := ⟨y 0, y 1, y 2, funext fun a => by fin_cases a <;> rfl⟩
  obtain rfl : u = 0 := Subsingleton.elim _ _
  have hv : 32 * (t.val / 32) + 31 = t.val := by omega
  have := outs_eq V c ⟨t.val / 32, by omega⟩ r k 31 (by omega) (by dsimp only; rw [hv]; exact t.isLt)
  rw [parts_sum] at this
  refine Eq.trans ?_ this
  congr 2
  exact hv.symm

/-- A block written back at point `t` is the block of an array, when it holds what the array holds there. -/
theorem cut_eq (t : Fin cfg1.N) (hlt : t.val < 64) (X : S1x192x2048.Idx → EReal) (G : S2x192x2048.Idx → EReal)
    (h : ∀ y : S1x192x2048.Idx, X y = G (ix3 (⟨t.val / 32, by omega⟩ : Fin 2) (y 1) (y 2))) :
    win1_2.cut (grid1.coords t) X = (win1_2.blk t).view.read (Elt Ideal) G := by
  have hi := idx2 t
  refine funext fun (y : S1x192x2048.Idx) => (h y).trans (congrArg G (funext fun x => Fin.ext ?_))
  refine Eq.symm ((win1_2.rect_emb_val t y x).trans ?_)
  show cc1_transform_2 (grid1.coords t) x * S1x192x2048.size x + _ = _
  have hy : (y 0 : Nat) < 1 := (y 0).isLt
  match x with
  | ⟨0, _⟩ => show cc1_transform_2 (grid1.coords t) 0 * 1 + (y 0 : Nat) = t.val / 32; rw [hi.1]; omega
  | ⟨1, _⟩ => show cc1_transform_2 (grid1.coords t) 1 * 192 + (y 1 : Nat) = (y 1 : Nat); rw [hi.2.1]; omega
  | ⟨2, _⟩ => show cc1_transform_2 (grid1.coords t) 2 * 2048 + (y 2 : Nat) = (y 2 : Nat); rw [hi.2.2]; omega

theorem flushed_eq (c : Dev nD) (t : Fin cfg1.N) (hf : (cfg1.win 2).flush t = true) :
    (dat V c).flushed 2 t = ((cfg1.win 2).blk t).view.read (Elt Ideal) (res V c) := by
  have hN : cfg1.N = 64 := N_1
  have h31 : t.val % 32 = 31 := (flush1_2 t).mp hf
  have hlt : t.val < 64 := by have := t.isLt; omega
  show (cfg1.win 2).cut (grid1.coords t) ((dat V c).after 2 t) = _
  rw [after0_2, outs_fun V c t hlt h31]
  exact cut_eq t hlt _ _ fun y => rfl

theorem cover (i : S2x192x2048.Idx) : ∃ t : Fin cfg1.N, (cfg1.win 2).flush t = true ∧ i ∈ ((cfg1.win 2).blk t).view.set := by
  have hN : cfg1.N = 64 := N_1
  have h0 : (i 0 : Nat) < 2 := (i 0).isLt
  have h1 : (i 1 : Nat) < 192 := (i 1).isLt
  have h2 : (i 2 : Nat) < 2048 := (i 2).isLt
  obtain ⟨t, ht⟩ : ∃ t : Fin cfg1.N, t.val = 32 * (i 0 : Nat) + 31 := ⟨⟨32 * (i 0 : Nat) + 31, by omega⟩, rfl⟩
  refine ⟨t, (flush1_2 _).mpr (by omega), ?_⟩
  show i ∈ ((View.whole main_v8).slice (win1_2.rect t)).set
  rw [View.set_slice_whole, Rect.mem_set_unit]
  have hi := idx2 t
  intro a
  match a with
  | ⟨0, _⟩ => show cc1_transform_2 (grid1.coords t) 0 * 1 ≤ (i 0 : Nat) ∧ (i 0 : Nat) < cc1_transform_2 (grid1.coords t) 0 * 1 + 1
              rw [hi.1]; omega
  | ⟨1, _⟩ => show cc1_transform_2 (grid1.coords t) 1 * 192 ≤ (i 1 : Nat) ∧ (i 1 : Nat) < cc1_transform_2 (grid1.coords t) 1 * 192 + 192
              rw [hi.2.1]; omega
  | ⟨2, _⟩ => show cc1_transform_2 (grid1.coords t) 2 * 2048 ≤ (i 2 : Nat) ∧ (i 2 : Nat) < cc1_transform_2 (grid1.coords t) 2 * 2048 + 2048
              rw [hi.2.2]; omega

/-- The call's result array at the end: `(Eᵀ · (E · P))ᵀ` of the two arrays it read. -/
theorem final (c : Dev nD) : (dat V c).arrAt 2 cfg1.N = res V c :=
  (dat V c).arrAt_eq_of_cover 2 (res V c) (flushed_eq V c) cover

end K1

end Cert.KernelIdeal

end
-- ==== Proof.Value.FirstArray.lean ====
/- The `first` call: what its three result arrays hold at the end, over all 16384 rows. -/
module

public import proofs.«01_k».proof.Proof.Value.FirstBlock
public import proofs.«01_k».proof.Proof.Value.MidArray

@[expose] public section

set_option maxRecDepth 16384

noncomputable section

namespace Cert.KernelIdeal

open Cert.KernelIdeal.Gen
open Idealize.ShloMosaic Idealize.ShloMosaic.TcCoe Idealize.SL.Sem
open Idealize.ShloMosaic.Pipeline (Dat)

namespace K0

open Cert.KernelIdeal.K1 (yBlk)

/-- Element `(b, s, j)` of the residual: the weight's column `2 (j % 1024) + j / 1024` minus the dequantized nibble. -/
def eAt (w : Vec Ideal S2x16384x2048 .bf16) (q : Vec Ideal S2x16384x1024 .i8) (c : Vec Ideal S2x16x16384 .f32) (z : Vec Ideal S2x16x16384 .i8)
    (b : Fin 2) (s : Fin 16384) (j : Fin 2048) : EReal :=
  (w (ix3 b s ⟨2 * (j.val % 1024) + j.val / 1024, by omega⟩) : EReal)
    - ((((nib (j.val / 1024) (q (ix3 b s ⟨j.val % 1024, by omega⟩))).toNat : ℝ) : EReal)
        - (((z (ix3 b ⟨j.val % 1024 / 64, by omega⟩ s) : BitVec 8).toNat : ℝ) : EReal))
      * (c (ix3 b ⟨j.val % 1024 / 64, by omega⟩ s) : EReal)

/-- The residual as an array. -/
def eRes (w : Vec Ideal S2x16384x2048 .bf16) (q : Vec Ideal S2x16384x1024 .i8) (c : Vec Ideal S2x16x16384 .f32) (z : Vec Ideal S2x16x16384 .i8) :
    Vec Ideal S2x16384x2048 .bf16 := fun i => eAt w q c z (i 0) (i 1) (i 2)

theorem idx0 : ∀ t : Fin 64, cc0_transform_0 (grid0.coords t) 0 = t.val / 32 ∧ cc0_transform_0 (grid0.coords t) 1 = t.val % 32 ∧ cc0_transform_0 (grid0.coords t) 2 = 0 := by
  decide +kernel
theorem idx1 : ∀ t : Fin 64, cc0_transform_1 (grid0.coords t) 0 = t.val / 32 ∧ cc0_transform_1 (grid0.coords t) 1 = t.val % 32 ∧ cc0_transform_1 (grid0.coords t) 2 = 0 := by
  decide +kernel
theorem idx2 : ∀ t : Fin 64, cc0_transform_2 (grid0.coords t) 0 = t.val / 32 ∧ cc0_transform_2 (grid0.coords t) 1 = 0 ∧ cc0_transform_2 (grid0.coords t) 2 = t.val % 32 := by
  decide +kernel
theorem idx3 : ∀ t : Fin 64, cc0_transform_3 (grid0.coords t) 0 = t.val / 32 ∧ cc0_transform_3 (grid0.coords t) 1 = 0 ∧ cc0_transform_3 (grid0.coords t) 2 = t.val % 32 := by
  decide +kernel
theorem idx4 : ∀ t : Fin 64, cc0_transform_4 (grid0.coords t) 0 = t.val / 32 ∧ cc0_transform_4 (grid0.coords t) 1 = 0 ∧ cc0_transform_4 (grid0.coords t) 2 = 0 := by
  decide +kernel
theorem idx5 : ∀ t : Fin 64, cc0_transform_5 (grid0.coords t) 0 = t.val / 32 ∧ cc0_transform_5 (grid0.coords t) 1 = t.val % 32 ∧ cc0_transform_5 (grid0.coords t) 2 = 0 := by
  decide +kernel
theorem idx6 : ∀ t : Fin 64, cc0_transform_6 (grid0.coords t) 0 = t.val / 32 ∧ cc0_transform_6 (grid0.coords t) 1 = 0 ∧ cc0_transform_6 (grid0.coords t) 2 = t.val % 32 := by
  decide +kernel
theorem idx7 : ∀ t : Fin 64, cc0_transform_7 (grid0.coords t) 0 = t.val / 32 ∧ cc0_transform_7 (grid0.coords t) 1 = 0 ∧ cc0_transform_7 (grid0.coords t) 2 = 0 := by
  decide +kernel

variable (V : (c : Dev nD) → (b : Ref sig .tc) → Buf (Elt Ideal) ((c : Thread nD τ).loc b))

abbrev wArr (c : Dev nD) : Vec Ideal S2x16384x2048 .bf16 := V c (Pipeline.arrRef spec0 0)
abbrev qArr (c : Dev nD) : Vec Ideal S2x16384x1024 .i8 := V c (Pipeline.arrRef spec0 1)
abbrev sArr (c : Dev nD) : Vec Ideal S2x16x16384 .f32 := V c (Pipeline.arrRef spec0 2)
abbrev zArr (c : Dev nD) : Vec Ideal S2x16x16384 .i8 := V c (Pipeline.arrRef spec0 3)
abbrev oArr (c : Dev nD) : Vec Ideal S2x192x2048 .bf16 := V c (Pipeline.arrRef spec0 4)
abbrev eArr (c : Dev nD) : Vec Ideal S2x16384x2048 .bf16 := eRes (wArr V c) (qArr V c) (sArr V c) (zArr V c)

theorem iblk0_apply (c : Dev nD) (t : Fin cfg0.N) (b : Fin 2) (j : Fin 32) (ht : t.val = 32 * b + j) (u : Fin 512) (a : Fin 2048) :
    (iblk V c 0 t : Vec Ideal S1x512x2048 .bf16) (ix3 0 u a) = wArr V c (ix3 b ⟨512 * j + u, by omega⟩ a) := by
  have hi := idx0 t
  refine congrArg (wArr V c) (funext fun x => Fin.ext ?_)
  refine (win0_0.rect_emb_val t _ x).trans ?_
  show cc0_transform_0 (grid0.coords t) x * S1x512x2048.size x + _ = _
  match x with
  | ⟨0, _⟩ => show cc0_transform_0 (grid0.coords t) 0 * 1 + 0 = b.val; rw [hi.1]; omega
  | ⟨1, _⟩ => show cc0_transform_0 (grid0.coords t) 1 * 512 + u.val = 512 * j.val + u.val; rw [hi.2.1]; omega
  | ⟨2, _⟩ => show cc0_transform_0 (grid0.coords t) 2 * 2048 + a.val = a.val; rw [hi.2.2]; omega

theorem iblk1_apply (c : Dev nD) (t : Fin cfg0.N) (b : Fin 2) (j : Fin 32) (ht : t.val = 32 * b + j) (u : Fin 512) (a : Fin 1024) :
    (iblk V c 1 t : Vec Ideal S1x512x1024 .i8) (ix3 0 u a) = qArr V c (ix3 b ⟨512 * j + u, by omega⟩ a) := by
  have hi := idx1 t
  refine congrArg (qArr V c) (funext fun x => Fin.ext ?_)
  refine (win0_1.rect_emb_val t _ x).trans ?_
  show cc0_transform_1 (grid0.coords t) x * S1x512x1024.size x + _ = _
  match x with
  | ⟨0, _⟩ => show cc0_transform_1 (grid0.coords t) 0 * 1 + 0 = b.val; rw [hi.1]; omega
  | ⟨1, _⟩ => show cc0_transform_1 (grid0.coords t) 1 * 512 + u.val = 512 * j.val + u.val; rw [hi.2.1]; omega
  | ⟨2, _⟩ => show cc0_transform_1 (grid0.coords t) 2 * 1024 + a.val = a.val; rw [hi.2.2]; omega

theorem iblk2_apply (c : Dev nD) (t : Fin cfg0.N) (b : Fin 2) (j : Fin 32) (ht : t.val = 32 * b + j) (u : Fin 16) (a : Fin 512) :
    (iblk V c 2 t : Vec Ideal S1x16x512 .f32) (ix3 0 u a) = sArr V c (ix3 b u ⟨512 * j + a, by omega⟩) := by
  have hi := idx2 t
  refine congrArg (sArr V c) (funext fun x => Fin.ext ?_)
  refine (win0_2.rect_emb_val t _ x).trans ?_
  show cc0_transform_2 (grid0.coords t) x * S1x16x512.size x + _ = _
  match x with
  | ⟨0, _⟩ => show cc0_transform_2 (grid0.coords t) 0 * 1 + 0 = b.val; rw [hi.1]; omega
  | ⟨1, _⟩ => show cc0_transform_2 (grid0.coords t) 1 * 16 + u.val = u.val; rw [hi.2.1]; omega
  | ⟨2, _⟩ => show cc0_transform_2 (grid0.coords t) 2 * 512 + a.val = 512 * j.val + a.val; rw [hi.2.2]; omega

theorem iblk3_apply (c : Dev nD) (t : Fin cfg0.N) (b : Fin 2) (j : Fin 32) (ht : t.val = 32 * b + j) (u : Fin 16) (a : Fin 512) :
    (iblk V c 3 t : Vec Ideal S1x16x512 .i8) (ix3 0 u a) = zArr V c (ix3 b u ⟨512 * j + a, by omega⟩) := by
  have hi := idx3 t
  refine congrArg (zArr V c) (funext fun x => Fin.ext ?_)
  refine (win0_3.rect_emb_val t _ x).trans ?_
  show cc0_transform_3 (grid0.coords t) x * S1x16x512.size x + _ = _
  match x with
  | ⟨0, _⟩ => show cc0_transform_3 (grid0.coords t) 0 * 1 + 0 = b.val; rw [hi.1]; omega
  | ⟨1, _⟩ => show cc0_transform_3 (grid0.coords t) 1 * 16 + u.val = u.val; rw [hi.2.1]; omega
  | ⟨2, _⟩ => show cc0_transform_3 (grid0.coords t) 2 * 512 + a.val = 512 * j.val + a.val; rw [hi.2.2]; omega

theorem iblk4_apply (c : Dev nD) (t : Fin cfg0.N) (b : Fin 2) (j : Fin 32) (ht : t.val = 32 * b + j) (u : Fin 192) (a : Fin 2048) :
    (iblk V c 4 t : Vec Ideal S1x192x2048 .bf16) (ix3 0 u a) = oArr V c (ix3 b u a) := by
  have hi := idx4 t
  refine congrArg (oArr V c) (funext fun x => Fin.ext ?_)
  refine (win0_4.rect_emb_val t _ x).trans ?_
  show cc0_transform_4 (grid0.coords t) x * S1x192x2048.size x + _ = _
  match x with
  | ⟨0, _⟩ => show cc0_transform_4 (grid0.coords t) 0 * 1 + 0 = b.val; rw [hi.1]; omega
  | ⟨1, _⟩ => show cc0_transform_4 (grid0.coords t) 1 * 192 + u.val = u.val; rw [hi.2.1]; omega
  | ⟨2, _⟩ => show cc0_transform_4 (grid0.coords t) 2 * 2048 + a.val = a.val; rw [hi.2.2]; omega

/-- The residual's block at a grid point. -/
abbrev eBlock (c : Dev nD) (t : Fin cfg0.N) : Vec Ideal S1x512x2048 .bf16 := eOut (iblk V c 0 t) (iblk V c 1 t) (iblk V c 2 t) (iblk V c 3 t)

theorem eBlock_apply (c : Dev nD) (t : Fin cfg0.N) (b : Fin 2) (j : Fin 32) (ht : t.val = 32 * b + j) (s : Fin 512) (a : Fin 2048) :
    eBlock V c t (ix3 0 s a) = eArr V c (ix3 b ⟨512 * j + s, by omega⟩ a) := by
  show eBlk (iblk V c 0 t) (iblk V c 1 t) (iblk V c 2 t) (iblk V c 3 t) s a = eAt (wArr V c) (qArr V c) (sArr V c) (zArr V c) b ⟨512 * j + s, by omega⟩ a
  unfold eBlk eAt
  rw [iblk0_apply V c t b j ht, iblk1_apply V c t b j ht, iblk2_apply V c t b j ht, iblk3_apply V c t b j ht]

/-- What the point leaves in the residual's buffer. -/
theorem outs_e (c : Dev nD) (t : Fin cfg0.N) : (outsAt0 V c t.val t.isLt).1 = eBlock V c t := by
  by_cases h0 : t.val % 32 = 0
  · rw [outsAt0_A V c t h0 (by omega)]
    dsimp only
    rw [out_A_5]
  · rw [outsAt0_B V c t h0 (by omega)]
    dsimp only
    rw [out_B_5]

theorem outs_y (c : Dev nD) (t : Fin cfg0.N) : (outsAt0 V c t.val t.isLt).2.1 = k0_pay2 (k0_pay111 (eBlock V c t)) (k0_pay112 (iblk V c 4 t)) (k0_pay113 (iblk V c 4 t)) := by
  by_cases h0 : t.val % 32 = 0
  · rw [outsAt0_A V c t h0 (by omega)]
    dsimp only
    rw [out_A_6]
  · rw [outsAt0_B V c t h0 (by omega)]
    dsimp only
    rw [out_B_6]

theorem yBlk_eq (c : Dev nD) (t : Fin cfg0.N) (b : Fin 2) (j : Fin 32) (ht : t.val = 32 * b + j) (r : Fin 192) (s : Fin 512) :
    yBlk (eBlock V c t) (iblk V c 4 t) r s = yAt (eArr V c) (oArr V c) b r ⟨512 * j + s, by omega⟩ := by
  unfold yBlk yAt
  simp only [eBlock_apply V c t b j ht, iblk4_apply V c t b j ht]

/-- Row block `j`'s share of the back projection. -/
def part (c : Dev nD) (b : Fin 2) (r : Fin 192) (k : Fin 2048) (j : ℕ) : EReal :=
  if h : j < 32 then ∑ s : Fin 512, yAt (eArr V c) (oArr V c) b r ⟨512 * j + s, by omega⟩ * eArr V c (ix3 b ⟨512 * j + s, by omega⟩ k) else 0

theorem blk_eq (c : Dev nD) (t : Fin cfg0.N) (b : Fin 2) (j : Fin 32) (ht : t.val = 32 * b + j) (r : Fin 192) (k : Fin 2048) :
    (∑ s : Fin 512, yBlk (eBlock V c t) (iblk V c 4 t) r s * eBlock V c t (ix3 0 s k)) = part V c b r k j := by
  unfold part
  rw [dif_pos j.isLt]
  refine Finset.sum_congr rfl fun s _ => ?_
  rw [yBlk_eq V c t b j ht, eBlock_apply V c t b j ht]

/-- After row block `j` of batch `b` the staging buffer holds the row blocks summed so far. -/
theorem outs_eq (c : Dev nD) (b : Fin 2) (r : Fin 192) (k : Fin 2048) : ∀ (j : ℕ) (hj : j < 32) (h : 32 * b.val + j < cfg0.N),
    ((outsAt0 V c (32 * b.val + j) h).2.2 : Vec Ideal S1x192x2048 .f32) (ix3 0 r k) = ∑ i ∈ Finset.range (j + 1), part V c b r k i
  | 0, hj, h => by
    rw [outsAt0_A V c ⟨32 * b.val + 0, h⟩ (by dsimp only; omega) (by dsimp only; omega)]
    dsimp only
    rw [out_A_7, pay4_apply, blk_eq V c _ b ⟨0, hj⟩ rfl]
    simp
  | j + 1, hj, h => by
    rw [outsAt0_B V c ⟨32 * b.val + (j + 1), h⟩ (by dsimp only; omega) (by dsimp only; omega)]
    dsimp only
    rw [out_B_7, pay5_apply, blk_eq V c _ b ⟨j + 1, hj⟩ rfl,
      Finset.sum_range_succ]
    exact congrArg (· + _) (outs_eq c b r k j (by omega) (by omega))

theorem parts_sum (c : Dev nD) (b : Fin 2) (r : Fin 192) (k : Fin 2048) :
    ∑ i ∈ Finset.range 32, part V c b r k i = qAt (eArr V c) (oArr V c) b r k := by
  unfold qAt
  rw [sum_rows, ← Fin.sum_univ_eq_sum_range]
  refine Finset.sum_congr rfl fun i _ => ?_
  unfold part
  rw [dif_pos i.isLt]

theorem outs_fun (c : Dev nD) (t : Fin cfg0.N) (hlt : t.val < 64) (h31 : t.val % 32 = 31) :
    (outsAt0 V c t.val t.isLt).2.2 = fun y : S1x192x2048.Idx => qAt (eArr V c) (oArr V c) ⟨t.val / 32, by omega⟩ (y 1) (y 2) := by
  funext y
  obtain ⟨u, r, k, rfl⟩ : ∃ (u : Fin 1) (r : Fin 192) (k : Fin 2048), y = ix3 u r k := ⟨y 0, y 1, y 2, funext fun a => by fin_cases a <;> rfl⟩
  obtain rfl : u = 0 := Subsingleton.elim _ _
  have hv : 32 * (t.val / 32) + 31 = t.val := by omega
  have := outs_eq V c ⟨t.val / 32, by omega⟩ r k 31 (by omega) (by dsimp only; rw [hv]; exact t.isLt)
  rw [parts_sum] at this
  have hx : ∀ (n : ℕ) (h : n < cfg0.N), n = t.val → (outsAt0 V c t.val t.isLt).2.2 (ix3 0 r k) = (outsAt0 V c n h).2.2 (ix3 0 r k) := by
    rintro _ _ rfl; rfl
  exact (hx _ _ hv).trans this

theorem outs_yfun (c : Dev nD) (t : Fin cfg0.N) (hlt : t.val < 64) :
    (outsAt0 V c t.val t.isLt).2.1 = fun y : S1x192x512.Idx =>
      yAt (eArr V c) (oArr V c) ⟨t.val / 32, by omega⟩ (y 1) ⟨512 * (t.val % 32) + (y 2).val, by have : (y 2).val < 512 := (y 2).isLt; omega⟩ := by
  rw [outs_y]
  funext y
  obtain ⟨u, r, s, rfl⟩ : ∃ (u : Fin 1) (r : Fin 192) (s : Fin 512), y = ix3 u r s := ⟨y 0, y 1, y 2, funext fun a => by fin_cases a <;> rfl⟩
  obtain rfl : u = 0 := Subsingleton.elim _ _
  have hv : t.val = 32 * (⟨t.val / 32, by omega⟩ : Fin 2).val + (⟨t.val % 32, by omega⟩ : Fin 32).val := by dsimp only; omega
  rw [pay2_apply]
  exact yBlk_eq V c t _ _ hv r s

theorem outs_efun (c : Dev nD) (t : Fin cfg0.N) (hlt : t.val < 64) :
    (outsAt0 V c t.val t.isLt).1 = fun y : S1x512x2048.Idx =>
      eArr V c (ix3 (⟨t.val / 32, by omega⟩ : Fin 2) (⟨512 * (t.val % 32) + (y 1).val, by have : (y 1).val < 512 := (y 1).isLt; omega⟩ : Fin 16384) (y 2)) := by
  rw [outs_e]
  funext y
  obtain ⟨u, s, a, rfl⟩ : ∃ (u : Fin 1) (s : Fin 512) (a : Fin 2048), y = ix3 u s a := ⟨y 0, y 1, y 2, funext fun a => by fin_cases a <;> rfl⟩
  obtain rfl : u = 0 := Subsingleton.elim _ _
  have hv : t.val = 32 * (⟨t.val / 32, by omega⟩ : Fin 2).val + (⟨t.val % 32, by omega⟩ : Fin 32).val := by dsimp only; omega
  exact eBlock_apply V c t _ _ hv s a

/-- The sketch's array. -/
def resY (c : Dev nD) : Vec Ideal S2x192x16384 .f32 := fun i => yAt (eArr V c) (oArr V c) (i 0) (i 1) (i 2)
/-- The back projection's array. -/
def resQ (c : Dev nD) : Vec Ideal S2x192x2048 .f32 := fun i => qAt (eArr V c) (oArr V c) (i 0) (i 1) (i 2)

theorem cut_eq_5 (t : Fin cfg0.N) (hlt : t.val < 64) (X : S1x512x2048.Idx → EReal) (G : S2x16384x2048.Idx → EReal)
    (h : ∀ y : S1x512x2048.Idx, X y = G (ix3 (⟨t.val / 32, by omega⟩ : Fin 2) (⟨512 * (t.val % 32) + (y 1).val, by have : (y 1).val < 512 := (y 1).isLt; omega⟩ : Fin 16384) (y 2))) :
    win0_5.cut (grid0.coords t) X = (win0_5.blk t).view.read (Elt Ideal) G := by
  have hi := idx5 t
  refine funext fun (y : S1x512x2048.Idx) => (h y).trans (congrArg G (funext fun x => Fin.ext ?_))
  refine Eq.symm ((win0_5.rect_emb_val t y x).trans ?_)
  show cc0_transform_5 (grid0.coords t) x * S1x512x2048.size x + _ = _
  have hy : (y 0 : Nat) < 1 := (y 0).isLt
  match x with
  | ⟨0, _⟩ => show cc0_transform_5 (grid0.coords t) 0 * 1 + (y 0 : Nat) = t.val / 32; rw [hi.1]; omega
  | ⟨1, _⟩ => show cc0_transform_5 (grid0.coords t) 1 * 512 + (y 1 : Nat) = 512 * (t.val % 32) + (y 1 : Nat); rw [hi.2.1]; omega
  | ⟨2, _⟩ => show cc0_transform_5 (grid0.coords t) 2 * 2048 + (y 2 : Nat) = (y 2 : Nat); rw [hi.2.2]; omega

theorem flushed_eq_5 (c : Dev nD) (t : Fin cfg0.N) (hf : (cfg0.win 5).flush t = true) :
    (dat V c).flushed 5 t = ((cfg0.win 5).blk t).view.read (Elt Ideal) (eArr V c) := by
  have hN : cfg0.N = 64 := N_0
  have hlt : t.val < 64 := by have := t.isLt; omega
  show (cfg0.win 5).cut (grid0.coords t) ((dat V c).after 5 t) = _
  rw [after0_5, outs_efun V c t hlt]
  exact cut_eq_5 t hlt _ _ fun y => rfl

theorem cover_5 (i : S2x16384x2048.Idx) : ∃ t : Fin cfg0.N, (cfg0.win 5).flush t = true ∧ i ∈ ((cfg0.win 5).blk t).view.set := by
  have hN : cfg0.N = 64 := N_0
  have h0 : (i 0 : Nat) < 2 := (i 0).isLt
  have h1 : (i 1 : Nat) < 16384 := (i 1).isLt
  have h2 : (i 2 : Nat) < 2048 := (i 2).isLt
  obtain ⟨t, ht⟩ : ∃ t : Fin cfg0.N, t.val = 32 * (i 0 : Nat) + (i 1 : Nat) / 512 := ⟨⟨32 * (i 0 : Nat) + (i 1 : Nat) / 512, by omega⟩, rfl⟩
  refine ⟨t, flush0_5 t, ?_⟩
  show i ∈ ((View.whole main_v6_0).slice (win0_5.rect t)).set
  rw [View.set_slice_whole, Rect.mem_set_unit]
  have hi := idx5 t
  intro a
  match a with
  | ⟨0, _⟩ => show cc0_transform_5 (grid0.coords t) 0 * 1 ≤ (i 0 : Nat) ∧ (i 0 : Nat) < cc0_transform_5 (grid0.coords t) 0 * 1 + 1
              rw [hi.1]; omega
  | ⟨1, _⟩ => show cc0_transform_5 (grid0.coords t) 1 * 512 ≤ (i 1 : Nat) ∧ (i 1 : Nat) < cc0_transform_5 (grid0.coords t) 1 * 512 + 512
              rw [hi.2.1]; omega
  | ⟨2, _⟩ => show cc0_transform_5 (grid0.coords t) 2 * 2048 ≤ (i 2 : Nat) ∧ (i 2 : Nat) < cc0_transform_5 (grid0.coords t) 2 * 2048 + 2048
              rw [hi.2.2]; omega

theorem final_5 (c : Dev nD) : (dat V c).arrAt 5 cfg0.N = eArr V c :=
  (dat V c).arrAt_eq_of_cover 5 (eArr V c) (flushed_eq_5 V c) cover_5

theorem cut_eq_6 (t : Fin cfg0.N) (hlt : t.val < 64) (X : S1x192x512.Idx → EReal) (G : S2x192x16384.Idx → EReal)
    (h : ∀ y : S1x192x512.Idx, X y = G (ix3 (⟨t.val / 32, by omega⟩ : Fin 2) (y 1) (⟨512 * (t.val % 32) + (y 2).val, by have : (y 2).val < 512 := (y 2).isLt; omega⟩ : Fin 16384))) :
    win0_6.cut (grid0.coords t) X = (win0_6.blk t).view.read (Elt Ideal) G := by
  have hi := idx6 t
  refine funext fun (y : S1x192x512.Idx) => (h y).trans (congrArg G (funext fun x => Fin.ext ?_))
  refine Eq.symm ((win0_6.rect_emb_val t y x).trans ?_)
  show cc0_transform_6 (grid0.coords t) x * S1x192x512.size x + _ = _
  have hy : (y 0 : Nat) < 1 := (y 0).isLt
  match x with
  | ⟨0, _⟩ => show cc0_transform_6 (grid0.coords t) 0 * 1 + (y 0 : Nat) = t.val / 32; rw [hi.1]; omega
  | ⟨1, _⟩ => show cc0_transform_6 (grid0.coords t) 1 * 192 + (y 1 : Nat) = (y 1 : Nat); rw [hi.2.1]; omega
  | ⟨2, _⟩ => show cc0_transform_6 (grid0.coords t) 2 * 512 + (y 2 : Nat) = 512 * (t.val % 32) + (y 2 : Nat); rw [hi.2.2]; omega

theorem flushed_eq_6 (c : Dev nD) (t : Fin cfg0.N) (hf : (cfg0.win 6).flush t = true) :
    (dat V c).flushed 6 t = ((cfg0.win 6).blk t).view.read (Elt Ideal) (resY V c) := by
  have hN : cfg0.N = 64 := N_0
  have hlt : t.val < 64 := by have := t.isLt; omega
  show (cfg0.win 6).cut (grid0.coords t) ((dat V c).after 6 t) = _
  rw [after0_6, outs_yfun V c t hlt]
  exact cut_eq_6 t hlt _ _ fun y => rfl

theorem cover_6 (i : S2x192x16384.Idx) : ∃ t : Fin cfg0.N, (cfg0.win 6).flush t = true ∧ i ∈ ((cfg0.win 6).blk t).view.set := by
  have hN : cfg0.N = 64 := N_0
  have h0 : (i 0 : Nat) < 2 := (i 0).isLt
  have h1 : (i 1 : Nat) < 192 := (i 1).isLt
  have h2 : (i 2 : Nat) < 16384 := (i 2).isLt
  obtain ⟨t, ht⟩ : ∃ t : Fin cfg0.N, t.val = 32 * (i 0 : Nat) + (i 2 : Nat) / 512 := ⟨⟨32 * (i 0 : Nat) + (i 2 : Nat) / 512, by omega⟩, rfl⟩
  refine ⟨t, flush0_6 t, ?_⟩
  show i ∈ ((View.whole main_v6_1).slice (win0_6.rect t)).set
  rw [View.set_slice_whole, Rect.mem_set_unit]
  have hi := idx6 t
  intro a
  match a with
  | ⟨0, _⟩ => show cc0_transform_6 (grid0.coords t) 0 * 1 ≤ (i 0 : Nat) ∧ (i 0 : Nat) < cc0_transform_6 (grid0.coords t) 0 * 1 + 1
              rw [hi.1]; omega
  | ⟨1, _⟩ => show cc0_transform_6 (grid0.coords t) 1 * 192 ≤ (i 1 : Nat) ∧ (i 1 : Nat) < cc0_transform_6 (grid0.coords t) 1 * 192 + 192
              rw [hi.2.1]; omega
  | ⟨2, _⟩ => show cc0_transform_6 (grid0.coords t) 2 * 512 ≤ (i 2 : Nat) ∧ (i 2 : Nat) < cc0_transform_6 (grid0.coords t) 2 * 512 + 512
              rw [hi.2.2]; omega

theorem final_6 (c : Dev nD) : (dat V c).arrAt 6 cfg0.N = resY V c :=
  (dat V c).arrAt_eq_of_cover 6 (resY V c) (flushed_eq_6 V c) cover_6

theorem cut_eq_7 (t : Fin cfg0.N) (hlt : t.val < 64) (X : S1x192x2048.Idx → EReal) (G : S2x192x2048.Idx → EReal)
    (h : ∀ y : S1x192x2048.Idx, X y = G (ix3 (⟨t.val / 32, by omega⟩ : Fin 2) (y 1) (y 2))) :
    win0_7.cut (grid0.coords t) X = (win0_7.blk t).view.read (Elt Ideal) G := by
  have hi := idx7 t
  refine funext fun (y : S1x192x2048.Idx) => (h y).trans (congrArg G (funext fun x => Fin.ext ?_))
  refine Eq.symm ((win0_7.rect_emb_val t y x).trans ?_)
  show cc0_transform_7 (grid0.coords t) x * S1x192x2048.size x + _ = _
  have hy : (y 0 : Nat) < 1 := (y 0).isLt
  match x with
  | ⟨0, _⟩ => show cc0_transform_7 (grid0.coords t) 0 * 1 + (y 0 : Nat) = t.val / 32; rw [hi.1]; omega
  | ⟨1, _⟩ => show cc0_transform_7 (grid0.coords t) 1 * 192 + (y 1 : Nat) = (y 1 : Nat); rw [hi.2.1]; omega
  | ⟨2, _⟩ => show cc0_transform_7 (grid0.coords t) 2 * 2048 + (y 2 : Nat) = (y 2 : Nat); rw [hi.2.2]; omega

theorem flushed_eq_7 (c : Dev nD) (t : Fin cfg0.N) (hf : (cfg0.win 7).flush t = true) :
    (dat V c).flushed 7 t = ((cfg0.win 7).blk t).view.read (Elt Ideal) (resQ V c) := by
  have hN : cfg0.N = 64 := N_0
  have hlt : t.val < 64 := by have := t.isLt; omega
  have h31 : t.val % 32 = 31 := (flush0_7 t).mp hf
  show (cfg0.win 7).cut (grid0.coords t) ((dat V c).after 7 t) = _
  rw [after0_7, outs_fun V c t hlt h31]
  exact cut_eq_7 t hlt _ _ fun y => rfl

theorem cover_7 (i : S2x192x2048.Idx) : ∃ t : Fin cfg0.N, (cfg0.win 7).flush t = true ∧ i ∈ ((cfg0.win 7).blk t).view.set := by
  have hN : cfg0.N = 64 := N_0
  have h0 : (i 0 : Nat) < 2 := (i 0).isLt
  have h1 : (i 1 : Nat) < 192 := (i 1).isLt
  have h2 : (i 2 : Nat) < 2048 := (i 2).isLt
  obtain ⟨t, ht⟩ : ∃ t : Fin cfg0.N, t.val = 32 * (i 0 : Nat) + 31 := ⟨⟨32 * (i 0 : Nat) + 31, by omega⟩, rfl⟩
  refine ⟨t, (flush0_7 _).mpr (by omega), ?_⟩
  show i ∈ ((View.whole main_v6_2).slice (win0_7.rect t)).set
  rw [View.set_slice_whole, Rect.mem_set_unit]
  have hi := idx7 t
  intro a
  match a with
  | ⟨0, _⟩ => show cc0_transform_7 (grid0.coords t) 0 * 1 ≤ (i 0 : Nat) ∧ (i 0 : Nat) < cc0_transform_7 (grid0.coords t) 0 * 1 + 1
              rw [hi.1]; omega
  | ⟨1, _⟩ => show cc0_transform_7 (grid0.coords t) 1 * 192 ≤ (i 1 : Nat) ∧ (i 1 : Nat) < cc0_transform_7 (grid0.coords t) 1 * 192 + 192
              rw [hi.2.1]; omega
  | ⟨2, _⟩ => show cc0_transform_7 (grid0.coords t) 2 * 2048 ≤ (i 2 : Nat) ∧ (i 2 : Nat) < cc0_transform_7 (grid0.coords t) 2 * 2048 + 2048
              rw [hi.2.2]; omega

theorem final_7 (c : Dev nD) : (dat V c).arrAt 7 cfg0.N = resQ V c :=
  (dat V c).arrAt_eq_of_cover 7 (resQ V c) (flushed_eq_7 V c) cover_7

end K0

end Cert.KernelIdeal

end
-- ==== Proof.Value.LastBlock.lean ====
/- The `last` call, one grid point: what the body leaves in its output block, read at an index over the extended reals. -/
module

public import proofs.«01_k».proof.Proof.KernelIdeal.K2.Body
public import proofs.«01_k».proof.Proof.Value.MidArray
public import Idealize.ShloMosaic.Lib.Pipeline.Value
public import Idealize.ShloMosaic.Lib.Pointwise
public import Idealize.ShloMosaic.Lib.Tactic

@[expose] public section

set_option maxRecDepth 16384

noncomputable section

namespace Cert.KernelIdeal.K2

open Cert.KernelIdeal.Gen
open Idealize.ShloMosaic Idealize.ShloMosaic.TcCoe Idealize.SL.Sem
open Idealize.ShloMosaic.Pipeline (Dat)

open Cert.KernelIdeal.K1 (hz3 yBlk)

theorem out_A_2 {F : FTy → Type} [FloatOps F] (c : Dev nD) (i : grid2.Coords) (a2 : Memref sig .tc .vmem S1x512x2048 .bf16) (h2 : a2.IsWhole) (a3 : Memref sig .tc .vmem S1x192x2048 .bf16) (h3 : a3.IsWhole) (a4 : Memref sig .tc .vmem S1x192x512 .f32) (h4 : a4.IsWhole) (a5 : Memref sig .tc .vmem S1x192x2048 .f32) (h5 : a5.IsWhole) (hc0 : cond0_0 i) (hc1 : ¬cond0_1 i)
    (x0 : Vec F S1x512x2048 .bf16) (x1 : Vec F S1x192x2048 .bf16) :
    out0_A_2 c i a2 h2 a3 h3 a4 h4 a5 h5 hc0 hc1 x0 x1 = k2_pay3 x0 x1 := by
  unfold out0_A_2
  rw [View.read_writes_eq_canon _ _ _ (cover0_A_2 c i a2 h2 a3 h3 a4 h4 a5 h5 hc0 hc1 x0 x1)]
  unfold kernelRun0_A
  dsimp only
  rw [View.canon_unit_zero hz3]
  simp only [View.readAt_eq_ld, h2.read_unread, h3.read_unread, h5.read_unread, View.ld_unit_zero (S := S1x512x2048) hz3, View.ld_unit_zero (S := S1x192x2048) hz3]

theorem out_A_3 {F : FTy → Type} [FloatOps F] (c : Dev nD) (i : grid2.Coords) (a2 : Memref sig .tc .vmem S1x512x2048 .bf16) (h2 : a2.IsWhole) (a3 : Memref sig .tc .vmem S1x192x2048 .bf16) (h3 : a3.IsWhole) (a4 : Memref sig .tc .vmem S1x192x512 .f32) (h4 : a4.IsWhole) (a5 : Memref sig .tc .vmem S1x192x2048 .f32) (h5 : a5.IsWhole) (hc0 : cond0_0 i) (hc1 : ¬cond0_1 i)
    (x0 : Vec F S1x512x2048 .bf16) (x1 : Vec F S1x192x2048 .bf16) :
    out0_A_3 c i a2 h2 a3 h3 a4 h4 a5 h5 hc0 hc1 x0 x1 = k2_pay5 x0 x1 := by
  unfold out0_A_3
  rw [View.read_writes_eq_canon _ _ _ (cover0_A_3 c i a2 h2 a3 h3 a4 h4 a5 h5 hc0 hc1 x0 x1)]
  unfold kernelRun0_A
  dsimp only
  rw [View.canon_unit_zero hz3]
  simp only [View.readAt_eq_ld, h2.read_unread, h3.read_unread, h5.read_unread, View.ld_unit_zero (S := S1x512x2048) hz3, View.ld_unit_zero (S := S1x192x2048) hz3]

theorem out_B_2 {F : FTy → Type} [FloatOps F] (c : Dev nD) (i : grid2.Coords) (a2 : Memref sig .tc .vmem S1x512x2048 .bf16) (h2 : a2.IsWhole) (a3 : Memref sig .tc .vmem S1x192x2048 .bf16) (h3 : a3.IsWhole) (a4 : Memref sig .tc .vmem S1x192x512 .f32) (h4 : a4.IsWhole) (a5 : Memref sig .tc .vmem S1x192x2048 .f32) (h5 : a5.IsWhole) (hc0 : ¬cond0_0 i) (hc1 : cond0_1 i)
    (x0 : Vec F S1x512x2048 .bf16) (x1 : Vec F S1x192x2048 .bf16) (xo : Vec F S1x192x2048 .f32) :
    out0_B_2 c i a2 h2 a3 h3 a4 h4 a5 h5 hc0 hc1 x0 x1 xo = k2_pay3 x0 x1 := by
  unfold out0_B_2
  rw [View.read_writes_eq_canon _ _ _ (cover0_B_2 c i a2 h2 a3 h3 a4 h4 a5 h5 hc0 hc1 x0 x1 xo)]
  unfold kernelRun0_B
  dsimp only
  rw [View.canon_unit_zero hz3]
  simp only [View.readAt_eq_ld, h2.read_unread, h3.read_unread, h5.read_unread, View.ld_unit_zero (S := S1x512x2048) hz3, View.ld_unit_zero (S := S1x192x2048) hz3]

theorem out_B_3 {F : FTy → Type} [FloatOps F] (c : Dev nD) (i : grid2.Coords) (a2 : Memref sig .tc .vmem S1x512x2048 .bf16) (h2 : a2.IsWhole) (a3 : Memref sig .tc .vmem S1x192x2048 .bf16) (h3 : a3.IsWhole) (a4 : Memref sig .tc .vmem S1x192x512 .f32) (h4 : a4.IsWhole) (a5 : Memref sig .tc .vmem S1x192x2048 .f32) (h5 : a5.IsWhole) (hc0 : ¬cond0_0 i) (hc1 : cond0_1 i)
    (x0 : Vec F S1x512x2048 .bf16) (x1 : Vec F S1x192x2048 .bf16) (xo : Vec F S1x192x2048 .f32) :
    out0_B_3 c i a2 h2 a3 h3 a4 h4 a5 h5 hc0 hc1 x0 x1 xo = k2_pay6 x0 x1 xo := by
  unfold out0_B_3
  rw [View.read_writes_eq_canon _ _ _ (cover0_B_3 c i a2 h2 a3 h3 a4 h4 a5 h5 hc0 hc1 x0 x1 xo)]
  unfold kernelRun0_B
  dsimp only
  rw [View.canon_unit_zero hz3]
  simp only [View.readAt_eq_ld, h2.read_unread, h3.read_unread, h5.read_unread, View.ld_unit_zero (S := S1x512x2048) hz3, View.ld_unit_zero (S := S1x192x2048) hz3]

theorem pay3_apply (x0 : Vec Ideal S1x512x2048 .bf16) (x1 : Vec Ideal S1x192x2048 .bf16) (r : Fin 192) (s : Fin 512) :
    (k2_pay3 (F := Ideal) x0 x1 : _) (ix3 0 r s) = yBlk x0 x1 r s := by
  pointwise [k2_pay3, k2_pay2, k2_pay1, yBlk]

theorem pay5_apply (x0 : Vec Ideal S1x512x2048 .bf16) (x1 : Vec Ideal S1x192x2048 .bf16) (r : Fin 192) (k : Fin 2048) :
    (k2_pay5 (F := Ideal) x0 x1 : _) (ix3 0 r k) = ∑ s : Fin 512, yBlk x0 x1 r s * x0 (ix3 0 s k) := by
  pointwise [k2_pay5, k2_pay4, k2_pay2, k2_pay1, yBlk]

theorem pay6_apply (x0 : Vec Ideal S1x512x2048 .bf16) (x1 : Vec Ideal S1x192x2048 .bf16) (xo : Vec Ideal S1x192x2048 .f32) (r : Fin 192) (k : Fin 2048) :
    (k2_pay6 (F := Ideal) x0 x1 xo : _) (ix3 0 r k) = xo (ix3 0 r k) + ∑ s : Fin 512, yBlk x0 x1 r s * x0 (ix3 0 s k) := by
  pointwise [k2_pay6, k2_pay4, k2_pay2, k2_pay1, yBlk]

end Cert.KernelIdeal.K2

end
-- ==== Proof.Value.LastArray.lean ====
/- The `last` call: what its result arrays hold at the end, as a product over all 16384 rows. -/
module

public import proofs.«01_k».proof.Proof.Value.LastBlock

@[expose] public section

set_option maxRecDepth 16384

noncomputable section

namespace Cert.KernelIdeal

open Cert.KernelIdeal.Gen
open Idealize.ShloMosaic Idealize.ShloMosaic.TcCoe Idealize.SL.Sem
open Idealize.ShloMosaic.Pipeline (Dat)

namespace K2

open Cert.KernelIdeal.K1 (yBlk)

theorem idx0 : ∀ t : Fin 64, cc2_transform_0 (grid2.coords t) 0 = t.val / 32 ∧ cc2_transform_0 (grid2.coords t) 1 = t.val % 32 ∧ cc2_transform_0 (grid2.coords t) 2 = 0 := by
  decide +kernel
theorem idx1 : ∀ t : Fin 64, cc2_transform_1 (grid2.coords t) 0 = t.val / 32 ∧ cc2_transform_1 (grid2.coords t) 1 = 0 ∧ cc2_transform_1 (grid2.coords t) 2 = 0 := by
  decide +kernel
theorem idx3 : ∀ t : Fin 64, cc2_transform_3 (grid2.coords t) 0 = t.val / 32 ∧ cc2_transform_3 (grid2.coords t) 1 = 0 ∧ cc2_transform_3 (grid2.coords t) 2 = 0 := by
  decide +kernel

theorem idx2 : ∀ t : Fin 64, cc2_transform_2 (grid2.coords t) 0 = t.val / 32 ∧ cc2_transform_2 (grid2.coords t) 1 = 0 ∧ cc2_transform_2 (grid2.coords t) 2 = t.val % 32 := by
  decide +kernel

variable (V : (c : Dev nD) → (b : Ref sig .tc) → Buf (Elt Ideal) ((c : Thread nD τ).loc b))

abbrev eArr (c : Dev nD) : Vec Ideal S2x16384x2048 .bf16 := V c (Pipeline.arrRef spec2 0)
abbrev pArr (c : Dev nD) : Vec Ideal S2x192x2048 .bf16 := V c (Pipeline.arrRef spec2 1)

theorem iblk0_apply (c : Dev nD) (t : Fin cfg2.N) (b : Fin 2) (j : Fin 32) (ht : t.val = 32 * b + j) (s : Fin 512) (a : Fin 2048) :
    (iblk V c 0 t : Vec Ideal S1x512x2048 .bf16) (ix3 0 s a) = eArr V c (ix3 b ⟨512 * j + s, by omega⟩ a) := by
  have hi := idx0 t
  refine congrArg (eArr V c) (funext fun x => Fin.ext ?_)
  refine (win2_0.rect_emb_val t _ x).trans ?_
  show cc2_transform_0 (grid2.coords t) x * S1x512x2048.size x + _ = _
  match x with
  | ⟨0, _⟩ => show cc2_transform_0 (grid2.coords t) 0 * 1 + 0 = b.val; rw [hi.1]; omega
  | ⟨1, _⟩ => show cc2_transform_0 (grid2.coords t) 1 * 512 + s.val = 512 * j.val + s.val; rw [hi.2.1]; omega
  | ⟨2, _⟩ => show cc2_transform_0 (grid2.coords t) 2 * 2048 + a.val = a.val; rw [hi.2.2]; omega

theorem iblk1_apply (c : Dev nD) (t : Fin cfg2.N) (b : Fin 2) (j : Fin 32) (ht : t.val = 32 * b + j) (r : Fin 192) (a : Fin 2048) :
    (iblk V c 1 t : Vec Ideal S1x192x2048 .bf16) (ix3 0 r a) = pArr V c (ix3 b r a) := by
  have hi := idx1 t
  refine congrArg (pArr V c) (funext fun x => Fin.ext ?_)
  refine (win2_1.rect_emb_val t _ x).trans ?_
  show cc2_transform_1 (grid2.coords t) x * S1x192x2048.size x + _ = _
  match x with
  | ⟨0, _⟩ => show cc2_transform_1 (grid2.coords t) 0 * 1 + 0 = b.val; rw [hi.1]; omega
  | ⟨1, _⟩ => show cc2_transform_1 (grid2.coords t) 1 * 192 + r.val = r.val; rw [hi.2.1]; omega
  | ⟨2, _⟩ => show cc2_transform_1 (grid2.coords t) 2 * 2048 + a.val = a.val; rw [hi.2.2]; omega

/-- Row block `j`'s share of the result. -/
def part (c : Dev nD) (b : Fin 2) (r : Fin 192) (k : Fin 2048) (j : ℕ) : EReal :=
  if h : j < 32 then ∑ s : Fin 512, yAt (eArr V c) (pArr V c) b r ⟨512 * j + s, by omega⟩ * eArr V c (ix3 b ⟨512 * j + s, by omega⟩ k) else 0

theorem blk_eq (c : Dev nD) (t : Fin cfg2.N) (b : Fin 2) (j : Fin 32) (ht : t.val = 32 * b + j) (r : Fin 192) (k : Fin 2048) :
    (∑ s : Fin 512, yBlk (iblk V c 0 t) (iblk V c 1 t) r s * (iblk V c 0 t : Vec Ideal S1x512x2048 .bf16) (ix3 0 s k)) = part V c b r k j := by
  unfold part
  rw [dif_pos j.isLt]
  refine Finset.sum_congr rfl fun s _ => ?_
  unfold yBlk yAt
  simp only [iblk0_apply V c t b j ht, iblk1_apply V c t b j ht]

/-- After row block `j` of batch `b` the staging buffer holds the row blocks summed so far. -/
theorem outs_eq (c : Dev nD) (b : Fin 2) (r : Fin 192) (k : Fin 2048) : ∀ (j : ℕ) (hj : j < 32) (h : 32 * b.val + j < cfg2.N),
    ((outsAt0 V c (32 * b.val + j) h).2 : Vec Ideal S1x192x2048 .f32) (ix3 0 r k) = ∑ i ∈ Finset.range (j + 1), part V c b r k i
  | 0, hj, h => by
    rw [outsAt0_A V c ⟨32 * b.val + 0, h⟩ (by dsimp only; omega) (by dsimp only; omega)]
    dsimp only
    rw [out_A_3, pay5_apply, blk_eq V c _ b ⟨0, hj⟩ rfl]
    simp
  | j + 1, hj, h => by
    rw [outsAt0_B V c ⟨32 * b.val + (j + 1), h⟩ (by dsimp only; omega) (by dsimp only; omega)]
    dsimp only
    rw [out_B_3, pay6_apply, blk_eq V c _ b ⟨j + 1, hj⟩ rfl,
      Finset.sum_range_succ]
    exact congrArg (· + _) (outs_eq c b r k j (by omega) (by omega))

theorem parts_sum (c : Dev nD) (b : Fin 2) (r : Fin 192) (k : Fin 2048) :
    ∑ i ∈ Finset.range 32, part V c b r k i = qAt (eArr V c) (pArr V c) b r k := by
  unfold qAt
  rw [sum_rows, ← Fin.sum_univ_eq_sum_range]
  refine Finset.sum_congr rfl fun i _ => ?_
  unfold part
  rw [dif_pos i.isLt]

/-- The result array. -/
def res (c : Dev nD) : Vec Ideal S2x192x2048 .f32 := fun i => qAt (eArr V c) (pArr V c) (i 0) (i 1) (i 2)

theorem outs_fun (c : Dev nD) (t : Fin cfg2.N) (hlt : t.val < 64) (h31 : t.val % 32 = 31) :
    (outsAt0 V c t.val t.isLt).2 = fun y : S1x192x2048.Idx => qAt (eArr V c) (pArr V c) ⟨t.val / 32, by omega⟩ (y 1) (y 2) := by
  funext y
  obtain ⟨u, r, k, rfl⟩ : ∃ (u : Fin 1) (r : Fin 192) (k : Fin 2048), y = ix3 u r k := ⟨y 0, y 1, y 2, funext fun a => by fin_cases a <;> rfl⟩
  obtain rfl : u = 0 := Subsingleton.elim _ _
  have hv : 32 * (t.val / 32) + 31 = t.val := by omega
  have := outs_eq V c ⟨t.val / 32, by omega⟩ r k 31 (by omega) (by dsimp only; rw [hv]; exact t.isLt)
  rw [parts_sum] at this
  have hx : ∀ (n : ℕ) (h : n < cfg2.N), n = t.val → (outsAt0 V c t.val t.isLt).2 (ix3 0 r k) = (outsAt0 V c n h).2 (ix3 0 r k) := by
    rintro _ _ rfl; rfl
  exact (hx _ _ hv).trans this

/-- A block written back at point `t` is the block of an array, when it holds what the array holds there. -/
theorem cut_eq (t : Fin cfg2.N) (hlt : t.val < 64) (X : S1x192x2048.Idx → EReal) (G : S2x192x2048.Idx → EReal)
    (h : ∀ y : S1x192x2048.Idx, X y = G (ix3 (⟨t.val / 32, by omega⟩ : Fin 2) (y 1) (y 2))) :
    win2_3.cut (grid2.coords t) X = (win2_3.blk t).view.read (Elt Ideal) G := by
  have hi := idx3 t
  refine funext fun (y : S1x192x2048.Idx) => (h y).trans (congrArg G (funext fun x => Fin.ext ?_))
  refine Eq.symm ((win2_3.rect_emb_val t y x).trans ?_)
  show cc2_transform_3 (grid2.coords t) x * S1x192x2048.size x + _ = _
  have hy : (y 0 : Nat) < 1 := (y 0).isLt
  match x with
  | ⟨0, _⟩ => show cc2_transform_3 (grid2.coords t) 0 * 1 + (y 0 : Nat) = t.val / 32; rw [hi.1]; omega
  | ⟨1, _⟩ => show cc2_transform_3 (grid2.coords t) 1 * 192 + (y 1 : Nat) = (y 1 : Nat); rw [hi.2.1]; omega
  | ⟨2, _⟩ => show cc2_transform_3 (grid2.coords t) 2 * 2048 + (y 2 : Nat) = (y 2 : Nat); rw [hi.2.2]; omega

theorem flushed_eq (c : Dev nD) (t : Fin cfg2.N) (hf : (cfg2.win 3).flush t = true) :
    (dat V c).flushed 3 t = ((cfg2.win 3).blk t).view.read (Elt Ideal) (res V c) := by
  have hN : cfg2.N = 64 := N_2
  have h31 : t.val % 32 = 31 := (flush2_3 t).mp hf
  have hlt : t.val < 64 := by have := t.isLt; omega
  show (cfg2.win 3).cut (grid2.coords t) ((dat V c).after 3 t) = _
  rw [after0_3, outs_fun V c t hlt h31]
  exact cut_eq t hlt _ _ fun y => rfl

theorem cover (i : S2x192x2048.Idx) : ∃ t : Fin cfg2.N, (cfg2.win 3).flush t = true ∧ i ∈ ((cfg2.win 3).blk t).view.set := by
  have hN : cfg2.N = 64 := N_2
  have h0 : (i 0 : Nat) < 2 := (i 0).isLt
  have h1 : (i 1 : Nat) < 192 := (i 1).isLt
  have h2 : (i 2 : Nat) < 2048 := (i 2).isLt
  obtain ⟨t, ht⟩ : ∃ t : Fin cfg2.N, t.val = 32 * (i 0 : Nat) + 31 := ⟨⟨32 * (i 0 : Nat) + 31, by omega⟩, rfl⟩
  refine ⟨t, (flush2_3 _).mpr (by omega), ?_⟩
  show i ∈ ((View.whole main_v10_1).slice (win2_3.rect t)).set
  rw [View.set_slice_whole, Rect.mem_set_unit]
  have hi := idx3 t
  intro a
  match a with
  | ⟨0, _⟩ => show cc2_transform_3 (grid2.coords t) 0 * 1 ≤ (i 0 : Nat) ∧ (i 0 : Nat) < cc2_transform_3 (grid2.coords t) 0 * 1 + 1
              rw [hi.1]; omega
  | ⟨1, _⟩ => show cc2_transform_3 (grid2.coords t) 1 * 192 ≤ (i 1 : Nat) ∧ (i 1 : Nat) < cc2_transform_3 (grid2.coords t) 1 * 192 + 192
              rw [hi.2.1]; omega
  | ⟨2, _⟩ => show cc2_transform_3 (grid2.coords t) 2 * 2048 ≤ (i 2 : Nat) ∧ (i 2 : Nat) < cc2_transform_3 (grid2.coords t) 2 * 2048 + 2048
              rw [hi.2.2]; omega

/-- The call's result array at the end: `(Eᵀ · (E · P))ᵀ` of the two arrays it read. -/
theorem final (c : Dev nD) : (dat V c).arrAt 3 cfg2.N = res V c :=
  (dat V c).arrAt_eq_of_cover 3 (res V c) (flushed_eq V c) cover

/-- The sketch's staging buffer after point `t` holds row block `t % 32` of the sketch of batch `t / 32`. -/
theorem outs_y (c : Dev nD) (t : Fin cfg2.N) (hlt : t.val < 64) :
    (outsAt0 V c t.val t.isLt).1 = fun y : S1x192x512.Idx =>
      yAt (eArr V c) (pArr V c) ⟨t.val / 32, by omega⟩ (y 1) ⟨512 * (t.val % 32) + (y 2).val, by have : (y 2).val < 512 := (y 2).isLt; omega⟩ := by
  funext y
  obtain ⟨u, r, s, rfl⟩ : ∃ (u : Fin 1) (r : Fin 192) (s : Fin 512), y = ix3 u r s := ⟨y 0, y 1, y 2, funext fun a => by fin_cases a <;> rfl⟩
  obtain rfl : u = 0 := Subsingleton.elim _ _
  have hv : t.val = 32 * (⟨t.val / 32, by omega⟩ : Fin 2).val + (⟨t.val % 32, by omega⟩ : Fin 32).val := by dsimp only; omega
  have hy : yBlk (iblk V c 0 t) (iblk V c 1 t) r s = yAt (eArr V c) (pArr V c) ⟨t.val / 32, by omega⟩ r ⟨512 * (t.val % 32) + s.val, by omega⟩ := by
    unfold yBlk yAt
    simp only [iblk0_apply V c t _ _ hv, iblk1_apply V c t _ _ hv]
  by_cases h0 : t.val % 32 = 0
  · rw [outsAt0_A V c t h0 (by omega)]
    dsimp only
    rw [out_A_2, pay3_apply]
    exact hy
  · rw [outsAt0_B V c t h0 (by omega)]
    dsimp only
    rw [out_B_2, pay3_apply]
    exact hy

/-- The sketch's array. -/
def resY (c : Dev nD) : Vec Ideal S2x192x16384 .f32 := fun i => yAt (eArr V c) (pArr V c) (i 0) (i 1) (i 2)

theorem cut_eq_y (t : Fin cfg2.N) (hlt : t.val < 64) (X : S1x192x512.Idx → EReal) (G : S2x192x16384.Idx → EReal)
    (h : ∀ y : S1x192x512.Idx, X y = G (ix3 (⟨t.val / 32, by omega⟩ : Fin 2) (y 1) (⟨512 * (t.val % 32) + (y 2).val, by have : (y 2).val < 512 := (y 2).isLt; omega⟩ : Fin 16384))) :
    win2_2.cut (grid2.coords t) X = (win2_2.blk t).view.read (Elt Ideal) G := by
  have hi := idx2 t
  refine funext fun (y : S1x192x512.Idx) => (h y).trans (congrArg G (funext fun x => Fin.ext ?_))
  refine Eq.symm ((win2_2.rect_emb_val t y x).trans ?_)
  show cc2_transform_2 (grid2.coords t) x * S1x192x512.size x + _ = _
  have hy : (y 0 : Nat) < 1 := (y 0).isLt
  match x with
  | ⟨0, _⟩ => show cc2_transform_2 (grid2.coords t) 0 * 1 + (y 0 : Nat) = t.val / 32; rw [hi.1]; omega
  | ⟨1, _⟩ => show cc2_transform_2 (grid2.coords t) 1 * 192 + (y 1 : Nat) = (y 1 : Nat); rw [hi.2.1]; omega
  | ⟨2, _⟩ => show cc2_transform_2 (grid2.coords t) 2 * 512 + (y 2 : Nat) = 512 * (t.val % 32) + (y 2 : Nat); rw [hi.2.2]; omega

theorem flushed_eq_y (c : Dev nD) (t : Fin cfg2.N) (hf : (cfg2.win 2).flush t = true) :
    (dat V c).flushed 2 t = ((cfg2.win 2).blk t).view.read (Elt Ideal) (resY V c) := by
  have hN : cfg2.N = 64 := N_2
  have hlt : t.val < 64 := by have := t.isLt; omega
  show (cfg2.win 2).cut (grid2.coords t) ((dat V c).after 2 t) = _
  rw [after0_2, outs_y V c t hlt]
  exact cut_eq_y t hlt _ _ fun y => rfl

theorem cover_y (i : S2x192x16384.Idx) : ∃ t : Fin cfg2.N, (cfg2.win 2).flush t = true ∧ i ∈ ((cfg2.win 2).blk t).view.set := by
  have hN : cfg2.N = 64 := N_2
  have h0 : (i 0 : Nat) < 2 := (i 0).isLt
  have h1 : (i 1 : Nat) < 192 := (i 1).isLt
  have h2 : (i 2 : Nat) < 16384 := (i 2).isLt
  obtain ⟨t, ht⟩ : ∃ t : Fin cfg2.N, t.val = 32 * (i 0 : Nat) + (i 2 : Nat) / 512 := ⟨⟨32 * (i 0 : Nat) + (i 2 : Nat) / 512, by omega⟩, rfl⟩
  refine ⟨t, flush2_2 t, ?_⟩
  show i ∈ ((View.whole main_v10_0).slice (win2_2.rect t)).set
  rw [View.set_slice_whole, Rect.mem_set_unit]
  have hi := idx2 t
  intro a
  match a with
  | ⟨0, _⟩ => show cc2_transform_2 (grid2.coords t) 0 * 1 ≤ (i 0 : Nat) ∧ (i 0 : Nat) < cc2_transform_2 (grid2.coords t) 0 * 1 + 1
              rw [hi.1]; omega
  | ⟨1, _⟩ => show cc2_transform_2 (grid2.coords t) 1 * 192 ≤ (i 1 : Nat) ∧ (i 1 : Nat) < cc2_transform_2 (grid2.coords t) 1 * 192 + 192
              rw [hi.2.1]; omega
  | ⟨2, _⟩ => show cc2_transform_2 (grid2.coords t) 2 * 512 ≤ (i 2 : Nat) ∧ (i 2 : Nat) < cc2_transform_2 (grid2.coords t) 2 * 512 + 512
              rw [hi.2.2]; omega

/-- The sketch's array at the end: `(E · P)ᵀ`. -/
theorem final_y (c : Dev nD) : (dat V c).arrAt 2 cfg2.N = resY V c :=
  (dat V c).arrAt_eq_of_cover 2 (resY V c) (flushed_eq_y V c) cover_y

end K2

end Cert.KernelIdeal

end
-- ==== Proof.Value.Kernel.lean ====
/- The kernel's run over the extended reals: what its three results hold at the end. -/
module

public import proofs.«01_k».proof.Proof.KernelIdeal.Run
public import proofs.«01_k».proof.Proof.Value.FirstArray
public import proofs.«01_k».proof.Proof.Value.LastArray

@[expose] public section

set_option maxRecDepth 16384

noncomputable section

namespace Cert.KernelIdeal.Run

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The arguments as launched. -/
abbrev argW (c : Dev nD) : Vec Ideal S2x16384x2048 .bf16 := m ((c : Thread nD τ).loc main_arg0)
abbrev argC (c : Dev nD) : Vec Ideal S2x16384x1024 .i8 := m ((c : Thread nD τ).loc main_arg1)
abbrev argS (c : Dev nD) : Vec Ideal S2x16384x16 .f32 := m ((c : Thread nD τ).loc main_arg2)
abbrev argZ (c : Dev nD) : Vec Ideal S2x16384x16 .i8 := m ((c : Thread nD τ).loc main_arg3)
abbrev argO (c : Dev nD) : Vec Ideal S2x2048x192 .bf16 := m ((c : Thread nD τ).loc main_arg4)

/-- The group scales and the zero points transposed. -/
def scalesT (s : Vec Ideal S2x16384x16 .f32) : Vec Ideal S2x16x16384 .f32 := fun i => s (ix3 (i 0) (i 2) (i 1))
def zerosT (z : Vec Ideal S2x16384x16 .i8) : Vec Ideal S2x16x16384 .i8 := fun i => z (ix3 (i 0) (i 2) (i 1))
/-- The start matrix transposed, its even rows in front and its odd rows behind. -/
def omegaT (o : Vec Ideal S2x2048x192 .bf16) : Vec Ideal S2x192x2048 .bf16 := fun i =>
  o (ix3 (i 0) (⟨2 * ((i 2).val % 1024) + (i 2).val / 1024, by have : (i 2).val < 2048 := (i 2).isLt; omega⟩ : Fin 2048) (i 1))
/-- The residual of the launched arguments. -/
def resid (w : Vec Ideal S2x16384x2048 .bf16) (q : Vec Ideal S2x16384x1024 .i8) (s : Vec Ideal S2x16384x16 .f32) (z : Vec Ideal S2x16384x16 .i8) :
    Vec Ideal S2x16384x2048 .bf16 := K0.eRes w q (scalesT s) (zerosT z)
/-- One pass over the rows: the projection `(Eᵀ · (E · P))ᵀ` as an array. -/
def pass (e : Vec Ideal S2x16384x2048 .bf16) (p : Vec Ideal S2x192x2048 .bf16) : Vec Ideal S2x192x2048 .bf16 :=
  fun i => qAt e p (i 0) (i 1) (i 2)

abbrev resE (c : Dev nD) : Vec Ideal S2x16384x2048 .bf16 := resid (argW m c) (argC m c) (argS m c) (argZ m c)
abbrev proj0 (c : Dev nD) : Vec Ideal S2x192x2048 .bf16 := omegaT (argO m c)
abbrev proj1 (c : Dev nD) : Vec Ideal S2x192x2048 .bf16 := pass (resE m c) (proj0 m c)
abbrev proj2 (c : Dev nD) : Vec Ideal S2x192x2048 .bf16 := pass (resE m c) (proj1 m c)

/-- Over the extended reals a change of format is the identity. -/
theorem trunc_eq (x : Vec Ideal S2x192x2048 .f32) : truncf (F := Ideal) (φ := .f32) .bf16 x bitsLt_bf16_f32 = x := by
  funext i
  pointwise []

/-! ## What the first call reads -/

theorem scalesT_eq (s : Vec Ideal S2x16384x16 .f32) : transpose S2x16x16384 [0, 2, 1] s transposes_S2x16384x16_S2x16x16384_0_2_1 = scalesT s := by
  funext i
  pointwise [scalesT]

theorem zerosT_eq (z : Vec Ideal S2x16384x16 .i8) : transpose S2x16x16384 [0, 2, 1] z transposes_S2x16384x16_S2x16x16384_0_2_1 = zerosT z := by
  funext i
  pointwise [zerosT]

/-- The start matrix as the program arranges it before the first call. -/
abbrev omegaH (o : Vec Ideal S2x2048x192 .bf16) : Vec Ideal S2x192x2048 .bf16 :=
  concatenate S2x192x2048 2
    [⟨S2x192x1024, Host.slice S2x192x1024 ![0, 0, 0] ![1, 1, 2] (transpose S2x192x2048 [0, 2, 1] o transposes_S2x2048x192_S2x192x2048_0_2_1) slicesBy_S2x192x2048_S2x192x1024_0s1_0s1_0s2⟩,
     ⟨S2x192x1024, Host.slice S2x192x1024 ![0, 0, 1] ![1, 1, 2] (transpose S2x192x2048 [0, 2, 1] o transposes_S2x2048x192_S2x192x2048_0_2_1) slicesBy_S2x192x2048_S2x192x1024_0s1_0s1_1s2⟩]
    concatenates_S2x192x1024_S2x192x1024_S2x192x2048_d2

theorem omegaH_lo (o : Vec Ideal S2x2048x192 .bf16) (b : Fin 2) (r : Fin 192) (k : Fin 1024) :
    omegaH o (ix3 b r ⟨k, by omega⟩) = o (ix3 b ⟨2 * k, by omega⟩ r) := by
  pointwise [omegaH]

theorem omegaH_hi (o : Vec Ideal S2x2048x192 .bf16) (b : Fin 2) (r : Fin 192) (k : Fin 1024) :
    omegaH o (ix3 b r ⟨1024 + k, by omega⟩) = o (ix3 b ⟨1 + 2 * k, by omega⟩ r) := by
  pointwise [omegaH]

theorem omegaH_eq (o : Vec Ideal S2x2048x192 .bf16) : omegaH o = omegaT o := by
  funext i
  obtain ⟨b, r, k, rfl⟩ : ∃ (b : Fin 2) (r : Fin 192) (k : Fin 2048), i = ix3 b r k := ⟨i 0, i 1, i 2, funext fun a => by fin_cases a <;> rfl⟩
  show omegaH o (ix3 b r k) = o (ix3 b ⟨2 * (k.val % 1024) + k.val / 1024, by omega⟩ r)
  by_cases hk : k.val < 1024
  · have h := omegaH_lo o b r ⟨k.val, hk⟩
    refine h.trans (congrArg (fun x => o (ix3 b x r)) (Fin.ext ?_))
    simp only
    omega
  · have h := omegaH_hi o b r ⟨k.val - 1024, by omega⟩
    have hk' : (⟨1024 + (⟨k.val - 1024, by omega⟩ : Fin 1024).val, by simp only; omega⟩ : Fin 2048) = k := Fin.ext (by simp only; omega)
    rw [hk'] at h
    refine h.trans (congrArg (fun x => o (ix3 b x r)) (Fin.ext ?_))
    simp only
    omega

theorem wArr_eq (c : Dev nD) : K0.wArr (V1 m ρ) c = argW m c := W1_args m ρ c main_arg0 (by decide)
theorem qArr_eq (c : Dev nD) : K0.qArr (V1 m ρ) c = argC m c := W1_args m ρ c main_arg1 (by decide)
theorem sArr_eq (c : Dev nD) : K0.sArr (V1 m ρ) c = scalesT (argS m c) := by
  have h : (W1 m ρ c (Proc.devRef .tc main_v4) : Vec Ideal S2x16x16384 .f32) = transpose S2x16x16384 [0, 2, 1] (argS m c) transposes_S2x16384x16_S2x16x16384_0_2_1 := by
    unfold W1; after_results <;> rfl
  exact h.trans (scalesT_eq _)
theorem zArr_eq (c : Dev nD) : K0.zArr (V1 m ρ) c = zerosT (argZ m c) := by
  have h : (W1 m ρ c (Proc.devRef .tc main_v5) : Vec Ideal S2x16x16384 .i8) = transpose S2x16x16384 [0, 2, 1] (argZ m c) transposes_S2x16384x16_S2x16x16384_0_2_1 := by
    unfold W1; after_results <;> rfl
  exact h.trans (zerosT_eq _)
theorem oArr_eq (c : Dev nD) : K0.oArr (V1 m ρ) c = proj0 m c := by
  have h : (W1 m ρ c (Proc.devRef .tc main_v3) : Vec Ideal S2x192x2048 .bf16) = omegaH (argO m c) := by
    unfold W1; after_results <;> rfl
  exact h.trans (omegaH_eq _)

theorem eArr0_eq (c : Dev nD) : K0.eArr (V1 m ρ) c = resE m c := by
  have h0 := wArr_eq m ρ c
  have h1 := qArr_eq m ρ c
  have h2 := sArr_eq m ρ c
  have h3 := zArr_eq m ρ c
  unfold K0.eArr
  rw [h0, h1, h2, h3]
  rfl

/-! ## The three calls, one after the other -/

theorem e2_eq (c : Dev nD) : (W2 m ρ c (Proc.devRef .tc main_v6_0) : Vec Ideal S2x16384x2048 .bf16) = resE m c :=
  (W2_arr m ρ c 5).trans ((K0.final_5 (V1 m ρ) c).trans (eArr0_eq m ρ c))

theorem y2_eq (c : Dev nD) : (W2 m ρ c (Proc.devRef .tc main_v6_1) : Vec Ideal S2x192x16384 .f32)
    = fun i => yAt (resE m c) (proj0 m c) (i 0) (i 1) (i 2) := by
  refine (W2_arr m ρ c 6).trans ((K0.final_6 (V1 m ρ) c).trans ?_)
  have h0 := eArr0_eq m ρ c
  have h1 := oArr_eq m ρ c
  unfold K0.resY
  rw [h0, h1]
  rfl

theorem q2_eq (c : Dev nD) : (W2 m ρ c (Proc.devRef .tc main_v6_2) : Vec Ideal S2x192x2048 .f32) = proj1 m c := by
  refine (W2_arr m ρ c 7).trans ((K0.final_7 (V1 m ρ) c).trans ?_)
  have h0 := eArr0_eq m ρ c
  have h1 := oArr_eq m ρ c
  unfold K0.resQ
  rw [h0, h1]
  rfl

theorem e3_eq (c : Dev nD) : (W3 m ρ c (Proc.devRef .tc main_v6_0) : Vec Ideal S2x16384x2048 .bf16) = resE m c :=
  (W3_of m ρ c main_v6_0 (by decide)).trans (e2_eq m ρ c)
theorem y3_eq (c : Dev nD) : (W3 m ρ c (Proc.devRef .tc main_v6_1) : Vec Ideal S2x192x16384 .f32)
    = fun i => yAt (resE m c) (proj0 m c) (i 0) (i 1) (i 2) :=
  (W3_of m ρ c main_v6_1 (by decide)).trans (y2_eq m ρ c)
theorem p3_eq (c : Dev nD) : (W3 m ρ c (Proc.devRef .tc main_v7) : Vec Ideal S2x192x2048 .bf16) = proj1 m c := by
  have h : (W3 m ρ c (Proc.devRef .tc main_v7) : Vec Ideal S2x192x2048 .bf16)
      = truncf (F := Ideal) (φ := .f32) .bf16 (W2 m ρ c (Proc.devRef .tc main_v6_2) : Vec Ideal S2x192x2048 .f32) bitsLt_bf16_f32 := by
    unfold W3; after_results
  rw [h, q2_eq]
  exact trunc_eq _

theorem e4_eq (c : Dev nD) : (W4 m ρ c (Proc.devRef .tc main_v6_0) : Vec Ideal S2x16384x2048 .bf16) = resE m c :=
  (W4_of m ρ c main_v6_0 (by decide)).trans (e3_eq m ρ c)
theorem y4_eq (c : Dev nD) : (W4 m ρ c (Proc.devRef .tc main_v6_1) : Vec Ideal S2x192x16384 .f32)
    = fun i => yAt (resE m c) (proj0 m c) (i 0) (i 1) (i 2) :=
  (W4_of m ρ c main_v6_1 (by decide)).trans (y3_eq m ρ c)
theorem q4_eq (c : Dev nD) : (W4 m ρ c (Proc.devRef .tc main_v8) : Vec Ideal S2x192x2048 .f32) = proj2 m c := by
  refine (W4_arr m ρ c 2).trans ((K1.final (V3 m ρ) c).trans ?_)
  have h0 : K1.eArr (V3 m ρ) c = resE m c := e3_eq m ρ c
  have h1 : K1.pArr (V3 m ρ) c = proj1 m c := p3_eq m ρ c
  unfold K1.res
  rw [h0, h1]
  rfl

theorem e5_eq (c : Dev nD) : (W5 m ρ c (Proc.devRef .tc main_v6_0) : Vec Ideal S2x16384x2048 .bf16) = resE m c :=
  (W5_of m ρ c main_v6_0 (by decide)).trans (e4_eq m ρ c)
theorem y5_eq (c : Dev nD) : (W5 m ρ c (Proc.devRef .tc main_v6_1) : Vec Ideal S2x192x16384 .f32)
    = fun i => yAt (resE m c) (proj0 m c) (i 0) (i 1) (i 2) :=
  (W5_of m ρ c main_v6_1 (by decide)).trans (y4_eq m ρ c)
theorem p5_eq (c : Dev nD) : (W5 m ρ c (Proc.devRef .tc main_v9) : Vec Ideal S2x192x2048 .bf16) = proj2 m c := by
  have h : (W5 m ρ c (Proc.devRef .tc main_v9) : Vec Ideal S2x192x2048 .bf16)
      = truncf (F := Ideal) (φ := .f32) .bf16 (W4 m ρ c (Proc.devRef .tc main_v8) : Vec Ideal S2x192x2048 .f32) bitsLt_bf16_f32 := by
    unfold W5; after_results
  rw [h, q4_eq]
  exact trunc_eq _

theorem y6_eq (c : Dev nD) : (W6 m ρ c (Proc.devRef .tc main_v6_1) : Vec Ideal S2x192x16384 .f32)
    = fun i => yAt (resE m c) (proj0 m c) (i 0) (i 1) (i 2) :=
  (W6_of m ρ c main_v6_1 (by decide)).trans (y5_eq m ρ c)

theorem yt_eq (c : Dev nD) : (W6 m ρ c (Proc.devRef .tc main_v10_0) : Vec Ideal S2x192x16384 .f32)
    = fun i => yAt (resE m c) (proj2 m c) (i 0) (i 1) (i 2) := by
  refine (W6_arr m ρ c 2).trans ((K2.final_y (V5 m ρ) c).trans ?_)
  have h0 : K2.eArr (V5 m ρ) c = resE m c := e5_eq m ρ c
  have h1 : K2.pArr (V5 m ρ) c = proj2 m c := p5_eq m ρ c
  unfold K2.resY
  rw [h0, h1]
  rfl

theorem zt_eq (c : Dev nD) : (W6 m ρ c (Proc.devRef .tc main_v10_1) : Vec Ideal S2x192x2048 .f32) = pass (resE m c) (proj2 m c) := by
  refine (W6_arr m ρ c 3).trans ((K2.final (V5 m ρ) c).trans ?_)
  have h0 : K2.eArr (V5 m ρ) c = resE m c := e5_eq m ρ c
  have h1 : K2.pArr (V5 m ρ) c = proj2 m c := p5_eq m ρ c
  unfold K2.res
  rw [h0, h1]
  rfl

/-! ## The results -/

/-- A projection transposed. -/
abbrev flip (z : Vec Ideal S2x192x2048 .f32) : Vec Ideal S2x2048x192 .f32 := transpose S2x2048x192 [0, 2, 1] z transposes_S2x192x2048_S2x2048x192_0_2_1
theorem flip_apply (z : Vec Ideal S2x192x2048 .f32) (b : Fin 2) (k : Fin 2048) (r : Fin 192) : flip z (ix3 b k r) = z (ix3 b r k) := by
  pointwise [flip]
/-- A projection's two halves interleaved back. -/
abbrev join (z : Vec Ideal S2x192x2048 .f32) : Vec Ideal S2x192x2048 .f32 :=
  shapeCast S2x192x2048 (concatenate S2x192x1024x2 3
    [⟨S2x192x1024x1, broadcastInDim S2x192x1024x1 ![0, 1, 2] bcast_S2x192x1024_S2x192x1024x1_0_1_2 (extractStridedSlice S2x192x1024 ![0, 0, 0] z slices_S2x192x2048_S2x192x1024_0_0_0)⟩,
     ⟨S2x192x1024x1, broadcastInDim S2x192x1024x1 ![0, 1, 2] bcast_S2x192x1024_S2x192x1024x1_0_1_2 (extractStridedSlice S2x192x1024 ![0, 0, 1024] z slices_S2x192x2048_S2x192x1024_0_0_1024)⟩]
    concatenates_S2x192x1024x1_S2x192x1024x1_S2x192x1024x2_d3) shapeCasts_S2x192x1024x2_S2x192x2048

theorem join_even (z : Vec Ideal S2x192x2048 .f32) (b : Fin 2) (k : Fin 1024) (r : Fin 192) :
    join z (ix3 b r ⟨2 * k, by omega⟩) = z (ix3 b r ⟨k, by omega⟩) := by
  refine (shapeCast_apply _ _ _ (ix4 b r k (0 : Fin 2)) ?_).trans ?_
  · rw [Shape.rowMajor_val_four, Shape.rowMajor_val_three]
    simp [ix4, ix3]
    omega
  · pointwise []

theorem join_odd (z : Vec Ideal S2x192x2048 .f32) (b : Fin 2) (k : Fin 1024) (r : Fin 192) :
    join z (ix3 b r ⟨2 * k + 1, by omega⟩) = z (ix3 b r ⟨1024 + k, by omega⟩) := by
  refine (shapeCast_apply _ _ _ (ix4 b r k (1 : Fin 2)) ?_).trans ?_
  · rw [Shape.rowMajor_val_four, Shape.rowMajor_val_three]
    simp [ix4, ix3]
    omega
  · pointwise []

/-- The sketch `E · P` by rows. -/
def sketch (e : Vec Ideal S2x16384x2048 .bf16) (p : Vec Ideal S2x192x2048 .bf16) : Vec Ideal S2x16384x192 .f32 := fun i => yAt e p (i 0) (i 2) (i 1)

/-- The kernel's result `y`. -/
def outY (c : Dev nD) : Vec Ideal S2x16384x192 .f32 := sketch (resE m c) (proj2 m c)
/-- The kernel's result `z`. -/
def outZ (c : Dev nD) : Vec Ideal S2x2048x192 .f32 := flip (join (pass (resE m c) (proj2 m c)))
/-- The kernel's result `y0`. -/
def outY0 (c : Dev nD) : Vec Ideal S2x16384x192 .f32 := sketch (resE m c) (proj0 m c)

theorem turn_eq (e : Vec Ideal S2x16384x2048 .bf16) (p : Vec Ideal S2x192x2048 .bf16) (Y : Vec Ideal S2x192x16384 .f32)
    (h : Y = fun i => yAt e p (i 0) (i 1) (i 2)) : transpose S2x16384x192 [0, 2, 1] Y transposes_S2x192x16384_S2x16384x192_0_2_1 = sketch e p := by
  rw [h]
  funext i
  pointwise [sketch]

theorem y_eq (c : Dev nD) : (W7 m ρ c (Proc.devRef .tc main_v17) : Vec Ideal S2x16384x192 .f32) = outY m c := by
  have h : (W7 m ρ c (Proc.devRef .tc main_v17) : Vec Ideal S2x16384x192 .f32)
      = transpose S2x16384x192 [0, 2, 1] (W6 m ρ c (Proc.devRef .tc main_v10_0) : Vec Ideal S2x192x16384 .f32) transposes_S2x192x16384_S2x16384x192_0_2_1 := by
    unfold W7; after_results
  exact h.trans (turn_eq _ _ _ (yt_eq m ρ c))

theorem y0_eq (c : Dev nD) : (W7 m ρ c (Proc.devRef .tc main_v19) : Vec Ideal S2x16384x192 .f32) = outY0 m c := by
  have h : (W7 m ρ c (Proc.devRef .tc main_v19) : Vec Ideal S2x16384x192 .f32)
      = transpose S2x16384x192 [0, 2, 1] (W6 m ρ c (Proc.devRef .tc main_v6_1) : Vec Ideal S2x192x16384 .f32) transposes_S2x192x16384_S2x16384x192_0_2_1 := by
    unfold W7; after_results
  exact h.trans (turn_eq _ _ _ (y6_eq m ρ c))

theorem z_eq (c : Dev nD) : (W7 m ρ c (Proc.devRef .tc main_v18) : Vec Ideal S2x2048x192 .f32) = outZ m c := by
  have h : (W7 m ρ c (Proc.devRef .tc main_v18) : Vec Ideal S2x2048x192 .f32)
      = flip (join (W6 m ρ c (Proc.devRef .tc main_v10_1) : Vec Ideal S2x192x2048 .f32)) := by
    unfold W7; after_results <;> rfl
  rw [h, zt_eq]
  rfl

/-- The kernel's run: its results are these and its arguments end as launched. -/
theorem value : θ_run defs (onTc (τ := τ) (main (F := Ideal))) ⟨m, fun _ => 0, ρ⟩ (fun r => ∀ c : Dev nD,
      r.2.mem ((c.tc : Thread nD τ).loc main_v17) = outY m c
      ∧ r.2.mem ((c.tc : Thread nD τ).loc main_v18) = outZ m c
      ∧ r.2.mem ((c.tc : Thread nD τ).loc main_v19) = outY0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h.1 c _ (mem_uc main_v17 (by decide))).trans (y_eq m ρ c),
       (h.1 c _ (mem_uc main_v18 (by decide))).trans (z_eq m ρ c),
       (h.1 c _ (mem_uc main_v19 (by decide))).trans (y0_eq m ρ c),
       (h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c)⟩) (run m ρ)

end Cert.KernelIdeal.Run

end
-- ==== Proof.Value.Reference.lean ====
/- The reference's three results, read at an index: sums of products of its arguments. -/
module

public import proofs.«01_k».proof.Proof.Gen.ReferenceIdeal.Run
public import Idealize.ShloMosaic.Lib.Pipeline.Value
public import Idealize.ShloMosaic.Lib.Pointwise
public import Idealize.ShloMosaic.Lib.Tactic

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The columns by groups of 64 in the reference's order. -/
theorem group_apply {φ : EltTy} (x : Vec Ideal S2x16384x1024 φ) (b : Fin 2) (s : Fin 16384) (g : Fin 16) (l : Fin 64) :
    shapeCast S2x16384x16x64 x shapeCasts_S2x16384x1024_S2x16384x16x64 (ix4 b s g l) = x (ix3 b s ⟨64 * g + l, by omega⟩) := by
  refine shapeCast_apply _ _ _ (ix3 b s ⟨64 * g + l, by omega⟩) ?_
  rw [Shape.rowMajor_val_four, Shape.rowMajor_val_three]
  simp [ix4, ix3]
  omega

theorem ungroup_apply {φ : EltTy} (x : Vec Ideal S2x16384x16x64 φ) (b : Fin 2) (s : Fin 16384) (k : Fin 1024) :
    shapeCast S2x16384x1024 x shapeCasts_S2x16384x16x64_S2x16384x1024 (ix3 b s k) = x (ix4 b s ⟨k.val / 64, by omega⟩ ⟨k.val % 64, by omega⟩) := by
  refine shapeCast_apply _ _ _ (ix4 b s ⟨k.val / 64, by omega⟩ ⟨k.val % 64, by omega⟩) ?_
  rw [Shape.rowMajor_val_four, Shape.rowMajor_val_three]
  simp [ix4, ix3]
  omega

/-- A group's zero point and its scale, spread over the group. -/
abbrev zeroB (z : Vec Ideal S2x16384x16 .i8) : Vec Ideal S2x16384x16x64 .f32 :=
  broadcastInDim S2x16384x16x64 ![0, 1, 2, 3] bcast_S2x16384x16x1_S2x16384x16x64_0_1_2_3
    (broadcastInDim S2x16384x16x1 ![0, 1, 2] bcast_S2x16384x16_S2x16384x16x1_0_1_2 (sitofp (F := Ideal) .f32 (extui 32 z natLt_8_32)))
abbrev scaleB (s : Vec Ideal S2x16384x16 .f32) : Vec Ideal S2x16384x16x64 .f32 :=
  broadcastInDim S2x16384x16x64 ![0, 1, 2, 3] bcast_S2x16384x16x1_S2x16384x16x64_0_1_2_3
    (broadcastInDim S2x16384x16x1 ![0, 1, 2] bcast_S2x16384x16_S2x16384x16x1_0_1_2 s)

/-- The residual of one half of the columns: the weight minus the dequantized codes. -/
abbrev dequant (w : Vec Ideal S2x16384x1024 .bf16) (n : Vec Ideal S2x16384x1024 .i32) (s : Vec Ideal S2x16384x16 .f32) (z : Vec Ideal S2x16384x16 .i8) :
    Vec Ideal S2x16384x1024 .bf16 :=
  shapeCast S2x16384x1024 (truncf (F := Ideal) .bf16 (subf (F := Ideal) (shapeCast S2x16384x16x64 (extf (F := Ideal) .f32 w bitsLt_bf16_f32) shapeCasts_S2x16384x1024_S2x16384x16x64)
    (mulf (F := Ideal) (subf (F := Ideal) (shapeCast S2x16384x16x64 (sitofp (F := Ideal) .f32 n) shapeCasts_S2x16384x1024_S2x16384x16x64) (zeroB z)) (scaleB s))) bitsLt_bf16_f32) shapeCasts_S2x16384x16x64_S2x16384x1024

theorem zext_toInt : ∀ b : BitVec 8, (b.setWidth 32).toInt = (b.toNat : ℤ) := by decide +kernel
theorem low_toInt : ∀ b : BitVec 8, (b.setWidth 32 &&& 15#32).toInt = ((b &&& 15#8).toNat : ℤ) := by decide +kernel
theorem high_toInt : ∀ b : BitVec 8, ((b.setWidth 32).sshiftRight 4).toInt = ((b >>> 4).toNat : ℤ) := by decide +kernel

theorem zeroB_apply (z : Vec Ideal S2x16384x16 .i8) (b : Fin 2) (s : Fin 16384) (g : Fin 16) (l : Fin 64) :
    (zeroB z (ix4 b s g l) : EReal) = (((z (ix3 b s g) : BitVec 8).toNat : ℝ) : EReal) := by
  have h : (zeroB z (ix4 b s g l) : EReal) = ((((z (ix3 b s g) : BitVec 8).setWidth 32).toInt : ℝ) : EReal) := by
    pointwise [zeroB]
    try rfl
  rw [h, zext_toInt]
  norm_cast

theorem scaleB_apply (c : Vec Ideal S2x16384x16 .f32) (b : Fin 2) (s : Fin 16384) (g : Fin 16) (l : Fin 64) :
    scaleB c (ix4 b s g l) = c (ix3 b s g) := by
  pointwise [scaleB]

theorem dequant_apply (w : Vec Ideal S2x16384x1024 .bf16) (n : Vec Ideal S2x16384x1024 .i32) (c : Vec Ideal S2x16384x16 .f32) (z : Vec Ideal S2x16384x16 .i8)
    (b : Fin 2) (s : Fin 16384) (k : Fin 1024) :
    (dequant w n c z (ix3 b s k) : EReal) = (w (ix3 b s k) : EReal)
      - ((((n (ix3 b s k) : BitVec 32).toInt : ℝ) : EReal) - (((z (ix3 b s ⟨k.val / 64, by omega⟩) : BitVec 8).toNat : ℝ) : EReal)) * (c (ix3 b s ⟨k.val / 64, by omega⟩) : EReal) := by
  have hk : (⟨64 * (⟨k.val / 64, by omega⟩ : Fin 16).val + (⟨k.val % 64, by omega⟩ : Fin 64).val, by simp only; omega⟩ : Fin 1024) = k := Fin.ext (by simp only; omega)
  have h1 := group_apply (φ := .f32) (extf (F := Ideal) (φ := .bf16) .f32 w bitsLt_bf16_f32) b s ⟨k.val / 64, by omega⟩ ⟨k.val % 64, by omega⟩
  have h2 := group_apply (φ := .f32) (sitofp (F := Ideal) .f32 n) b s ⟨k.val / 64, by omega⟩ ⟨k.val % 64, by omega⟩
  have h3 := zeroB_apply z b s ⟨k.val / 64, by omega⟩ ⟨k.val % 64, by omega⟩
  have h4 := scaleB_apply c b s ⟨k.val / 64, by omega⟩ ⟨k.val % 64, by omega⟩
  rw [hk] at h1 h2
  refine (ungroup_apply (φ := .bf16) _ b s k).trans ?_
  exact congr (congrArg (fun x y : EReal => x - y) h1) (congr (congrArg (fun x y : EReal => x * y) (congr (congrArg (fun x y : EReal => x - y) h2) h3)) h4)

/-- The codes' low and high nibbles. -/
abbrev lowN (q : Vec Ideal S2x16384x1024 .i8) : Vec Ideal S2x16384x1024 .i32 :=
  andi (extui 32 q natLt_8_32) (broadcastInDim S2x16384x1024 ![] bcast_S_S2x16384x1024 (constantI S_ 32 15#32))
abbrev highN (q : Vec Ideal S2x16384x1024 .i8) : Vec Ideal S2x16384x1024 .i32 :=
  Host.shrsi (extui 32 q natLt_8_32) (broadcastInDim S2x16384x1024 ![] bcast_S_S2x16384x1024 (constantI S_ 32 4#32))

theorem lowN_apply (q : Vec Ideal S2x16384x1024 .i8) (i : S2x16384x1024.Idx) :
    (lowN q i : BitVec 32).toInt = (((q i : BitVec 8) &&& 15#8).toNat : ℤ) := low_toInt (q i)
theorem highN_apply (q : Vec Ideal S2x16384x1024 .i8) (i : S2x16384x1024.Idx) :
    (highN q i : BitVec 32).toInt = (((q i : BitVec 8) >>> 4).toNat : ℤ) := high_toInt (q i)

/-- The even and the odd columns of the residual. -/
def resLo (w : Vec Ideal S2x16384x2048 .bf16) (q : Vec Ideal S2x16384x1024 .i8) (s : Vec Ideal S2x16384x16 .f32) (z : Vec Ideal S2x16384x16 .i8) : Vec Ideal S2x16384x1024 .bf16 :=
  dequant (Host.slice S2x16384x1024 ![0, 0, 0] ![1, 1, 2] w slicesBy_S2x16384x2048_S2x16384x1024_0s1_0s1_0s2) (lowN q) s z
def resHi (w : Vec Ideal S2x16384x2048 .bf16) (q : Vec Ideal S2x16384x1024 .i8) (s : Vec Ideal S2x16384x16 .f32) (z : Vec Ideal S2x16384x16 .i8) : Vec Ideal S2x16384x1024 .bf16 :=
  dequant (Host.slice S2x16384x1024 ![0, 0, 1] ![1, 1, 2] w slicesBy_S2x16384x2048_S2x16384x1024_0s1_0s1_1s2) (highN q) s z

theorem evens_apply (w : Vec Ideal S2x16384x2048 .bf16) (b : Fin 2) (s : Fin 16384) (k : Fin 1024) :
    Host.slice S2x16384x1024 ![0, 0, 0] ![1, 1, 2] w slicesBy_S2x16384x2048_S2x16384x1024_0s1_0s1_0s2 (ix3 b s k) = w (ix3 b s ⟨2 * k, by omega⟩) := by
  pointwise []
theorem odds_apply (w : Vec Ideal S2x16384x2048 .bf16) (b : Fin 2) (s : Fin 16384) (k : Fin 1024) :
    Host.slice S2x16384x1024 ![0, 0, 1] ![1, 1, 2] w slicesBy_S2x16384x2048_S2x16384x1024_0s1_0s1_1s2 (ix3 b s k) = w (ix3 b s ⟨1 + 2 * k, by omega⟩) := by
  pointwise []

theorem resLo_apply (w : Vec Ideal S2x16384x2048 .bf16) (q : Vec Ideal S2x16384x1024 .i8) (c : Vec Ideal S2x16384x16 .f32) (z : Vec Ideal S2x16384x16 .i8)
    (b : Fin 2) (s : Fin 16384) (k : Fin 1024) :
    (resLo w q c z (ix3 b s k) : EReal) = (w (ix3 b s ⟨2 * k, by omega⟩) : EReal)
      - (((((q (ix3 b s k) : BitVec 8) &&& 15#8).toNat : ℝ) : EReal) - (((z (ix3 b s ⟨k.val / 64, by omega⟩) : BitVec 8).toNat : ℝ) : EReal)) * (c (ix3 b s ⟨k.val / 64, by omega⟩) : EReal) := by
  unfold resLo
  rw [dequant_apply, evens_apply, lowN_apply]
  norm_cast

theorem resHi_apply (w : Vec Ideal S2x16384x2048 .bf16) (q : Vec Ideal S2x16384x1024 .i8) (c : Vec Ideal S2x16384x16 .f32) (z : Vec Ideal S2x16384x16 .i8)
    (b : Fin 2) (s : Fin 16384) (k : Fin 1024) :
    (resHi w q c z (ix3 b s k) : EReal) = (w (ix3 b s ⟨1 + 2 * k, by omega⟩) : EReal)
      - (((((q (ix3 b s k) : BitVec 8) >>> 4).toNat : ℝ) : EReal) - (((z (ix3 b s ⟨k.val / 64, by omega⟩) : BitVec 8).toNat : ℝ) : EReal)) * (c (ix3 b s ⟨k.val / 64, by omega⟩) : EReal) := by
  unfold resHi
  rw [dequant_apply, odds_apply, highN_apply]
  norm_cast

/-- `E · P`, both in two halves. -/
abbrev mulE (lo hi : Vec Ideal S2x16384x1024 .bf16) (pl ph : Vec Ideal S2x1024x192 .bf16) : Vec Ideal S2x16384x192 .f32 :=
  addf (F := Ideal) (Host.dotGeneral (F := Ideal) (φ₁ := .bf16) (φ₂ := .bf16) dot_S2x16384x1024_S2x1024x192_S2x16384x192_2_1_1_2_0_0 none lo pl)
    (Host.dotGeneral (F := Ideal) (φ₁ := .bf16) (φ₂ := .bf16) dot_S2x16384x1024_S2x1024x192_S2x16384x192_2_1_1_2_0_0 none hi ph)
/-- `Eᵀ · Y` for one half of `E`'s columns. -/
abbrev mulEt (eh : Vec Ideal S2x16384x1024 .bf16) (y : Vec Ideal S2x16384x192 .bf16) : Vec Ideal S2x1024x192 .f32 :=
  Host.dotGeneral (F := Ideal) (φ₁ := .bf16) (φ₂ := .bf16) dot_S2x16384x1024_S2x16384x192_S2x1024x192_1_1_2_2_0_0 none eh y
abbrev cut16 (y : Vec Ideal S2x16384x192 .f32) : Vec Ideal S2x16384x192 .bf16 := truncf (F := Ideal) .bf16 y bitsLt_bf16_f32
abbrev cut10 (y : Vec Ideal S2x1024x192 .f32) : Vec Ideal S2x1024x192 .bf16 := truncf (F := Ideal) .bf16 y bitsLt_bf16_f32

theorem mulE_apply (lo hi : Vec Ideal S2x16384x1024 .bf16) (pl ph : Vec Ideal S2x1024x192 .bf16) (b : Fin 2) (s : Fin 16384) (r : Fin 192) :
    mulE lo hi pl ph (ix3 b s r) = (∑ a : Fin 1024, lo (ix3 b s a) * pl (ix3 b a r)) + ∑ a : Fin 1024, hi (ix3 b s a) * ph (ix3 b a r) := by
  pointwise [mulE]

theorem mulEt_apply (eh : Vec Ideal S2x16384x1024 .bf16) (y : Vec Ideal S2x16384x192 .bf16) (b : Fin 2) (k : Fin 1024) (r : Fin 192) :
    mulEt eh y (ix3 b k r) = ∑ s : Fin 16384, eh (ix3 b s k) * y (ix3 b s r) := by
  pointwise [mulEt]

/-- The two halves of a result side by side, the columns paired again. -/
abbrev pair (lo hi : Vec Ideal S2x1024x192 .f32) : Vec Ideal S2x2048x192 .f32 :=
  shapeCast S2x2048x192 (concatenate S2x1024x2x192 2 [⟨S2x1024x1x192, broadcastInDim S2x1024x1x192 ![0, 1, 3] bcast_S2x1024x192_S2x1024x1x192_0_1_3 lo⟩,
    ⟨S2x1024x1x192, broadcastInDim S2x1024x1x192 ![0, 1, 3] bcast_S2x1024x192_S2x1024x1x192_0_1_3 hi⟩] concatenates_S2x1024x1x192_S2x1024x1x192_S2x1024x2x192_d2)
    shapeCasts_S2x1024x2x192_S2x2048x192

theorem pair_even (lo hi : Vec Ideal S2x1024x192 .f32) (b : Fin 2) (k : Fin 1024) (r : Fin 192) :
    pair lo hi (ix3 b ⟨2 * k, by omega⟩ r) = lo (ix3 b k r) := by
  refine (shapeCast_apply _ _ _ (ix4 b k (0 : Fin 2) r) ?_).trans ?_
  · rw [Shape.rowMajor_val_four, Shape.rowMajor_val_three]
    simp [ix4, ix3]
    omega
  · pointwise []

theorem pair_odd (lo hi : Vec Ideal S2x1024x192 .f32) (b : Fin 2) (k : Fin 1024) (r : Fin 192) :
    pair lo hi (ix3 b ⟨2 * k + 1, by omega⟩ r) = hi (ix3 b k r) := by
  refine (shapeCast_apply _ _ _ (ix4 b k (1 : Fin 2) r) ?_).trans ?_
  · rw [Shape.rowMajor_val_four, Shape.rowMajor_val_three]
    simp [ix4, ix3]
    omega
  · pointwise []

/-- The start matrix's even and odd rows. -/
abbrev p0Lo (o : Vec Ideal S2x2048x192 .bf16) : Vec Ideal S2x1024x192 .bf16 :=
  Host.slice S2x1024x192 ![0, 0, 0] ![1, 2, 1] o slicesBy_S2x2048x192_S2x1024x192_0s1_0s2_0s1
abbrev p0Hi (o : Vec Ideal S2x2048x192 .bf16) : Vec Ideal S2x1024x192 .bf16 :=
  Host.slice S2x1024x192 ![0, 1, 0] ![1, 2, 1] o slicesBy_S2x2048x192_S2x1024x192_0s1_1s2_0s1

theorem p0Lo_apply (o : Vec Ideal S2x2048x192 .bf16) (b : Fin 2) (k : Fin 1024) (r : Fin 192) : p0Lo o (ix3 b k r) = o (ix3 b ⟨2 * k, by omega⟩ r) := by
  pointwise []
theorem p0Hi_apply (o : Vec Ideal S2x2048x192 .bf16) (b : Fin 2) (k : Fin 1024) (r : Fin 192) : p0Hi o (ix3 b k r) = o (ix3 b ⟨1 + 2 * k, by omega⟩ r) := by
  pointwise []

/-- The reference's first product, its result `y0`. -/
def refY0 (lo hi : Vec Ideal S2x16384x1024 .bf16) (o : Vec Ideal S2x2048x192 .bf16) : Vec Ideal S2x16384x192 .f32 := mulE lo hi (p0Lo o) (p0Hi o)
/-- The next product of a power iteration, from the one before. -/
def nextY (lo hi : Vec Ideal S2x16384x1024 .bf16) (y : Vec Ideal S2x16384x192 .f32) : Vec Ideal S2x16384x192 .f32 :=
  mulE lo hi (cut10 (mulEt lo (cut16 y))) (cut10 (mulEt hi (cut16 y)))
/-- The back projection of a product, its columns in order. -/
def backZ (lo hi : Vec Ideal S2x16384x1024 .bf16) (y : Vec Ideal S2x16384x192 .f32) : Vec Ideal S2x2048x192 .f32 :=
  pair (mulEt lo (cut16 y)) (mulEt hi (cut16 y))
/-- The reference's result `y`. -/
def refY (lo hi : Vec Ideal S2x16384x1024 .bf16) (o : Vec Ideal S2x2048x192 .bf16) : Vec Ideal S2x16384x192 .f32 :=
  nextY lo hi (nextY lo hi (refY0 lo hi o))
/-- The reference's result `z`. -/
def refZ (lo hi : Vec Ideal S2x16384x1024 .bf16) (o : Vec Ideal S2x2048x192 .bf16) : Vec Ideal S2x2048x192 .f32 := backZ lo hi (refY lo hi o)

/-- The halves of the residual of the launched arguments. -/
def lo (m : (ℓ : Loc nD τ sig) → Buf (Elt Ideal) ℓ) (c : Dev nD) : Vec Ideal S2x16384x1024 .bf16 :=
  resLo (m ((c.tc : Thread nD τ).loc main_arg0)) (m ((c.tc : Thread nD τ).loc main_arg1)) (m ((c.tc : Thread nD τ).loc main_arg2)) (m ((c.tc : Thread nD τ).loc main_arg3))
def hi (m : (ℓ : Loc nD τ sig) → Buf (Elt Ideal) ℓ) (c : Dev nD) : Vec Ideal S2x16384x1024 .bf16 :=
  resHi (m ((c.tc : Thread nD τ).loc main_arg0)) (m ((c.tc : Thread nD τ).loc main_arg1)) (m ((c.tc : Thread nD τ).loc main_arg2)) (m ((c.tc : Thread nD τ).loc main_arg3))

/-- The reference's run with its results by these names. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = refY (lo m c) (hi m c) (m ((c.tc : Thread nD τ).loc main_arg4))
      ∧ r.2.mem ((c.tc : Thread nD τ).loc main_v64) = refZ (lo m c) (hi m c) (m ((c.tc : Thread nD τ).loc main_arg4))
      ∧ r.2.mem ((c.tc : Thread nD τ).loc main_v41) = refY0 (lo m c) (hi m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by unfold res_main_v57 refY nextY refY0 lo hi resLo resHi; rfl),
    (h c).2.1.trans (by unfold res_main_v64 refZ backZ refY nextY refY0 lo hi resLo resHi; rfl),
    (h c).2.2.1.trans (by unfold refY0 lo hi resLo resHi; rfl), (h c).2.2.2⟩) (run m ρ)

end Cert.ReferenceIdeal.Value

end
-- ==== Proof.Value.Equal.lean ====
/- The kernel's and the reference's results are equal over the extended reals. -/
module

public import proofs.«01_k».proof.Defs
public import proofs.«01_k».proof.Proof.Value.Kernel
public import proofs.«01_k».proof.Proof.Value.Reference

@[expose] public section

set_option maxRecDepth 16384

noncomputable section

namespace Cert.Equal

open Idealize.ShloMosaic Idealize.ShloMosaic.TcCoe Idealize.SL.Sem
open Cert.ReferenceIdeal Cert.ReferenceIdeal.Value
open Cert.KernelIdeal (yAt qAt)
open Cert.KernelIdeal.K0 (eAt nib)
open Cert.KernelIdeal.Run (resid pass sketch omegaT scalesT zerosT)

/-- The halves `lo`, `hi` of the columns of `e`, and the halves of a transposed projection. -/
structure Halves (e : Vec Ideal S2x16384x2048 .bf16) (lo hi : Vec Ideal S2x16384x1024 .bf16) : Prop where
  hlo : ∀ (b : Fin 2) (s : Fin 16384) (k : Fin 1024), lo (ix3 b s k) = e (ix3 b s ⟨k, by omega⟩)
  hhi : ∀ (b : Fin 2) (s : Fin 16384) (k : Fin 1024), hi (ix3 b s k) = e (ix3 b s ⟨1024 + k, by omega⟩)

/-- The reference's halves are the kernel's residual's. -/
theorem resid_halves (w : Vec Ideal S2x16384x2048 .bf16) (q : Vec Ideal S2x16384x1024 .i8) (c : Vec Ideal S2x16384x16 .f32) (z : Vec Ideal S2x16384x16 .i8) :
    Halves (resid w q c z) (resLo w q c z) (resHi w q c z) where
  hlo b s k := by
    refine (resLo_apply w q c z b s k).trans ?_
    show _ = eAt w q (scalesT c) (zerosT z) b s ⟨k, by omega⟩
    have h1 : (⟨2 * (k.val % 1024) + k.val / 1024, by omega⟩ : Fin 2048) = ⟨2 * k.val, by omega⟩ := Fin.ext (by simp only; omega)
    have h2 : (⟨k.val % 1024, by omega⟩ : Fin 1024) = k := Fin.ext (by simp only; omega)
    have h3 : (⟨k.val % 1024 / 64, by omega⟩ : Fin 16) = ⟨k.val / 64, by omega⟩ := Fin.ext (by simp only; omega)
    have h4 : k.val / 1024 = 0 := by omega
    unfold eAt
    dsimp only
    rw [h1, h2, h3, h4]
    rfl
  hhi b s k := by
    refine (resHi_apply w q c z b s k).trans ?_
    show _ = eAt w q (scalesT c) (zerosT z) b s ⟨1024 + k, by omega⟩
    have h1 : (⟨2 * ((1024 + k.val) % 1024) + (1024 + k.val) / 1024, by omega⟩ : Fin 2048) = ⟨1 + 2 * k.val, by omega⟩ := Fin.ext (by simp only; omega)
    have h2 : (⟨(1024 + k.val) % 1024, by omega⟩ : Fin 1024) = k := Fin.ext (by simp only; omega)
    have h3 : (⟨(1024 + k.val) % 1024 / 64, by omega⟩ : Fin 16) = ⟨k.val / 64, by omega⟩ := Fin.ext (by simp only; omega)
    have h4 : (1024 + k.val) / 1024 = 1 := by omega
    unfold eAt
    dsimp only
    rw [h1, h2, h3, h4]
    rfl

theorem cut16_eq (y : Vec Ideal S2x16384x192 .f32) : cut16 y = y := by
  funext i
  pointwise [cut16]
theorem cut10_eq (y : Vec Ideal S2x1024x192 .f32) : cut10 y = y := by
  funext i
  pointwise [cut10]

variable {e : Vec Ideal Cert.KernelIdeal.S2x16384x2048 .bf16} {lo hi : Vec Ideal Cert.ReferenceIdeal.S2x16384x1024 .bf16} (he : Halves e lo hi) (p : Vec Ideal Cert.KernelIdeal.S2x192x2048 .bf16)

include he

/-- A product with `E` of a projection given by its two transposed halves. -/
theorem mulE_eq (pl ph : Vec Ideal S2x1024x192 .bf16) (hpl : ∀ (b : Fin 2) (k : Fin 1024) (r : Fin 192), pl (ix3 b k r) = p (ix3 b r ⟨k, by omega⟩))
    (hph : ∀ (b : Fin 2) (k : Fin 1024) (r : Fin 192), ph (ix3 b k r) = p (ix3 b r ⟨1024 + k, by omega⟩)) : mulE lo hi pl ph = sketch e p := by
  funext i
  obtain ⟨b, s, r, rfl⟩ : ∃ (b : Fin 2) (s : Fin 16384) (r : Fin 192), i = ix3 b s r := ⟨i 0, i 1, i 2, funext fun a => by fin_cases a <;> rfl⟩
  rw [mulE_apply]
  show _ = yAt e p b r s
  unfold yAt
  refine congr (congrArg _ (Finset.sum_congr rfl fun a _ => ?_)) (Finset.sum_congr rfl fun a _ => ?_)
  · rw [hpl, he.hlo]; exact mul_comm (G := EReal) _ _
  · rw [hph, he.hhi]; exact mul_comm (G := EReal) _ _

theorem mulEt_lo (b : Fin 2) (k : Fin 1024) (r : Fin 192) : mulEt lo (cut16 (sketch e p)) (ix3 b k r) = pass e p (ix3 b r ⟨k, by omega⟩) := by
  rw [cut16_eq, mulEt_apply]
  show _ = qAt e p b r _
  unfold qAt
  refine Finset.sum_congr rfl fun s _ => ?_
  rw [he.hlo]; exact mul_comm (G := EReal) _ _

theorem mulEt_hi (b : Fin 2) (k : Fin 1024) (r : Fin 192) : mulEt hi (cut16 (sketch e p)) (ix3 b k r) = pass e p (ix3 b r ⟨1024 + k, by omega⟩) := by
  rw [cut16_eq, mulEt_apply]
  show _ = qAt e p b r _
  unfold qAt
  refine Finset.sum_congr rfl fun s _ => ?_
  rw [he.hhi]; exact mul_comm (G := EReal) _ _

/-- One step of the power iteration. -/
theorem nextY_eq : nextY lo hi (sketch e p) = sketch e (pass e p) := by
  unfold nextY
  rw [cut10_eq, cut10_eq]
  exact mulE_eq he (pass e p) _ _ (mulEt_lo he p) (mulEt_hi he p)

/-- The results `y0` agree. -/
theorem y0_eq (o : Vec Ideal S2x2048x192 .bf16) : refY0 lo hi o = sketch e (omegaT o) := by
  unfold refY0
  refine mulE_eq he (omegaT o) _ _ (fun b k r => (p0Lo_apply o b k r).trans ?_) (fun b k r => (p0Hi_apply o b k r).trans ?_)
  · show _ = o (ix3 b ⟨2 * (k.val % 1024) + k.val / 1024, by omega⟩ r)
    refine congrArg (fun x => o (ix3 b x r)) (Fin.ext ?_)
    simp only
    omega
  · show _ = o (ix3 b ⟨2 * ((1024 + k.val) % 1024) + (1024 + k.val) / 1024, by omega⟩ r)
    refine congrArg (fun x => o (ix3 b x r)) (Fin.ext ?_)
    simp only
    omega

/-- The results `y` agree. -/
theorem y_eq (o : Vec Ideal S2x2048x192 .bf16) : refY lo hi o = sketch e (pass e (pass e (omegaT o))) := by
  unfold refY
  rw [y0_eq he, nextY_eq he, nextY_eq he]

omit he

/-- Two arrays over the columns that agree at the even and at the odd ones are equal. -/
theorem ext_pairs (x y : Vec Ideal S2x2048x192 .f32)
    (he : ∀ (b : Fin 2) (k : Fin 1024) (r : Fin 192), x (ix3 b ⟨2 * k, by omega⟩ r) = y (ix3 b ⟨2 * k, by omega⟩ r))
    (ho : ∀ (b : Fin 2) (k : Fin 1024) (r : Fin 192), x (ix3 b ⟨2 * k + 1, by omega⟩ r) = y (ix3 b ⟨2 * k + 1, by omega⟩ r)) : x = y := by
  have key : ∀ (b : Fin 2) (k : Fin 2048) (r : Fin 192), x (ix3 b k r) = y (ix3 b k r) := by
    intro b k r
    rcases Nat.mod_two_eq_zero_or_one k.val with h | h
    · have hk : k = ⟨2 * (⟨k.val / 2, by omega⟩ : Fin 1024).val, by simp only; omega⟩ := Fin.ext (by simp only; omega)
      rw [hk]; exact he b _ r
    · have hk : k = ⟨2 * (⟨k.val / 2, by omega⟩ : Fin 1024).val + 1, by simp only; omega⟩ := Fin.ext (by simp only; omega)
      rw [hk]; exact ho b _ r
  funext i
  have hi : i = ix3 (i 0) (i 1) (i 2) := by funext a; fin_cases a <;> rfl
  rw [hi]; exact key _ _ _

/-- Two halves paired again are the projection interleaved and transposed, whenever the halves hold its entries. -/
theorem pairs_eq (Z : Vec Ideal Cert.KernelIdeal.S2x192x2048 .f32) (lo hi : Vec Ideal S2x1024x192 .f32)
    (hlo : ∀ (b : Fin 2) (k : Fin 1024) (r : Fin 192), lo (ix3 b k r) = Z (ix3 b r ⟨k, by omega⟩))
    (hhi : ∀ (b : Fin 2) (k : Fin 1024) (r : Fin 192), hi (ix3 b k r) = Z (ix3 b r ⟨1024 + k, by omega⟩)) :
    pair lo hi = Cert.KernelIdeal.Run.flip (Cert.KernelIdeal.Run.join Z) := by
  refine ext_pairs _ _ (fun b k r => ?_) (fun b k r => ?_)
  · have h1 := pair_even lo hi b k r
    have h2 := Cert.KernelIdeal.Run.flip_apply (Cert.KernelIdeal.Run.join Z) b ⟨2 * k, by omega⟩ r
    have h3 := Cert.KernelIdeal.Run.join_even Z b k r
    exact h1.trans ((hlo b k r).trans (h2.trans h3).symm)
  · have h1 := pair_odd lo hi b k r
    have h2 := Cert.KernelIdeal.Run.flip_apply (Cert.KernelIdeal.Run.join Z) b ⟨2 * k + 1, by omega⟩ r
    have h3 := Cert.KernelIdeal.Run.join_odd Z b k r
    exact h1.trans ((hhi b k r).trans (h2.trans h3).symm)

/-- The results `z` agree. -/
theorem z_eq (he : Halves e lo hi) (o : Vec Ideal S2x2048x192 .bf16) :
    refZ lo hi o = Cert.KernelIdeal.Run.flip (Cert.KernelIdeal.Run.join (pass e (pass e (pass e (omegaT o))))) := by
  have hA := mulEt_lo he (pass e (pass e (omegaT o)))
  have hB := mulEt_hi he (pass e (pass e (omegaT o)))
  unfold refZ backZ
  rw [y_eq he]
  exact pairs_eq _ _ _ hA hB

/-- The value claim: both programs run and end with equal results, their arguments unchanged. -/
theorem algebraic [Cert.KernelIdeal.Facts] [Cert.ReferenceIdeal.Facts] : Cert.algebraic_KernelIdeal_ReferenceIdeal := by
  intro m g m' g' _ hm
  refine ⟨fun c => Cert.KernelIdeal.Run.outY m c, fun c => Cert.KernelIdeal.Run.outZ m c, fun c => Cert.KernelIdeal.Run.outY0 m c, Cert.KernelIdeal.Run.value m g, ?_⟩
  refine (θ_run _ _ _).mono (fun r h c => ?_) (Cert.ReferenceIdeal.Value.run' m' g')
  have he : Halves (Cert.KernelIdeal.Run.resE m c) (Cert.ReferenceIdeal.Value.lo m' c) (Cert.ReferenceIdeal.Value.hi m' c) := by
    unfold Cert.ReferenceIdeal.Value.lo Cert.ReferenceIdeal.Value.hi
    rw [(hm c).1, (hm c).2.1, (hm c).2.2.1, (hm c).2.2.2.1]
    exact resid_halves _ _ _ _
  refine ⟨(h c).1.trans ?_, (h c).2.1.trans ?_, (h c).2.2.1.trans ?_, (h c).2.2.2⟩
  · rw [(hm c).2.2.2.2]
    exact y_eq he _
  · rw [(hm c).2.2.2.2]
    exact z_eq he _
  · rw [(hm c).2.2.2.2]
    exact y0_eq he _

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends quiescent with its arguments unchanged: it has no semaphore at all. -/
theorem frame_reference : Cert.quiescent_ReferenceIdeal := fun m ρ _ =>
  (θ_run Cert.ReferenceIdeal.defs _ _).mono (fun r h => ⟨fun c => (h c).2.2.2,
    Idealize.ShloMosaic.sem_eq_zero_of_no_sems (by decide) r.2⟩) (Cert.ReferenceIdeal.Value.run m ρ)

/-- Every claim of the certificate. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ, frame_reference, trivial, @Cert.Equal.algebraic Cert.KernelIdeal.Gen.facts Cert.ReferenceIdeal.Gen.facts⟩

end Cert.Proof

end
